-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_DownHigh (m : (ℓ : Loc Cert.DownHigh.nD Cert.DownHigh.τ Cert.DownHigh.sig) → Buf (Elt Bits) ℓ) : Prop :=
  True

def Pre_DownHighIdeal (m : (ℓ : Loc Cert.DownHighIdeal.nD Cert.DownHighIdeal.τ Cert.DownHighIdeal.sig) → Buf (Elt Ideal) ℓ) : Prop :=
  True

def Pre_DownHighRefIdeal (m : (ℓ : Loc Cert.DownHighRefIdeal.nD Cert.DownHighRefIdeal.τ Cert.DownHighRefIdeal.sig) → Buf (Elt Ideal) ℓ) : Prop :=
  True

def Pre_DownLow (m : (ℓ : Loc Cert.DownLow.nD Cert.DownLow.τ Cert.DownLow.sig) → Buf (Elt Bits) ℓ) : Prop :=
  True

def Pre_DownLowIdeal (m : (ℓ : Loc Cert.DownLowIdeal.nD Cert.DownLowIdeal.τ Cert.DownLowIdeal.sig) → Buf (Elt Ideal) ℓ) : Prop :=
  True

def Pre_DownLowRefIdeal (m : (ℓ : Loc Cert.DownLowRefIdeal.nD Cert.DownLowRefIdeal.τ Cert.DownLowRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3))
      ∧ r.2.sem = fun _ => 0)

def quiescent_DownHigh [hDownHigh : Cert.DownHigh.Facts] : Prop :=
  ∀ (m : (ℓ : Loc Cert.DownHigh.nD Cert.DownHigh.τ Cert.DownHigh.sig) → Buf (Elt Bits) ℓ) (g : Dev Cert.DownHigh.nD → PrngReg), Pre_DownHigh m →
    θ_run (Cert.DownHigh.defs (F := Bits)) (onTc (τ := Cert.DownHigh.τ) (Cert.DownHigh.main (F := Bits))) ⟨m, fun _ => 0, g⟩ (fun r => (∀ c : Dev Cert.DownHigh.nD,
      r.2.mem ((c.tc : Thread Cert.DownHigh.nD Cert.DownHigh.τ).loc Cert.DownHigh.main_arg0) = m ((c.tc : Thread Cert.DownHigh.nD Cert.DownHigh.τ).loc Cert.DownHigh.main_arg0)
      ∧ r.2.mem ((c.tc : Thread Cert.DownHigh.nD Cert.DownHigh.τ).loc Cert.DownHigh.main_arg1) = m ((c.tc : Thread Cert.DownHigh.nD Cert.DownHigh.τ).loc Cert.DownHigh.main_arg1)
      ∧ r.2.mem ((c.tc : Thread Cert.DownHigh.nD Cert.DownHigh.τ).loc Cert.DownHigh.main_arg2) = m ((c.tc : Thread Cert.DownHigh.nD Cert.DownHigh.τ).loc Cert.DownHigh.main_arg2)
      ∧ r.2.mem ((c.tc : Thread Cert.DownHigh.nD Cert.DownHigh.τ).loc Cert.DownHigh.main_arg3) = m ((c.tc : Thread Cert.DownHigh.nD Cert.DownHigh.τ).loc Cert.DownHigh.main_arg3)
      ∧ r.2.mem ((c.tc : Thread Cert.DownHigh.nD Cert.DownHigh.τ).loc Cert.DownHigh.main_arg4) = m ((c.tc : Thread Cert.DownHigh.nD Cert.DownHigh.τ).loc Cert.DownHigh.main_arg4)
      ∧ r.2.mem ((c.tc : Thread Cert.DownHigh.nD Cert.DownHigh.τ).loc Cert.DownHigh.main_arg5) = m ((c.tc : Thread Cert.DownHigh.nD Cert.DownHigh.τ).loc Cert.DownHigh.main_arg5))
      ∧ r.2.sem = fun _ => 0)

def quiescent_DownHighIdeal [hDownHighIdeal : Cert.DownHighIdeal.Facts] : Prop :=
  ∀ (m : (ℓ : Loc Cert.DownHighIdeal.nD Cert.DownHighIdeal.τ Cert.DownHighIdeal.sig) → Buf (Elt Ideal) ℓ) (g : Dev Cert.DownHighIdeal.nD → PrngReg), Pre_DownHighIdeal m →
    θ_run (Cert.DownHighIdeal.defs (F := Ideal)) (onTc (τ := Cert.DownHighIdeal.τ) (Cert.DownHighIdeal.main (F := Ideal))) ⟨m, fun _ => 0, g⟩ (fun r => (∀ c : Dev Cert.DownHighIdeal.nD,
      r.2.mem ((c.tc : Thread Cert.DownHighIdeal.nD Cert.DownHighIdeal.τ).loc Cert.DownHighIdeal.main_arg0) = m ((c.tc : Thread Cert.DownHighIdeal.nD Cert.DownHighIdeal.τ).loc Cert.DownHighIdeal.main_arg0)
      ∧ r.2.mem ((c.tc : Thread Cert.DownHighIdeal.nD Cert.DownHighIdeal.τ).loc Cert.DownHighIdeal.main_arg1) = m ((c.tc : Thread Cert.DownHighIdeal.nD Cert.DownHighIdeal.τ).loc Cert.DownHighIdeal.main_arg1)
      ∧ r.2.mem ((c.tc : Thread Cert.DownHighIdeal.nD Cert.DownHighIdeal.τ).loc Cert.DownHighIdeal.main_arg2) = m ((c.tc : Thread Cert.DownHighIdeal.nD Cert.DownHighIdeal.τ).loc Cert.DownHighIdeal.main_arg2)
      ∧ r.2.mem ((c.tc : Thread Cert.DownHighIdeal.nD Cert.DownHighIdeal.τ).loc Cert.DownHighIdeal.main_arg3) = m ((c.tc : Thread Cert.DownHighIdeal.nD Cert.DownHighIdeal.τ).loc Cert.DownHighIdeal.main_arg3)
      ∧ r.2.mem ((c.tc : Thread Cert.DownHighIdeal.nD Cert.DownHighIdeal.τ).loc Cert.DownHighIdeal.main_arg4) = m ((c.tc : Thread Cert.DownHighIdeal.nD Cert.DownHighIdeal.τ).loc Cert.DownHighIdeal.main_arg4)
      ∧ r.2.mem ((c.tc : Thread Cert.DownHighIdeal.nD Cert.DownHighIdeal.τ).loc Cert.DownHighIdeal.main_arg5) = m ((c.tc : Thread Cert.DownHighIdeal.nD Cert.DownHighIdeal.τ).loc Cert.DownHighIdeal.main_arg5))
      ∧ r.2.sem = fun _ => 0)

def quiescent_DownHighRefIdeal [hDownHighRefIdeal : Cert.DownHighRefIdeal.Facts] : Prop :=
  ∀ (m : (ℓ : Loc Cert.DownHighRefIdeal.nD Cert.DownHighRefIdeal.τ Cert.DownHighRefIdeal.sig) → Buf (Elt Ideal) ℓ) (g : Dev Cert.DownHighRefIdeal.nD → PrngReg), Pre_DownHighRefIdeal m →
    θ_run (Cert.DownHighRefIdeal.defs (F := Ideal)) (onTc (τ := Cert.DownHighRefIdeal.τ) (Cert.DownHighRefIdeal.main (F := Ideal))) ⟨m, fun _ => 0, g⟩ (fun r => (∀ c : Dev Cert.DownHighRefIdeal.nD,
      r.2.mem ((c.tc : Thread Cert.DownHighRefIdeal.nD Cert.DownHighRefIdeal.τ).loc Cert.DownHighRefIdeal.main_arg0) = m ((c.tc : Thread Cert.DownHighRefIdeal.nD Cert.DownHighRefIdeal.τ).loc Cert.DownHighRefIdeal.main_arg0)
      ∧ r.2.mem ((c.tc : Thread Cert.DownHighRefIdeal.nD Cert.DownHighRefIdeal.τ).loc Cert.DownHighRefIdeal.main_arg1) = m ((c.tc : Thread Cert.DownHighRefIdeal.nD Cert.DownHighRefIdeal.τ).loc Cert.DownHighRefIdeal.main_arg1)
      ∧ r.2.mem ((c.tc : Thread Cert.DownHighRefIdeal.nD Cert.DownHighRefIdeal.τ).loc Cert.DownHighRefIdeal.main_arg2) = m ((c.tc : Thread Cert.DownHighRefIdeal.nD Cert.DownHighRefIdeal.τ).loc Cert.DownHighRefIdeal.main_arg2)
      ∧ r.2.mem ((c.tc : Thread Cert.DownHighRefIdeal.nD Cert.DownHighRefIdeal.τ).loc Cert.DownHighRefIdeal.main_arg3) = m ((c.tc : Thread Cert.DownHighRefIdeal.nD Cert.DownHighRefIdeal.τ).loc Cert.DownHighRefIdeal.main_arg3)
      ∧ r.2.mem ((c.tc : Thread Cert.DownHighRefIdeal.nD Cert.DownHighRefIdeal.τ).loc Cert.DownHighRefIdeal.main_arg4) = m ((c.tc : Thread Cert.DownHighRefIdeal.nD Cert.DownHighRefIdeal.τ).loc Cert.DownHighRefIdeal.main_arg4)
      ∧ r.2.mem ((c.tc : Thread Cert.DownHighRefIdeal.nD Cert.DownHighRefIdeal.τ).loc Cert.DownHighRefIdeal.main_arg5) = m ((c.tc : Thread Cert.DownHighRefIdeal.nD Cert.DownHighRefIdeal.τ).loc Cert.DownHighRefIdeal.main_arg5))
      ∧ r.2.sem = fun _ => 0)

def quiescent_DownLow [hDownLow : Cert.DownLow.Facts] : Prop :=
  ∀ (m : (ℓ : Loc Cert.DownLow.nD Cert.DownLow.τ Cert.DownLow.sig) → Buf (Elt Bits) ℓ) (g : Dev Cert.DownLow.nD → PrngReg), Pre_DownLow m →
    θ_run (Cert.DownLow.defs (F := Bits)) (onTc (τ := Cert.DownLow.τ) (Cert.DownLow.main (F := Bits))) ⟨m, fun _ => 0, g⟩ (fun r => (∀ c : Dev Cert.DownLow.nD,
      r.2.mem ((c.tc : Thread Cert.DownLow.nD Cert.DownLow.τ).loc Cert.DownLow.main_arg0) = m ((c.tc : Thread Cert.DownLow.nD Cert.DownLow.τ).loc Cert.DownLow.main_arg0)
      ∧ r.2.mem ((c.tc : Thread Cert.DownLow.nD Cert.DownLow.τ).loc Cert.DownLow.main_arg1) = m ((c.tc : Thread Cert.DownLow.nD Cert.DownLow.τ).loc Cert.DownLow.main_arg1)
      ∧ r.2.mem ((c.tc : Thread Cert.DownLow.nD Cert.DownLow.τ).loc Cert.DownLow.main_arg2) = m ((c.tc : Thread Cert.DownLow.nD Cert.DownLow.τ).loc Cert.DownLow.main_arg2)
      ∧ r.2.mem ((c.tc : Thread Cert.DownLow.nD Cert.DownLow.τ).loc Cert.DownLow.main_arg3) = m ((c.tc : Thread Cert.DownLow.nD Cert.DownLow.τ).loc Cert.DownLow.main_arg3))
      ∧ r.2.sem = fun _ => 0)

def quiescent_DownLowIdeal [hDownLowIdeal : Cert.DownLowIdeal.Facts] : Prop :=
  ∀ (m : (ℓ : Loc Cert.DownLowIdeal.nD Cert.DownLowIdeal.τ Cert.DownLowIdeal.sig) → Buf (Elt Ideal) ℓ) (g : Dev Cert.DownLowIdeal.nD → PrngReg), Pre_DownLowIdeal m →
    θ_run (Cert.DownLowIdeal.defs (F := Ideal)) (onTc (τ := Cert.DownLowIdeal.τ) (Cert.DownLowIdeal.main (F := Ideal))) ⟨m, fun _ => 0, g⟩ (fun r => (∀ c : Dev Cert.DownLowIdeal.nD,
      r.2.mem ((c.tc : Thread Cert.DownLowIdeal.nD Cert.DownLowIdeal.τ).loc Cert.DownLowIdeal.main_arg0) = m ((c.tc : Thread Cert.DownLowIdeal.nD Cert.DownLowIdeal.τ).loc Cert.DownLowIdeal.main_arg0)
      ∧ r.2.mem ((c.tc : Thread Cert.DownLowIdeal.nD Cert.DownLowIdeal.τ).loc Cert.DownLowIdeal.main_arg1) = m ((c.tc : Thread Cert.DownLowIdeal.nD Cert.DownLowIdeal.τ).loc Cert.DownLowIdeal.main_arg1)
      ∧ r.2.mem ((c.tc : Thread Cert.DownLowIdeal.nD Cert.DownLowIdeal.τ).loc Cert.DownLowIdeal.main_arg2) = m ((c.tc : Thread Cert.DownLowIdeal.nD Cert.DownLowIdeal.τ).loc Cert.DownLowIdeal.main_arg2)
      ∧ r.2.mem ((c.tc : Thread Cert.DownLowIdeal.nD Cert.DownLowIdeal.τ).loc Cert.DownLowIdeal.main_arg3) = m ((c.tc : Thread Cert.DownLowIdeal.nD Cert.DownLowIdeal.τ).loc Cert.DownLowIdeal.main_arg3))
      ∧ r.2.sem = fun _ => 0)

def quiescent_DownLowRefIdeal [hDownLowRefIdeal : Cert.DownLowRefIdeal.Facts] : Prop :=
  ∀ (m : (ℓ : Loc Cert.DownLowRefIdeal.nD Cert.DownLowRefIdeal.τ Cert.DownLowRefIdeal.sig) → Buf (Elt Ideal) ℓ) (g : Dev Cert.DownLowRefIdeal.nD → PrngReg), Pre_DownLowRefIdeal m →
    θ_run (Cert.DownLowRefIdeal.defs (F := Ideal)) (onTc (τ := Cert.DownLowRefIdeal.τ) (Cert.DownLowRefIdeal.main (F := Ideal))) ⟨m, fun _ => 0, g⟩ (fun r => (∀ c : Dev Cert.DownLowRefIdeal.nD,
      r.2.mem ((c.tc : Thread Cert.DownLowRefIdeal.nD Cert.DownLowRefIdeal.τ).loc Cert.DownLowRefIdeal.main_arg0) = m ((c.tc : Thread Cert.DownLowRefIdeal.nD Cert.DownLowRefIdeal.τ).loc Cert.DownLowRefIdeal.main_arg0)
      ∧ r.2.mem ((c.tc : Thread Cert.DownLowRefIdeal.nD Cert.DownLowRefIdeal.τ).loc Cert.DownLowRefIdeal.main_arg1) = m ((c.tc : Thread Cert.DownLowRefIdeal.nD Cert.DownLowRefIdeal.τ).loc Cert.DownLowRefIdeal.main_arg1)
      ∧ r.2.mem ((c.tc : Thread Cert.DownLowRefIdeal.nD Cert.DownLowRefIdeal.τ).loc Cert.DownLowRefIdeal.main_arg2) = m ((c.tc : Thread Cert.DownLowRefIdeal.nD Cert.DownLowRefIdeal.τ).loc Cert.DownLowRefIdeal.main_arg2)
      ∧ r.2.mem ((c.tc : Thread Cert.DownLowRefIdeal.nD Cert.DownLowRefIdeal.τ).loc Cert.DownLowRefIdeal.main_arg3) = m ((c.tc : Thread Cert.DownLowRefIdeal.nD Cert.DownLowRefIdeal.τ).loc Cert.DownLowRefIdeal.main_arg3))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v53) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3))

def preserves_DownHigh_DownHighIdeal : Prop :=
  True

def algebraic_DownHighIdeal_DownHighRefIdeal [hDownHighIdeal : Cert.DownHighIdeal.Facts] [hDownHighRefIdeal : Cert.DownHighRefIdeal.Facts] : Prop :=
  ∀ (m : (ℓ : Loc Cert.DownHighIdeal.nD Cert.DownHighIdeal.τ Cert.DownHighIdeal.sig) → Buf (Elt Ideal) ℓ) (g : Dev Cert.DownHighIdeal.nD → PrngReg)
    (m' : (ℓ : Loc Cert.DownHighRefIdeal.nD Cert.DownHighRefIdeal.τ Cert.DownHighRefIdeal.sig) → Buf (Elt Ideal) ℓ) (g' : Dev Cert.DownHighRefIdeal.nD → PrngReg), Pre_DownHighIdeal m →
    (∀ c : Dev Cert.DownHighIdeal.nD,
      m' ((c.tc : Thread Cert.DownHighRefIdeal.nD Cert.DownHighRefIdeal.τ).loc Cert.DownHighRefIdeal.main_arg0) = m ((c.tc : Thread Cert.DownHighIdeal.nD Cert.DownHighIdeal.τ).loc Cert.DownHighIdeal.main_arg0)
      ∧ m' ((c.tc : Thread Cert.DownHighRefIdeal.nD Cert.DownHighRefIdeal.τ).loc Cert.DownHighRefIdeal.main_arg1) = m ((c.tc : Thread Cert.DownHighIdeal.nD Cert.DownHighIdeal.τ).loc Cert.DownHighIdeal.main_arg1)
      ∧ m' ((c.tc : Thread Cert.DownHighRefIdeal.nD Cert.DownHighRefIdeal.τ).loc Cert.DownHighRefIdeal.main_arg2) = m ((c.tc : Thread Cert.DownHighIdeal.nD Cert.DownHighIdeal.τ).loc Cert.DownHighIdeal.main_arg2)
      ∧ m' ((c.tc : Thread Cert.DownHighRefIdeal.nD Cert.DownHighRefIdeal.τ).loc Cert.DownHighRefIdeal.main_arg3) = m ((c.tc : Thread Cert.DownHighIdeal.nD Cert.DownHighIdeal.τ).loc Cert.DownHighIdeal.main_arg3)
      ∧ m' ((c.tc : Thread Cert.DownHighRefIdeal.nD Cert.DownHighRefIdeal.τ).loc Cert.DownHighRefIdeal.main_arg4) = m ((c.tc : Thread Cert.DownHighIdeal.nD Cert.DownHighIdeal.τ).loc Cert.DownHighIdeal.main_arg4)
      ∧ m' ((c.tc : Thread Cert.DownHighRefIdeal.nD Cert.DownHighRefIdeal.τ).loc Cert.DownHighRefIdeal.main_arg5) = m ((c.tc : Thread Cert.DownHighIdeal.nD Cert.DownHighIdeal.τ).loc Cert.DownHighIdeal.main_arg5)) →
    ∃ (v0 : (c : Dev Cert.DownHighIdeal.nD) → Buf (Elt Ideal) ((c.tc : Thread Cert.DownHighIdeal.nD Cert.DownHighIdeal.τ).loc Cert.DownHighIdeal.main_v0)),
      θ_run (Cert.DownHighIdeal.defs (F := Ideal)) (onTc (τ := Cert.DownHighIdeal.τ) (Cert.DownHighIdeal.main (F := Ideal))) ⟨m, fun _ => 0, g⟩ (fun r => ∀ c : Dev Cert.DownHighIdeal.nD,
          r.2.mem ((c.tc : Thread Cert.DownHighIdeal.nD Cert.DownHighIdeal.τ).loc Cert.DownHighIdeal.main_v0) = v0 c
          ∧ r.2.mem ((c.tc : Thread Cert.DownHighIdeal.nD Cert.DownHighIdeal.τ).loc Cert.DownHighIdeal.main_arg0) = m ((c.tc : Thread Cert.DownHighIdeal.nD Cert.DownHighIdeal.τ).loc Cert.DownHighIdeal.main_arg0)
          ∧ r.2.mem ((c.tc : Thread Cert.DownHighIdeal.nD Cert.DownHighIdeal.τ).loc Cert.DownHighIdeal.main_arg1) = m ((c.tc : Thread Cert.DownHighIdeal.nD Cert.DownHighIdeal.τ).loc Cert.DownHighIdeal.main_arg1)
          ∧ r.2.mem ((c.tc : Thread Cert.DownHighIdeal.nD Cert.DownHighIdeal.τ).loc Cert.DownHighIdeal.main_arg2) = m ((c.tc : Thread Cert.DownHighIdeal.nD Cert.DownHighIdeal.τ).loc Cert.DownHighIdeal.main_arg2)
          ∧ r.2.mem ((c.tc : Thread Cert.DownHighIdeal.nD Cert.DownHighIdeal.τ).loc Cert.DownHighIdeal.main_arg3) = m ((c.tc : Thread Cert.DownHighIdeal.nD Cert.DownHighIdeal.τ).loc Cert.DownHighIdeal.main_arg3)
          ∧ r.2.mem ((c.tc : Thread Cert.DownHighIdeal.nD Cert.DownHighIdeal.τ).loc Cert.DownHighIdeal.main_arg4) = m ((c.tc : Thread Cert.DownHighIdeal.nD Cert.DownHighIdeal.τ).loc Cert.DownHighIdeal.main_arg4)
          ∧ r.2.mem ((c.tc : Thread Cert.DownHighIdeal.nD Cert.DownHighIdeal.τ).loc Cert.DownHighIdeal.main_arg5) = m ((c.tc : Thread Cert.DownHighIdeal.nD Cert.DownHighIdeal.τ).loc Cert.DownHighIdeal.main_arg5))
      ∧ θ_run (Cert.DownHighRefIdeal.defs (F := Ideal)) (onTc (τ := Cert.DownHighRefIdeal.τ) (Cert.DownHighRefIdeal.main (F := Ideal))) ⟨m', fun _ => 0, g'⟩ (fun r => ∀ c : Dev Cert.DownHighRefIdeal.nD,
          r.2.mem ((c.tc : Thread Cert.DownHighRefIdeal.nD Cert.DownHighRefIdeal.τ).loc Cert.DownHighRefIdeal.main_v32) = v0 c
          ∧ r.2.mem ((c.tc : Thread Cert.DownHighRefIdeal.nD Cert.DownHighRefIdeal.τ).loc Cert.DownHighRefIdeal.main_arg0) = m' ((c.tc : Thread Cert.DownHighRefIdeal.nD Cert.DownHighRefIdeal.τ).loc Cert.DownHighRefIdeal.main_arg0)
          ∧ r.2.mem ((c.tc : Thread Cert.DownHighRefIdeal.nD Cert.DownHighRefIdeal.τ).loc Cert.DownHighRefIdeal.main_arg1) = m' ((c.tc : Thread Cert.DownHighRefIdeal.nD Cert.DownHighRefIdeal.τ).loc Cert.DownHighRefIdeal.main_arg1)
          ∧ r.2.mem ((c.tc : Thread Cert.DownHighRefIdeal.nD Cert.DownHighRefIdeal.τ).loc Cert.DownHighRefIdeal.main_arg2) = m' ((c.tc : Thread Cert.DownHighRefIdeal.nD Cert.DownHighRefIdeal.τ).loc Cert.DownHighRefIdeal.main_arg2)
          ∧ r.2.mem ((c.tc : Thread Cert.DownHighRefIdeal.nD Cert.DownHighRefIdeal.τ).loc Cert.DownHighRefIdeal.main_arg3) = m' ((c.tc : Thread Cert.DownHighRefIdeal.nD Cert.DownHighRefIdeal.τ).loc Cert.DownHighRefIdeal.main_arg3)
          ∧ r.2.mem ((c.tc : Thread Cert.DownHighRefIdeal.nD Cert.DownHighRefIdeal.τ).loc Cert.DownHighRefIdeal.main_arg4) = m' ((c.tc : Thread Cert.DownHighRefIdeal.nD Cert.DownHighRefIdeal.τ).loc Cert.DownHighRefIdeal.main_arg4)
          ∧ r.2.mem ((c.tc : Thread Cert.DownHighRefIdeal.nD Cert.DownHighRefIdeal.τ).loc Cert.DownHighRefIdeal.main_arg5) = m' ((c.tc : Thread Cert.DownHighRefIdeal.nD Cert.DownHighRefIdeal.τ).loc Cert.DownHighRefIdeal.main_arg5))

def preserves_DownLow_DownLowIdeal : Prop :=
  True

def algebraic_DownLowIdeal_DownLowRefIdeal_on_down_low_written [hDownLowIdeal : Cert.DownLowIdeal.Facts] [hDownLowRefIdeal : Cert.DownLowRefIdeal.Facts] [hOn_down_low_written : Cert.On_down_low_written.Facts] : Prop :=
  ∀ (m : (ℓ : Loc Cert.DownLowIdeal.nD Cert.DownLowIdeal.τ Cert.DownLowIdeal.sig) → Buf (Elt Ideal) ℓ) (g : Dev Cert.DownLowIdeal.nD → PrngReg)
    (m' : (ℓ : Loc Cert.DownLowRefIdeal.nD Cert.DownLowRefIdeal.τ Cert.DownLowRefIdeal.sig) → Buf (Elt Ideal) ℓ) (g' : Dev Cert.DownLowRefIdeal.nD → PrngReg), Pre_DownLowIdeal m →
    (∀ c : Dev Cert.DownLowIdeal.nD,
      m' ((c.tc : Thread Cert.DownLowRefIdeal.nD Cert.DownLowRefIdeal.τ).loc Cert.DownLowRefIdeal.main_arg0) = m ((c.tc : Thread Cert.DownLowIdeal.nD Cert.DownLowIdeal.τ).loc Cert.DownLowIdeal.main_arg0)
      ∧ m' ((c.tc : Thread Cert.DownLowRefIdeal.nD Cert.DownLowRefIdeal.τ).loc Cert.DownLowRefIdeal.main_arg1) = m ((c.tc : Thread Cert.DownLowIdeal.nD Cert.DownLowIdeal.τ).loc Cert.DownLowIdeal.main_arg1)
      ∧ m' ((c.tc : Thread Cert.DownLowRefIdeal.nD Cert.DownLowRefIdeal.τ).loc Cert.DownLowRefIdeal.main_arg2) = m ((c.tc : Thread Cert.DownLowIdeal.nD Cert.DownLowIdeal.τ).loc Cert.DownLowIdeal.main_arg2)
      ∧ m' ((c.tc : Thread Cert.DownLowRefIdeal.nD Cert.DownLowRefIdeal.τ).loc Cert.DownLowRefIdeal.main_arg3) = m ((c.tc : Thread Cert.DownLowIdeal.nD Cert.DownLowIdeal.τ).loc Cert.DownLowIdeal.main_arg3)) →
    ∃ (v0 : (c : Dev Cert.DownLowIdeal.nD) → Buf (Elt Ideal) ((c.tc : Thread Cert.DownLowIdeal.nD Cert.DownLowIdeal.τ).loc Cert.DownLowIdeal.main_v0_0)) (v1 : (c : Dev Cert.DownLowIdeal.nD) → Buf (Elt Ideal) ((c.tc : Thread Cert.DownLowIdeal.nD Cert.DownLowIdeal.τ).loc Cert.DownLowIdeal.main_v0_1)) (v2 : (c : Dev Cert.DownLowIdeal.nD) → Buf (Elt Ideal) ((c.tc : Thread Cert.DownLowIdeal.nD Cert.DownLowIdeal.τ).loc Cert.DownLowIdeal.main_v0_2)),
      θ_run (Cert.DownLowIdeal.defs (F := Ideal)) (onTc (τ := Cert.DownLowIdeal.τ) (Cert.DownLowIdeal.main (F := Ideal))) ⟨m, fun _ => 0, g⟩ (fun r => ∀ c : Dev Cert.DownLowIdeal.nD,
          (∀ i : (⟨2, ![12288, 8192]⟩ : Shape).Idx, (Cert.On_down_low_written.fn (F := Ideal) (m ((c.tc : Thread Cert.DownLowIdeal.nD Cert.DownLowIdeal.τ).loc Cert.DownLowIdeal.main_arg0)) (m ((c.tc : Thread Cert.DownLowIdeal.nD Cert.DownLowIdeal.τ).loc Cert.DownLowIdeal.main_arg1)) (m ((c.tc : Thread Cert.DownLowIdeal.nD Cert.DownLowIdeal.τ).loc Cert.DownLowIdeal.main_arg2)) (m ((c.tc : Thread Cert.DownLowIdeal.nD Cert.DownLowIdeal.τ).loc Cert.DownLowIdeal.main_arg3))).1 i = 1#1 → r.2.mem ((c.tc : Thread Cert.DownLowIdeal.nD Cert.DownLowIdeal.τ).loc Cert.DownLowIdeal.main_v0_0) i = v0 c i)
          ∧ (∀ i : (⟨2, ![12288, 128]⟩ : Shape).Idx, (Cert.On_down_low_written.fn (F := Ideal) (m ((c.tc : Thread Cert.DownLowIdeal.nD Cert.DownLowIdeal.τ).loc Cert.DownLowIdeal.main_arg0)) (m ((c.tc : Thread Cert.DownLowIdeal.nD Cert.DownLowIdeal.τ).loc Cert.DownLowIdeal.main_arg1)) (m ((c.tc : Thread Cert.DownLowIdeal.nD Cert.DownLowIdeal.τ).loc Cert.DownLowIdeal.main_arg2)) (m ((c.tc : Thread Cert.DownLowIdeal.nD Cert.DownLowIdeal.τ).loc Cert.DownLowIdeal.main_arg3))).2.1 i = 1#1 → r.2.mem ((c.tc : Thread Cert.DownLowIdeal.nD Cert.DownLowIdeal.τ).loc Cert.DownLowIdeal.main_v0_1) i = v1 c i)
          ∧ (∀ i : (⟨2, ![12288, 3072]⟩ : Shape).Idx, (Cert.On_down_low_written.fn (F := Ideal) (m ((c.tc : Thread Cert.DownLowIdeal.nD Cert.DownLowIdeal.τ).loc Cert.DownLowIdeal.main_arg0)) (m ((c.tc : Thread Cert.DownLowIdeal.nD Cert.DownLowIdeal.τ).loc Cert.DownLowIdeal.main_arg1)) (m ((c.tc : Thread Cert.DownLowIdeal.nD Cert.DownLowIdeal.τ).loc Cert.DownLowIdeal.main_arg2)) (m ((c.tc : Thread Cert.DownLowIdeal.nD Cert.DownLowIdeal.τ).loc Cert.DownLowIdeal.main_arg3))).2.2 i = 1#1 → r.2.mem ((c.tc : Thread Cert.DownLowIdeal.nD Cert.DownLowIdeal.τ).loc Cert.DownLowIdeal.main_v0_2) i = v2 c i)
          ∧ r.2.mem ((c.tc : Thread Cert.DownLowIdeal.nD Cert.DownLowIdeal.τ).loc Cert.DownLowIdeal.main_arg0) = m ((c.tc : Thread Cert.DownLowIdeal.nD Cert.DownLowIdeal.τ).loc Cert.DownLowIdeal.main_arg0)
          ∧ r.2.mem ((c.tc : Thread Cert.DownLowIdeal.nD Cert.DownLowIdeal.τ).loc Cert.DownLowIdeal.main_arg1) = m ((c.tc : Thread Cert.DownLowIdeal.nD Cert.DownLowIdeal.τ).loc Cert.DownLowIdeal.main_arg1)
          ∧ r.2.mem ((c.tc : Thread Cert.DownLowIdeal.nD Cert.DownLowIdeal.τ).loc Cert.DownLowIdeal.main_arg2) = m ((c.tc : Thread Cert.DownLowIdeal.nD Cert.DownLowIdeal.τ).loc Cert.DownLowIdeal.main_arg2)
          ∧ r.2.mem ((c.tc : Thread Cert.DownLowIdeal.nD Cert.DownLowIdeal.τ).loc Cert.DownLowIdeal.main_arg3) = m ((c.tc : Thread Cert.DownLowIdeal.nD Cert.DownLowIdeal.τ).loc Cert.DownLowIdeal.main_arg3))
      ∧ θ_run (Cert.DownLowRefIdeal.defs (F := Ideal)) (onTc (τ := Cert.DownLowRefIdeal.τ) (Cert.DownLowRefIdeal.main (F := Ideal))) ⟨m', fun _ => 0, g'⟩ (fun r => ∀ c : Dev Cert.DownLowRefIdeal.nD,
          (∀ i : (⟨2, ![12288, 8192]⟩ : Shape).Idx, (Cert.On_down_low_written.fn (F := Ideal) (m ((c.tc : Thread Cert.DownLowIdeal.nD Cert.DownLowIdeal.τ).loc Cert.DownLowIdeal.main_arg0)) (m ((c.tc : Thread Cert.DownLowIdeal.nD Cert.DownLowIdeal.τ).loc Cert.DownLowIdeal.main_arg1)) (m ((c.tc : Thread Cert.DownLowIdeal.nD Cert.DownLowIdeal.τ).loc Cert.DownLowIdeal.main_arg2)) (m ((c.tc : Thread Cert.DownLowIdeal.nD Cert.DownLowIdeal.τ).loc Cert.DownLowIdeal.main_arg3))).1 i = 1#1 → r.2.mem ((c.tc : Thread Cert.DownLowRefIdeal.nD Cert.DownLowRefIdeal.τ).loc Cert.DownLowRefIdeal.main_v59) i = v0 c i)
          ∧ (∀ i : (⟨2, ![12288, 128]⟩ : Shape).Idx, (Cert.On_down_low_written.fn (F := Ideal) (m ((c.tc : Thread Cert.DownLowIdeal.nD Cert.DownLowIdeal.τ).loc Cert.DownLowIdeal.main_arg0)) (m ((c.tc : Thread Cert.DownLowIdeal.nD Cert.DownLowIdeal.τ).loc Cert.DownLowIdeal.main_arg1)) (m ((c.tc : Thread Cert.DownLowIdeal.nD Cert.DownLowIdeal.τ).loc Cert.DownLowIdeal.main_arg2)) (m ((c.tc : Thread Cert.DownLowIdeal.nD Cert.DownLowIdeal.τ).loc Cert.DownLowIdeal.main_arg3))).2.1 i = 1#1 → r.2.mem ((c.tc : Thread Cert.DownLowRefIdeal.nD Cert.DownLowRefIdeal.τ).loc Cert.DownLowRefIdeal.main_v33) i = v1 c i)
          ∧ (∀ i : (⟨2, ![12288, 3072]⟩ : Shape).Idx, (Cert.On_down_low_written.fn (F := Ideal) (m ((c.tc : Thread Cert.DownLowIdeal.nD Cert.DownLowIdeal.τ).loc Cert.DownLowIdeal.main_arg0)) (m ((c.tc : Thread Cert.DownLowIdeal.nD Cert.DownLowIdeal.τ).loc Cert.DownLowIdeal.main_arg1)) (m ((c.tc : Thread Cert.DownLowIdeal.nD Cert.DownLowIdeal.τ).loc Cert.DownLowIdeal.main_arg2)) (m ((c.tc : Thread Cert.DownLowIdeal.nD Cert.DownLowIdeal.τ).loc Cert.DownLowIdeal.main_arg3))).2.2 i = 1#1 → r.2.mem ((c.tc : Thread Cert.DownLowRefIdeal.nD Cert.DownLowRefIdeal.τ).loc Cert.DownLowRefIdeal.main_v61) i = v2 c i)
          ∧ r.2.mem ((c.tc : Thread Cert.DownLowRefIdeal.nD Cert.DownLowRefIdeal.τ).loc Cert.DownLowRefIdeal.main_arg0) = m' ((c.tc : Thread Cert.DownLowRefIdeal.nD Cert.DownLowRefIdeal.τ).loc Cert.DownLowRefIdeal.main_arg0)
          ∧ r.2.mem ((c.tc : Thread Cert.DownLowRefIdeal.nD Cert.DownLowRefIdeal.τ).loc Cert.DownLowRefIdeal.main_arg1) = m' ((c.tc : Thread Cert.DownLowRefIdeal.nD Cert.DownLowRefIdeal.τ).loc Cert.DownLowRefIdeal.main_arg1)
          ∧ r.2.mem ((c.tc : Thread Cert.DownLowRefIdeal.nD Cert.DownLowRefIdeal.τ).loc Cert.DownLowRefIdeal.main_arg2) = m' ((c.tc : Thread Cert.DownLowRefIdeal.nD Cert.DownLowRefIdeal.τ).loc Cert.DownLowRefIdeal.main_arg2)
          ∧ r.2.mem ((c.tc : Thread Cert.DownLowRefIdeal.nD Cert.DownLowRefIdeal.τ).loc Cert.DownLowRefIdeal.main_arg3) = m' ((c.tc : Thread Cert.DownLowRefIdeal.nD Cert.DownLowRefIdeal.τ).loc Cert.DownLowRefIdeal.main_arg3))

def Claim : Prop :=
  ∃ (hGateUp : Cert.GateUp.Facts) (hGateUpIdeal : Cert.GateUpIdeal.Facts) (hGateUpRefIdeal : Cert.GateUpRefIdeal.Facts) (hDownHigh : Cert.DownHigh.Facts) (hDownHighIdeal : Cert.DownHighIdeal.Facts) (hDownHighRefIdeal : Cert.DownHighRefIdeal.Facts) (hDownLow : Cert.DownLow.Facts) (hDownLowIdeal : Cert.DownLowIdeal.Facts) (hDownLowRefIdeal : Cert.DownLowRefIdeal.Facts) (hOn_down_low_written : Cert.On_down_low_written.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_DownHigh (hDownHigh := hDownHigh)
    ∧ quiescent_DownHighIdeal (hDownHighIdeal := hDownHighIdeal)
    ∧ quiescent_DownHighRefIdeal (hDownHighRefIdeal := hDownHighRefIdeal)
    ∧ quiescent_DownLow (hDownLow := hDownLow)
    ∧ quiescent_DownLowIdeal (hDownLowIdeal := hDownLowIdeal)
    ∧ quiescent_DownLowRefIdeal (hDownLowRefIdeal := hDownLowRefIdeal)
    ∧ preserves_GateUp_GateUpIdeal
    ∧ algebraic_GateUpIdeal_GateUpRefIdeal (hGateUpIdeal := hGateUpIdeal) (hGateUpRefIdeal := hGateUpRefIdeal)
    ∧ preserves_DownHigh_DownHighIdeal
    ∧ algebraic_DownHighIdeal_DownHighRefIdeal (hDownHighIdeal := hDownHighIdeal) (hDownHighRefIdeal := hDownHighRefIdeal)
    ∧ preserves_DownLow_DownLowIdeal
    ∧ algebraic_DownLowIdeal_DownLowRefIdeal_on_down_low_written (hDownLowIdeal := hDownLowIdeal) (hDownLowRefIdeal := hDownLowRefIdeal) (hOn_down_low_written := hOn_down_low_written)
-- ==== On_down_low_written.lean ====
abbrev S12288x8192 : Shape := ⟨2, ![12288, 8192]⟩
abbrev S12288x3072 : Shape := ⟨2, ![12288, 3072]⟩
abbrev S8192x1536 : Shape := ⟨2, ![8192, 1536]⟩
abbrev S256x3072 : Shape := ⟨2, ![256, 3072]⟩
abbrev S3072 : Shape := ⟨1, ![3072]⟩
abbrev S1x3072 : Shape := ⟨2, ![1, 3072]⟩
abbrev S_ : Shape := ⟨0, ![]⟩
abbrev S12288x128 : Shape := ⟨2, ![12288, 128]⟩

class Facts : Prop where
  bcast_S3072_S1x3072_1 : S3072.BroadcastsInDim S1x3072 (![1] : Fin 1 → Fin S1x3072.rank)
  bcast_S1x3072_S12288x3072_0_1 : S1x3072.BroadcastsInDim S12288x3072 (![0, 1] : Fin 2 → Fin S12288x3072.rank)
  bcast_S_S12288x8192 : S_.BroadcastsInDim S12288x8192 (![] : Fin 0 → Fin S12288x8192.rank)
  bcast_S_S12288x128 : S_.BroadcastsInDim S12288x128 (![] : Fin 0 → Fin S12288x128.rank)
  bcast_S_S12288x3072 : S_.BroadcastsInDim S12288x3072 (![] : Fin 0 → Fin S12288x3072.rank)

variable [Facts]

def fn {F : FTy → Type} [FloatOps F] (main_arg0 : FVec F S12288x8192 .f32) (main_arg1 : FVec F S12288x3072 .f32) (main_arg2 : IVec S8192x1536 8) (main_arg3 : FVec F S256x3072 .f32) : IVec S12288x8192 1 × IVec S12288x128 1 × IVec S12288x3072 1 :=
  let main_v0 : IVec S3072 32 := iotaInDim S3072 32 0
  let main_v1 : IVec S1x3072 32 := broadcastInDim S1x3072 ![1] bcast_S3072_S1x3072_1 main_v0
  let main_v2 : IVec S12288x3072 32 := broadcastInDim S12288x3072 ![0, 1] bcast_S1x3072_S12288x3072_0_1 main_v1
  let main_c : IVec S_ 1 := constantI S_ 1 1#1
  let main_v3 : IVec S12288x8192 1 := broadcastInDim S12288x8192 ![] bcast_S_S12288x8192 main_c
  let main_c_0 : IVec S_ 1 := constantI S_ 1 1#1
  let main_v4 : IVec S12288x128 1 := broadcastInDim S12288x128 ![] bcast_S_S12288x128 main_c_0
  let main_c_1 : IVec S_ 32 := constantI S_ 32 1536#32
  let main_v5 : IVec S12288x3072 32 := broadcastInDim S12288x3072 ![] bcast_S_S12288x3072 main_c_1
  let main_v6 : IVec S12288x3072 1 := cmpi .slt main_v2 main_v5
  (main_v3, main_v4, main_v6)
-- ==== GateUp.lean ====
abbrev S12288x3072 : Shape := ⟨2, ![12288, 3072]⟩
abbrev S12288x128 : Shape := ⟨2, ![12288, 128]⟩
abbrev S3072x8192 : Shape := ⟨2, ![3072, 8192]⟩
abbrev S96x16384 : Shape := ⟨2, ![96, 16384]⟩
abbrev S12288x8192 : Shape := ⟨2, ![12288, 8192]⟩
abbrev S1024x3072 : Shape := ⟨2, ![1024, 3072]⟩
abbrev S1024x128 : Shape := ⟨2, ![1024, 128]⟩
abbrev S3072x1024 : Shape := ⟨2, ![3072, 1024]⟩
abbrev S96x1024 : Shape := ⟨2, ![96, 1024]⟩
abbrev S1024x1024 : Shape := ⟨2, ![1024, 1024]⟩
abbrev S3072x2048 : Shape := ⟨2, ![3072, 2048]⟩
abbrev S1x1024 : Shape := ⟨2, ![1, 1024]⟩
abbrev S1x2048 : Shape := ⟨2, ![1, 2048]⟩
abbrev S32x1024 : Shape := ⟨2, ![32, 1024]⟩
abbrev S8x1024 : Shape := ⟨2, ![8, 1024]⟩
abbrev S64x1 : Shape := ⟨2, ![64, 1]⟩
abbrev S64x3072 : Shape := ⟨2, ![64, 3072]⟩
abbrev S1024x1 : Shape := ⟨2, ![1024, 1]⟩
abbrev S1024x256 : Shape := ⟨2, ![1024, 256]⟩
abbrev S3072x256 : Shape := ⟨2, ![3072, 256]⟩

abbrev nBuf : Space → Nat
  | .hbm => 5
  | .vmem => 14
  | .smem => 0
  | _ => 0

abbrev bufTy : (tb : Table) → Fin (tcTables nBuf tb) → BufTy
  | .hbm, ⟨0, _⟩ => ⟨S12288x3072, .i8⟩
  | .hbm, ⟨1, _⟩ => ⟨S12288x128, .f32⟩
  | .hbm, ⟨2, _⟩ => ⟨S3072x8192, .i8⟩
  | .hbm, ⟨3, _⟩ => ⟨S96x16384, .f32⟩
  | .hbm, ⟨4, _⟩ => ⟨S12288x8192, .f32⟩
  | .local _ .vmem, ⟨0, _⟩ => ⟨S1024x3072, .i8⟩
  | .local _ .vmem, ⟨1, _⟩ => ⟨S1024x3072, .i8⟩
  | .local _ .vmem, ⟨2, _⟩ => ⟨S1024x128, .f32⟩
  | .local _ .vmem, ⟨3, _⟩ => ⟨S1024x128, .f32⟩
  | .local _ .vmem, ⟨4, _⟩ => ⟨S3072x1024, .i8⟩
  | .local _ .vmem, ⟨5, _⟩ => ⟨S3072x1024, .i8⟩
  | .local _ .vmem, ⟨6, _⟩ => ⟨S96x1024, .f32⟩
  | .local _ .vmem, ⟨7, _⟩ => ⟨S96x1024, .f32⟩
  | .local _ .vmem, ⟨8, _⟩ => ⟨S96x1024, .f32⟩
  | .local _ .vmem, ⟨9, _⟩ => ⟨S96x1024, .f32⟩
  | .local _ .vmem, ⟨10, _⟩ => ⟨S1024x1024, .f32⟩
  | .local _ .vmem, ⟨11, _⟩ => ⟨S1024x1024, .f32⟩
  | .local _ .vmem, ⟨12, _⟩ => ⟨S3072x2048, .bf16⟩
  | .local _ .vmem, ⟨13, _⟩ => ⟨S1024x3072, .bf16⟩
  | _, _ => ⟨S12288x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_125 : BitVec 32 := 0#32
  let c12_i32 : BitVec 32 := 12#32
  let v198 : BitVec 32 := Scalar.addi c0_i32_125 c12_i32
  let c1_i32 : BitVec 32 := 1#32
  ⟨c0_i32_125, v198, c1_i32⟩
def k0_mult1 (k0_t1 : Fin k0_t1_loop.trips) : BitVec 32 :=
  let c0_i32_125 : BitVec 32 := 0#32
  let c1_i32 : BitVec 32 := 1#32
  let arg10 : BitVec 32 := Scf.iv c0_i32_125 c1_i32 k0_t1
  let c8_i32 : BitVec 32 := 8#32
  let v199 : BitVec 32 := Scalar.muli arg10 c8_i32
  let c0_i32_127 : BitVec 32 := 0#32
  let v200 : BitVec 32 := Scalar.addi v199 c0_i32_127
  let c32_i32 : BitVec 32 := 32#32
  let v201 : BitVec 32 := Scalar.muli v200 c32_i32
  v201
def k0_off1 (k0_t1 : Fin k0_t1_loop.trips) (c0_i32_129 : BitVec 32) : Fin 2 → Nat :=
  let c0_i32_125 : BitVec 32 := 0#32
  let c1_i32 : BitVec 32 := 1#32
  let arg10 : BitVec 32 := Scf.iv c0_i32_125 c1_i32 k0_t1
  let c8_i32_128 : BitVec 32 := 8#32
  let v203 : BitVec 32 := Scalar.muli arg10 c8_i32_128
  let v204 : BitVec 32 := Scalar.addi v203 c0_i32_129
  let v205 : Index := Scalar.indexCast v204
  let c0_130 : Index := 0#32
  ![v205.toNat, 0]
def k0_off2 (k0_t1 : Fin k0_t1_loop.trips) (c0_i32_127 : BitVec 32) : Fin 2 → Nat :=
  let c0_i32_125 : BitVec 32 := 0#32
  let c1_i32 : BitVec 32 := 1#32
  let arg10 : BitVec 32 := Scf.iv c0_i32_125 c1_i32 k0_t1
  let c8_i32 : BitVec 32 := 8#32
  let v199 : BitVec 32 := Scalar.muli arg10 c8_i32
  let v200 : BitVec 32 := Scalar.addi v199 c0_i32_127
  let c32_i32 : BitVec 32 := 32#32
  let v201 : BitVec 32 := Scalar.muli v200 c32_i32
  let v202 : BitVec 32 := v201
  let v212 : Index := Scalar.indexCast v202
  let c0_134 : Index := 0#32
  ![v212.toNat, 0]
def k0_off3 (k0_t1 : Fin k0_t1_loop.trips) (c0_i32_127 : BitVec 32) : Fin 2 → Nat :=
  let c0_i32_125 : BitVec 32 := 0#32
  let c1_i32 : BitVec 32 := 1#32
  let arg10 : BitVec 32 := Scf.iv c0_i32_125 c1_i32 k0_t1
  let c8_i32 : BitVec 32 := 8#32
  let v199 : BitVec 32 := Scalar.muli arg10 c8_i32
  let v200 : BitVec 32 := Scalar.addi v199 c0_i32_127
  let c32_i32 : BitVec 32 := 32#32
  let v201 : BitVec 32 := Scalar.muli v200 c32_i32
  let v202 : BitVec 32 := v201
  let v243 : Index := Scalar.indexCast v202
  let c0_139 : Index := 0#32
  ![v243.toNat, 0]
def k0_off4 (k0_t1 : Fin k0_t1_loop.trips) (c0_i32_127 : BitVec 32) : Fin 2 → Nat :=
  let c0_i32_125 : BitVec 32 := 0#32
  let c1_i32 : BitVec 32 := 1#32
  let arg10 : BitVec 32 := Scf.iv c0_i32_125 c1_i32 k0_t1
  let c8_i32 : BitVec 32 := 8#32
  let v199 : BitVec 32 := Scalar.muli arg10 c8_i32
  let v200 : BitVec 32 := Scalar.addi v199 c0_i32_127
  let c32_i32 : BitVec 32 := 32#32
  let v201 : BitVec 32 := Scalar.muli v200 c32_i32
  let v202 : BitVec 32 := v201
  let v247 : Index := Scalar.indexCast v202
  let c1024_140 : Index := 1024#32
  ![v247.toNat, 1024]
def k0_mult2 (k0_t1 : Fin k0_t1_loop.trips) : BitVec 32 :=
  let c0_i32_125 : BitVec 32 := 0#32
  let c1_i32 : BitVec 32 := 1#32
  let arg10 : BitVec 32 := Scf.iv c0_i32_125 c1_i32 k0_t1
  let c8_i32_141 : BitVec 32 := 8#32
  let v251 : BitVec 32 := Scalar.muli arg10 c8_i32_141
  let c1_i32_142 : BitVec 32 := 1#32
  let v252 : BitVec 32 := Scalar.addi v251 c1_i32_142
  let c32_i32_143 : BitVec 32 := 32#32
  let v253 : BitVec 32 := Scalar.muli v252 c32_i32_143
  v253
def k0_mult3 (k0_t1 : Fin k0_t1_loop.trips) : BitVec 32 :=
  let c0_i32_125 : BitVec 32 := 0#32
  let c1_i32 : BitVec 32 := 1#32
  let arg10 : BitVec 32 := Scf.iv c0_i32_125 c1_i32 k0_t1
  let c8_i32_160 : BitVec 32 := 8#32
  let v303 : BitVec 32 := Scalar.muli arg10 c8_i32_160
  let c2_i32 : BitVec 32 := 2#32
  let v304 : BitVec 32 := Scalar.addi v303 c2_i32
  let c32_i32_161 : BitVec 32 := 32#32
  let v305 : BitVec 32 := Scalar.muli v304 c32_i32_161
  v305
def k0_mult4 (k0_t1 : Fin k0_t1_loop.trips) : BitVec 32 :=
  let c0_i32_125 : BitVec 32 := 0#32
  let c1_i32 : BitVec 32 := 1#32
  let arg10 : BitVec 32 := Scf.iv c0_i32_125 c1_i32 k0_t1
  let c8_i32_178 : BitVec 32 := 8#32
  let v355 : BitVec 32 := Scalar.muli arg10 c8_i32_178
  let c3_i32 : BitVec 32 := 3#32
  let v356 : BitVec 32 := Scalar.addi v355 c3_i32
  let c32_i32_179 : BitVec 32 := 32#32
  let v357 : BitVec 32 := Scalar.muli v356 c32_i32_179
  v357
def k0_mult5 (k0_t1 : Fin k0_t1_loop.trips) : BitVec 32 :=
  let c0_i32_125 : BitVec 32 := 0#32
  let c1_i32 : BitVec 32 := 1#32
  let arg10 : BitVec 32 := Scf.iv c0_i32_125 c1_i32 k0_t1
  let c8_i32_196 : BitVec 32 := 8#32
  let v407 : BitVec 32 := Scalar.muli arg10 c8_i32_196
  let c4_i32_197 : BitVec 32 := 4#32
  let v408 : BitVec 32 := Scalar.addi v407 c4_i32_197
  let c32_i32_198 : BitVec 32 := 32#32
  let v409 : BitVec 32 := Scalar.muli v408 c32_i32_198
  v409
def k0_mult6 (k0_t1 : Fin k0_t1_loop.trips) : BitVec 32 :=
  let c0_i32_125 : BitVec 32 := 0#32
  let c1_i32 : BitVec 32 := 1#32
  let arg10 : BitVec 32 := Scf.iv c0_i32_125 c1_i32 k0_t1
  let c8_i32_215 : BitVec 32 := 8#32
  let v459 : BitVec 32 := Scalar.muli arg10 c8_i32_215
  let c5_i32 : BitVec 32 := 5#32
  let v460 : BitVec 32 := Scalar.addi v459 c5_i32
  let c32_i32_216 : BitVec 32 := 32#32
  let v461 : BitVec 32 := Scalar.muli v460 c32_i32_216
  v461
def k0_mult7 (k0_t1 : Fin k0_t1_loop.trips) : BitVec 32 :=
  let c0_i32_125 : BitVec 32 := 0#32
  let c1_i32 : BitVec 32 := 1#32
  let arg10 : BitVec 32 := Scf.iv c0_i32_125 c1_i32 k0_t1
  let c8_i32_233 : BitVec 32 := 8#32
  let v511 : BitVec 32 := Scalar.muli arg10 c8_i32_233
  let c6_i32 : BitVec 32 := 6#32
  let v512 : BitVec 32 := Scalar.addi v511 c6_i32
  let c32_i32_234 : BitVec 32 := 32#32
  let v513 : BitVec 32 := Scalar.muli v512 c32_i32_234
  v513
def k0_mult8 (k0_t1 : Fin k0_t1_loop.trips) : BitVec 32 :=
  let c0_i32_125 : BitVec 32 := 0#32
  let c1_i32 : BitVec 32 := 1#32
  let arg10 : BitVec 32 := Scf.iv c0_i32_125 c1_i32 k0_t1
  let c8_i32_251 : BitVec 32 := 8#32
  let v563 : BitVec 32 := Scalar.muli arg10 c8_i32_251
  let c7_i32 : BitVec 32 := 7#32
  let v564 : BitVec 32 := Scalar.addi v563 c7_i32
  let c32_i32_252 : BitVec 32 := 32#32
  let v565 : BitVec 32 := Scalar.muli v564 c32_i32_252
  v565
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x3072 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3072x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S96x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S96x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpRefIdeal.lean ====
abbrev S12288x3072 : Shape := ⟨2, ![12288, 3072]⟩
abbrev S12288x128 : Shape := ⟨2, ![12288, 128]⟩
abbrev S3072x8192 : Shape := ⟨2, ![3072, 8192]⟩
abbrev S96x16384 : Shape := ⟨2, ![96, 16384]⟩
abbrev S12288x1 : Shape := ⟨2, ![12288, 1]⟩
abbrev S12288 : Shape := ⟨1, ![12288]⟩
abbrev S_ : Shape := ⟨0, ![]⟩
abbrev S96x8192 : Shape := ⟨2, ![96, 8192]⟩
abbrev S96x32x8192 : Shape := ⟨3, ![96, 32, 8192]⟩
abbrev S12288x8192 : Shape := ⟨2, ![12288, 8192]⟩

abbrev nBuf : Space → Nat
  | .hbm => 66
  | .vmem => 0
  | .smem => 0
  | _ => 0

abbrev bufTy : (tb : Table) → Fin (tcTables nBuf tb) → BufTy
  | .hbm, ⟨0, _⟩ => ⟨S12288x3072, .i8⟩
  | .hbm, ⟨1, _⟩ => ⟨S12288x128, .f32⟩
  | .hbm, ⟨2, _⟩ => ⟨S3072x8192, .i8⟩
  | .hbm, ⟨3, _⟩ => ⟨S96x16384, .f32⟩
  | .hbm, ⟨4, _⟩ => ⟨S12288x1, .f32⟩
  | .hbm, ⟨5, _⟩ => ⟨S12288, .f32⟩
  | .hbm, ⟨6, _⟩ => ⟨S12288x1, .f32⟩
  | .hbm, ⟨7, _⟩ => ⟨S12288, .f32⟩
  | .hbm, ⟨8, _⟩ => ⟨S12288x3072, .i32⟩
  | .hbm, ⟨9, _⟩ => ⟨S12288x3072, .f32⟩
  | .hbm, ⟨10, _⟩ => ⟨S12288x1, .f32⟩
  | .hbm, ⟨11, _⟩ => ⟨S12288x3072, .f32⟩
  | .hbm, ⟨12, _⟩ => ⟨S12288x3072, .f32⟩
  | .hbm, ⟨13, _⟩ => ⟨S12288x3072, .bf16⟩
  | .hbm, ⟨14, _⟩ => ⟨S3072x8192, .i32⟩
  | .hbm, ⟨15, _⟩ => ⟨S_, .i32⟩
  | .hbm, ⟨16, _⟩ => ⟨S3072x8192, .i32⟩
  | .hbm, ⟨17, _⟩ => ⟨S3072x8192, .i32⟩
  | .hbm, ⟨18, _⟩ => ⟨S96x8192, .f32⟩
  | .hbm, ⟨19, _⟩ => ⟨S_, .i32⟩
  | .hbm, ⟨20, _⟩ => ⟨S3072x8192, .i32⟩
  | .hbm, ⟨21, _⟩ => ⟨S3072x8192, .i1⟩
  | .hbm, ⟨22, _⟩ => ⟨S_, .i32⟩
  | .hbm, ⟨23, _⟩ => ⟨S3072x8192, .i32⟩
  | .hbm, ⟨24, _⟩ => ⟨S3072x8192, .i32⟩
  | .hbm, ⟨25, _⟩ => ⟨S3072x8192, .i32⟩
  | .hbm, ⟨26, _⟩ => ⟨S3072x8192, .bf16⟩
  | .hbm, ⟨27, _⟩ => ⟨S96x32x8192, .f32⟩
  | .hbm, ⟨28, _⟩ => ⟨S3072x8192, .f32⟩
  | .hbm, ⟨29, _⟩ => ⟨S3072x8192, .bf16⟩
  | .hbm, ⟨30, _⟩ => ⟨S3072x8192, .bf16⟩
  | .hbm, ⟨31, _⟩ => ⟨S12288x8192, .f32⟩
  | .hbm, ⟨32, _⟩ => ⟨S12288x1, .f32⟩
  | .hbm, ⟨33, _⟩ => ⟨S12288x8192, .f32⟩
  | .hbm, ⟨34, _⟩ => ⟨S12288x8192, .f32⟩
  | .hbm, ⟨35, _⟩ => ⟨S3072x8192, .i32⟩
  | .hbm, ⟨36, _⟩ => ⟨S_, .i32⟩
  | .hbm, ⟨37, _⟩ => ⟨S3072x8192, .i32⟩
  | .hbm, ⟨38, _⟩ => ⟨S3072x8192, .i32⟩
  | .hbm, ⟨39, _⟩ => ⟨S96x8192, .f32⟩
  | .hbm, ⟨40, _⟩ => ⟨S_, .i32⟩
  | .hbm, ⟨41, _⟩ => ⟨S3072x8192, .i32⟩
  | .hbm, ⟨42, _⟩ => ⟨S3072x8192, .i1⟩
  | .hbm, ⟨43, _⟩ => ⟨S_, .i32⟩
  | .hbm, ⟨44, _⟩ => ⟨S3072x8192, .i32⟩
  | .hbm, ⟨45, _⟩ => ⟨S3072x8192, .i32⟩
  | .hbm, ⟨46, _⟩ => ⟨S3072x8192, .i32⟩
  | .hbm, ⟨47, _⟩ => ⟨S3072x8192, .bf16⟩
  | .hbm, ⟨48, _⟩ => ⟨S96x32x8192, .f32⟩
  | .hbm, ⟨49, _⟩ => ⟨S3072x8192, .f32⟩
  | .hbm, ⟨50, _⟩ => ⟨S3072x8192, .bf16⟩
  | .hbm, ⟨51, _⟩ => ⟨S3072x8192, .bf16⟩
  | .hbm, ⟨52, _⟩ => ⟨S12288x8192, .f32⟩
  | .hbm, ⟨53, _⟩ => ⟨S12288x1, .f32⟩
  | .hbm, ⟨54, _⟩ => ⟨S12288x8192, .f32⟩
  | .hbm, ⟨55, _⟩ => ⟨S12288x8192, .f32⟩
  | .hbm, ⟨56, _⟩ => ⟨S12288x8192, .f32⟩
  | .hbm, ⟨57, _⟩ => ⟨S12288x8192, .f32⟩
  | .hbm, ⟨58, _⟩ => ⟨S12288x8192, .f32⟩
  | .hbm, ⟨59, _⟩ => ⟨S_, .f32⟩
  | .hbm, ⟨60, _⟩ => ⟨S12288x8192, .f32⟩
  | .hbm, ⟨61, _⟩ => ⟨S12288x8192, .f32⟩
  | .hbm, ⟨62, _⟩ => ⟨S_, .f32⟩
  | .hbm, ⟨63, _⟩ => ⟨S12288x8192, .f32⟩
  | .hbm, ⟨64, _⟩ => ⟨S12288x8192, .f32⟩
  | .hbm, ⟨65, _⟩ => ⟨S12288x8192, .f32⟩
  | _, _ => ⟨S12288x3072, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_3 : Ref sig .tc := ⟨.hbm, 40, rfl⟩
abbrev main_v32 : Ref sig .tc := ⟨.hbm, 41, rfl⟩
abbrev main_v33 : Ref sig .tc := ⟨.hbm, 42, rfl⟩
abbrev main_c_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst : Ref sig .tc := ⟨.hbm, 59, rfl⟩
abbrev main_v49 : Ref sig .tc := ⟨.hbm, 60, rfl⟩
abbrev main_v50 : Ref sig .tc := ⟨.hbm, 61, rfl⟩
abbrev main_cst_5 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== DownHigh.lean ====
abbrev S12288x8192 : Shape := ⟨2, ![12288, 8192]⟩
abbrev S12288x128 : Shape := ⟨2, ![12288, 128]⟩
abbrev S12288x3072 : Shape := ⟨2, ![12288, 3072]⟩
abbrev S8192x1536 : Shape := ⟨2, ![8192, 1536]⟩
abbrev S256x3072 : Shape := ⟨2, ![256, 3072]⟩
abbrev S512x8192 : Shape := ⟨2, ![512, 8192]⟩
abbrev S512x128 : Shape := ⟨2, ![512, 128]⟩
abbrev S512x1536 : Shape := ⟨2, ![512, 1536]⟩
abbrev S256x1536 : Shape := ⟨2, ![256, 1536]⟩
abbrev S8x1536 : Shape := ⟨2, ![8, 1536]⟩
abbrev S32x1536 : Shape := ⟨2, ![32, 1536]⟩
abbrev S1x1536 : Shape := ⟨2, ![1, 1536]⟩
abbrev S32x1 : Shape := ⟨2, ![32, 1]⟩
abbrev S32x8192 : Shape := ⟨2, ![32, 8192]⟩
abbrev S512x1 : Shape := ⟨2, ![512, 1]⟩
abbrev S8192x256 : Shape := ⟨2, ![8192, 256]⟩
abbrev S512x256 : Shape := ⟨2, ![512, 256]⟩

abbrev nBuf : Space → Nat
  | .hbm => 7
  | .vmem => 14
  | .smem => 0
  | _ => 0

abbrev bufTy : (tb : Table) → Fin (tcTables nBuf tb) → BufTy
  | .hbm, ⟨0, _⟩ => ⟨S12288x8192, .i8⟩
  | .hbm, ⟨1, _⟩ => ⟨S12288x128, .f32⟩
  | .hbm, ⟨2, _⟩ => ⟨S12288x3072, .f32⟩
  | .hbm, ⟨3, _⟩ => ⟨S8192x1536, .i8⟩
  | .hbm, ⟨4, _⟩ => ⟨S256x3072, .f32⟩
  | .hbm, ⟨5, _⟩ => ⟨S12288x3072, .bf16⟩
  | .hbm, ⟨6, _⟩ => ⟨S12288x3072, .bf16⟩
  | .local _ .vmem, ⟨0, _⟩ => ⟨S512x8192, .i8⟩
  | .local _ .vmem, ⟨1, _⟩ => ⟨S512x8192, .i8⟩
  | .local _ .vmem, ⟨2, _⟩ => ⟨S512x128, .f32⟩
  | .local _ .vmem, ⟨3, _⟩ => ⟨S512x128, .f32⟩
  | .local _ .vmem, ⟨4, _⟩ => ⟨S512x1536, .f32⟩
  | .local _ .vmem, ⟨5, _⟩ => ⟨S512x1536, .f32⟩
  | .local _ .vmem, ⟨6, _⟩ => ⟨S256x1536, .i8⟩
  | .local _ .vmem, ⟨7, _⟩ => ⟨S256x1536, .i8⟩
  | .local _ .vmem, ⟨8, _⟩ => ⟨S8x1536, .f32⟩
  | .local _ .vmem, ⟨9, _⟩ => ⟨S8x1536, .f32⟩
  | .local _ .vmem, ⟨10, _⟩ => ⟨S512x1536, .bf16⟩
  | .local _ .vmem, ⟨11, _⟩ => ⟨S512x1536, .bf16⟩
  | .local _ .vmem, ⟨12, _⟩ => ⟨S8192x1536, .bf16⟩
  | .local _ .vmem, ⟨13, _⟩ => ⟨S512x8192, .bf16⟩
  | _, _ => ⟨S12288x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![56], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c256_i32 : BitVec 32 := 256#32
  let v20 : BitVec 32 := Scalar.muli arg0 c256_i32
  let c0_i32_5 : BitVec 32 := 0#32
  let v21 : BitVec 32 := Scalar.addi v20 c0_i32_5
  v21
def k0_off1 (i : grid0.Coords) (c0_i32_5 : BitVec 32) : Fin 2 → Nat :=
  let arg0 : BitVec 32 := BitVec.ofNat 32 (i 0).val
  let c256_i32 : BitVec 32 := 256#32
  let v20 : BitVec 32 := Scalar.muli arg0 c256_i32
  let v21 : BitVec 32 := Scalar.addi v20 c0_i32_5
  let v22 : BitVec 32 := v21
  let v26 : Index := Scalar.indexCast v22
  let c0_6 : Index := 0#32
  ![v26.toNat, 0]
def k0_mult2 (i : grid0.Coords) : BitVec 32 :=
  let arg0 : BitVec 32 := BitVec.ofNat 32 (i 0).val
  let c256_i32_12 : BitVec 32 := 256#32
  let v44 : BitVec 32 := Scalar.muli arg0 c256_i32_12
  let c32_i32_13 : BitVec 32 := 32#32
  let v45 : BitVec 32 := Scalar.addi v44 c32_i32_13
  v45
def k0_mult3 (i : grid0.Coords) : BitVec 32 :=
  let arg0 : BitVec 32 := BitVec.ofNat 32 (i 0).val
  let c256_i32_21 : BitVec 32 := 256#32
  let v68 : BitVec 32 := Scalar.muli arg0 c256_i32_21
  let c64_i32 : BitVec 32 := 64#32
  let v69 : BitVec 32 := Scalar.addi v68 c64_i32
  v69
def k0_mult4 (i : grid0.Coords) : BitVec 32 :=
  let arg0 : BitVec 32 := BitVec.ofNat 32 (i 0).val
  let c256_i32_29 : BitVec 32 := 256#32
  let v92 : BitVec 32 := Scalar.muli arg0 c256_i32_29
  let c96_i32 : BitVec 32 := 96#32
  let v93 : BitVec 32 := Scalar.addi v92 c96_i32
  v93
def k0_mult5 (i : grid0.Coords) : BitVec 32 :=
  let arg0 : BitVec 32 := BitVec.ofNat 32 (i 0).val
  let c256_i32_37 : BitVec 32 := 256#32
  let v116 : BitVec 32 := Scalar.muli arg0 c256_i32_37
  let c128_i32 : BitVec 32 := 128#32
  let v117 : BitVec 32 := Scalar.addi v116 c128_i32
  v117
def k0_mult6 (i : grid0.Coords) : BitVec 32 :=
  let arg0 : BitVec 32 := BitVec.ofNat 32 (i 0).val
  let c256_i32_45 : BitVec 32 := 256#32
  let v140 : BitVec 32 := Scalar.muli arg0 c256_i32_45
  let c160_i32 : BitVec 32 := 160#32
  let v141 : BitVec 32 := Scalar.addi v140 c160_i32
  v141
def k0_mult7 (i : grid0.Coords) : BitVec 32 :=
  let arg0 : BitVec 32 := BitVec.ofNat 32 (i 0).val
  let c256_i32_53 : BitVec 32 := 256#32
  let v164 : BitVec 32 := Scalar.muli arg0 c256_i32_53
  let c192_i32 : BitVec 32 := 192#32
  let v165 : BitVec 32 := Scalar.addi v164 c192_i32
  v165
def k0_mult8 (i : grid0.Coords) : BitVec 32 :=
  let arg0 : BitVec 32 := BitVec.ofNat 32 (i 0).val
  let c256_i32_61 : BitVec 32 := 256#32
  let v188 : BitVec 32 := Scalar.muli arg0 c256_i32_61
  let c224_i32 : BitVec 32 := 224#32
  let v189 : BitVec 32 := Scalar.addi v188 c224_i32
  v189
def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c1_i32 : BitVec 32 := 1#32
  let c0_i32_0 : BitVec 32 := 0#32
  ![v1.toNat, c1_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  ![v0.toNat, c1_i32.toNat]

def cc0_transform_6 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c1_i32 : BitVec 32 := 1#32
  let c0_i32_0 : BitVec 32 := 0#32
  ![v1.toNat, c1_i32.toNat]

abbrev stage0_0 : Fin 2 → Memref sig .tc .vmem S512x8192 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownHighRefIdeal.lean ====
abbrev S12288x8192 : Shape := ⟨2, ![12288, 8192]⟩
abbrev S12288x128 : Shape := ⟨2, ![12288, 128]⟩
abbrev S12288x3072 : Shape := ⟨2, ![12288, 3072]⟩
abbrev S8192x1536 : Shape := ⟨2, ![8192, 1536]⟩
abbrev S256x3072 : Shape := ⟨2, ![256, 3072]⟩
abbrev S12288x1 : Shape := ⟨2, ![12288, 1]⟩
abbrev S12288 : Shape := ⟨1, ![12288]⟩
abbrev S_ : Shape := ⟨0, ![]⟩
abbrev S256x1536 : Shape := ⟨2, ![256, 1536]⟩
abbrev S256x32x1536 : Shape := ⟨3, ![256, 32, 1536]⟩
abbrev S12288x1536 : Shape := ⟨2, ![12288, 1536]⟩

abbrev nBuf : Space → Nat
  | .hbm => 42
  | .vmem => 0
  | .smem => 0
  | _ => 0

abbrev bufTy : (tb : Table) → Fin (tcTables nBuf tb) → BufTy
  | .hbm, ⟨0, _⟩ => ⟨S12288x8192, .i8⟩
  | .hbm, ⟨1, _⟩ => ⟨S12288x128, .f32⟩
  | .hbm, ⟨2, _⟩ => ⟨S12288x3072, .f32⟩
  | .hbm, ⟨3, _⟩ => ⟨S8192x1536, .i8⟩
  | .hbm, ⟨4, _⟩ => ⟨S256x3072, .f32⟩
  | .hbm, ⟨5, _⟩ => ⟨S12288x3072, .bf16⟩
  | .hbm, ⟨6, _⟩ => ⟨S12288x1, .f32⟩
  | .hbm, ⟨7, _⟩ => ⟨S12288, .f32⟩
  | .hbm, ⟨8, _⟩ => ⟨S12288x1, .f32⟩
  | .hbm, ⟨9, _⟩ => ⟨S12288, .f32⟩
  | .hbm, ⟨10, _⟩ => ⟨S12288x8192, .i32⟩
  | .hbm, ⟨11, _⟩ => ⟨S12288x8192, .f32⟩
  | .hbm, ⟨12, _⟩ => ⟨S12288x1, .f32⟩
  | .hbm, ⟨13, _⟩ => ⟨S12288x8192, .f32⟩
  | .hbm, ⟨14, _⟩ => ⟨S12288x8192, .f32⟩
  | .hbm, ⟨15, _⟩ => ⟨S12288x8192, .bf16⟩
  | .hbm, ⟨16, _⟩ => ⟨S8192x1536, .i32⟩
  | .hbm, ⟨17, _⟩ => ⟨S_, .i32⟩
  | .hbm, ⟨18, _⟩ => ⟨S8192x1536, .i32⟩
  | .hbm, ⟨19, _⟩ => ⟨S8192x1536, .i32⟩
  | .hbm, ⟨20, _⟩ => ⟨S256x1536, .f32⟩
  | .hbm, ⟨21, _⟩ => ⟨S_, .i32⟩
  | .hbm, ⟨22, _⟩ => ⟨S8192x1536, .i32⟩
  | .hbm, ⟨23, _⟩ => ⟨S8192x1536, .i1⟩
  | .hbm, ⟨24, _⟩ => ⟨S_, .i32⟩
  | .hbm, ⟨25, _⟩ => ⟨S8192x1536, .i32⟩
  | .hbm, ⟨26, _⟩ => ⟨S8192x1536, .i32⟩
  | .hbm, ⟨27, _⟩ => ⟨S8192x1536, .i32⟩
  | .hbm, ⟨28, _⟩ => ⟨S8192x1536, .bf16⟩
  | .hbm, ⟨29, _⟩ => ⟨S256x32x1536, .f32⟩
  | .hbm, ⟨30, _⟩ => ⟨S8192x1536, .f32⟩
  | .hbm, ⟨31, _⟩ => ⟨S8192x1536, .bf16⟩
  | .hbm, ⟨32, _⟩ => ⟨S8192x1536, .bf16⟩
  | .hbm, ⟨33, _⟩ => ⟨S12288x1536, .f32⟩
  | .hbm, ⟨34, _⟩ => ⟨S12288x1, .f32⟩
  | .hbm, ⟨35, _⟩ => ⟨S12288x1536, .f32⟩
  | .hbm, ⟨36, _⟩ => ⟨S12288x1536, .f32⟩
  | .hbm, ⟨37, _⟩ => ⟨S12288x1536, .bf16⟩
  | .hbm, ⟨38, _⟩ => ⟨S12288x1536, .f32⟩
  | .hbm, ⟨39, _⟩ => ⟨S12288x1536, .f32⟩
  | .hbm, ⟨40, _⟩ => ⟨S12288x1536, .bf16⟩
  | .hbm, ⟨41, _⟩ => ⟨S12288x3072, .bf16⟩
  | _, _ => ⟨S12288x8192, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== DownLow.lean ====
abbrev S12288x8192 : Shape := ⟨2, ![12288, 8192]⟩
abbrev S12288x3072 : Shape := ⟨2, ![12288, 3072]⟩
abbrev S8192x1536 : Shape := ⟨2, ![8192, 1536]⟩
abbrev S256x3072 : Shape := ⟨2, ![256, 3072]⟩
abbrev S12288x128 : Shape := ⟨2, ![12288, 128]⟩
abbrev S256x8192 : Shape := ⟨2, ![256, 8192]⟩
abbrev S256x1536 : Shape := ⟨2, ![256, 1536]⟩
abbrev S8x1536 : Shape := ⟨2, ![8, 1536]⟩
abbrev S256x128 : Shape := ⟨2, ![256, 128]⟩
abbrev S32x1536 : Shape := ⟨2, ![32, 1536]⟩
abbrev S1x1536 : Shape := ⟨2, ![1, 1536]⟩
abbrev S8x8192 : Shape := ⟨2, ![8, 8192]⟩
abbrev S8 : Shape := ⟨1, ![8]⟩
abbrev S8x1 : Shape := ⟨2, ![8, 1]⟩
abbrev S8x128 : Shape := ⟨2, ![8, 128]⟩
abbrev S8192x256 : Shape := ⟨2, ![8192, 256]⟩
abbrev S256x256 : Shape := ⟨2, ![256, 256]⟩

abbrev nBuf : Space → Nat
  | .hbm => 7
  | .vmem => 19
  | .smem => 0
  | _ => 0

abbrev bufTy : (tb : Table) → Fin (tcTables nBuf tb) → BufTy
  | .hbm, ⟨0, _⟩ => ⟨S12288x8192, .f32⟩
  | .hbm, ⟨1, _⟩ => ⟨S12288x3072, .f32⟩
  | .hbm, ⟨2, _⟩ => ⟨S8192x1536, .i8⟩
  | .hbm, ⟨3, _⟩ => ⟨S256x3072, .f32⟩
  | .hbm, ⟨4, _⟩ => ⟨S12288x8192, .i8⟩
  | .hbm, ⟨5, _⟩ => ⟨S12288x128, .f32⟩
  | .hbm, ⟨6, _⟩ => ⟨S12288x3072, .bf16⟩
  | .local _ .vmem, ⟨0, _⟩ => ⟨S256x8192, .f32⟩
  | .local _ .vmem, ⟨1, _⟩ => ⟨S256x8192, .f32⟩
  | .local _ .vmem, ⟨2, _⟩ => ⟨S256x1536, .f32⟩
  | .local _ .vmem, ⟨3, _⟩ => ⟨S256x1536, .f32⟩
  | .local _ .vmem, ⟨4, _⟩ => ⟨S256x1536, .i8⟩
  | .local _ .vmem, ⟨5, _⟩ => ⟨S256x1536, .i8⟩
  | .local _ .vmem, ⟨6, _⟩ => ⟨S8x1536, .f32⟩
  | .local _ .vmem, ⟨7, _⟩ => ⟨S8x1536, .f32⟩
  | .local _ .vmem, ⟨8, _⟩ => ⟨S256x8192, .i8⟩
  | .local _ .vmem, ⟨9, _⟩ => ⟨S256x8192, .i8⟩
  | .local _ .vmem, ⟨10, _⟩ => ⟨S256x128, .f32⟩
  | .local _ .vmem, ⟨11, _⟩ => ⟨S256x128, .f32⟩
  | .local _ .vmem, ⟨12, _⟩ => ⟨S256x1536, .bf16⟩
  | .local _ .vmem, ⟨13, _⟩ => ⟨S256x1536, .bf16⟩
  | .local _ .vmem, ⟨14, _⟩ => ⟨S8192x1536, .bf16⟩
  | .local _ .vmem, ⟨15, _⟩ => ⟨S256x8192, .bf16⟩
  | .local _ .vmem, ⟨16, _⟩ => ⟨S256x8192, .bf16⟩
  | .local _ .vmem, ⟨17, _⟩ => ⟨S256x128, .f32⟩
  | .local _ .vmem, ⟨18, _⟩ => ⟨S256x128, .f32⟩
  | _, _ => ⟨S12288x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![81], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c256_i32 : BitVec 32 := 256#32
  let v49 : BitVec 32 := Scalar.muli arg0 c256_i32
  let c0_i32_22 : BitVec 32 := 0#32
  let v50 : BitVec 32 := Scalar.addi v49 c0_i32_22
  v50
def k0_off1 (i : grid0.Coords) (c0_i32_22 : BitVec 32) : Fin 2 → Nat :=
  let arg0 : BitVec 32 := BitVec.ofNat 32 (i 0).val
  let c256_i32 : BitVec 32 := 256#32
  let v49 : BitVec 32 := Scalar.muli arg0 c256_i32
  let v50 : BitVec 32 := Scalar.addi v49 c0_i32_22
  let v51 : BitVec 32 := v50
  let v55 : Index := Scalar.indexCast v51
  let c0_23 : Index := 0#32
  ![v55.toNat, 0]
def k0_mult2 (i : grid0.Coords) : BitVec 32 :=
  let arg0 : BitVec 32 := BitVec.ofNat 32 (i 0).val
  let c256_i32_28 : BitVec 32 := 256#32
  let v71 : BitVec 32 := Scalar.muli arg0 c256_i32_28
  let c32_i32_29 : BitVec 32 := 32#32
  let v72 : BitVec 32 := Scalar.addi v71 c32_i32_29
  v72
def k0_mult3 (i : grid0.Coords) : BitVec 32 :=
  let arg0 : BitVec 32 := BitVec.ofNat 32 (i 0).val
  let c256_i32_36 : BitVec 32 := 256#32
  let v93 : BitVec 32 := Scalar.muli arg0 c256_i32_36
  let c64_i32 : BitVec 32 := 64#32
  let v94 : BitVec 32 := Scalar.addi v93 c64_i32
  v94
def k0_mult4 (i : grid0.Coords) : BitVec 32 :=
  let arg0 : BitVec 32 := BitVec.ofNat 32 (i 0).val
  let c256_i32_43 : BitVec 32 := 256#32
  let v115 : BitVec 32 := Scalar.muli arg0 c256_i32_43
  let c96_i32 : BitVec 32 := 96#32
  let v116 : BitVec 32 := Scalar.addi v115 c96_i32
  v116
def k0_mult5 (i : grid0.Coords) : BitVec 32 :=
  let arg0 : BitVec 32 := BitVec.ofNat 32 (i 0).val
  let c256_i32_50 : BitVec 32 := 256#32
  let v137 : BitVec 32 := Scalar.muli arg0 c256_i32_50
  let c128_i32 : BitVec 32 := 128#32
  let v138 : BitVec 32 := Scalar.addi v137 c128_i32
  v138
def k0_mult6 (i : grid0.Coords) : BitVec 32 :=
  let arg0 : BitVec 32 := BitVec.ofNat 32 (i 0).val
  let c256_i32_57 : BitVec 32 := 256#32
  let v159 : BitVec 32 := Scalar.muli arg0 c256_i32_57
  let c160_i32 : BitVec 32 := 160#32
  let v160 : BitVec 32 := Scalar.addi v159 c160_i32
  v160
def k0_mult7 (i : grid0.Coords) : BitVec 32 :=
  let arg0 : BitVec 32 := BitVec.ofNat 32 (i 0).val
  let c256_i32_64 : BitVec 32 := 256#32
  let v181 : BitVec 32 := Scalar.muli arg0 c256_i32_64
  let c192_i32 : BitVec 32 := 192#32
  let v182 : BitVec 32 := Scalar.addi v181 c192_i32
  v182
def k0_mult8 (i : grid0.Coords) : BitVec 32 :=
  let arg0 : BitVec 32 := BitVec.ofNat 32 (i 0).val
  let c256_i32_71 : BitVec 32 := 256#32
  let v203 : BitVec 32 := Scalar.muli arg0 c256_i32_71
  let c224_i32 : BitVec 32 := 224#32
  let v204 : BitVec 32 := Scalar.addi v203 c224_i32
  v204
def k0_cond2 (i : grid0.Coords) : BitVec 1 :=
  let arg0 : BitVec 32 := BitVec.ofNat 32 (i 0).val
  let c32_i32_0 : BitVec 32 := 32#32
  let v3 : BitVec 32 := Scalar.subi arg0 c32_i32_0
  let c0_i32_1 : BitVec 32 := 0#32
  let v4 : BitVec 1 := Scalar.cmpi .eq v3 c0_i32_1
  let v5 : BitVec 32 := Scalar.extui v4
  let c0_i32_2 : BitVec 32 := 0#32
  let v6 : BitVec 1 := Scalar.cmpi .ne v5 c0_i32_2
  v6

def k0_cond3 (i : grid0.Coords) : BitVec 1 :=
  let arg0 : BitVec 32 := BitVec.ofNat 32 (i 0).val
  let c32_i32_0 : BitVec 32 := 32#32
  let v3 : BitVec 32 := Scalar.subi arg0 c32_i32_0
  let c0_i32_3 : BitVec 32 := 0#32
  let v7 : BitVec 1 := Scalar.cmpi .sgt v3 c0_i32_3
  let c2_i32 : BitVec 32 := 2#32
  let c0_i32_4 : BitVec 32 := 0#32
  let v8 : BitVec 1 := Scalar.cmpi .eq c2_i32 c0_i32_4
  let c1_i32 : BitVec 32 := 1#32
  let v9 : BitVec 32 := Scalar.select v8 c1_i32 c2_i32
  let v10 : BitVec 32 := Scalar.remsi v3 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c1_i32_8 : BitVec 32 := 1#32
  let v18 : BitVec 1 := Scalar.cmpi .eq v17 c1_i32_8
  let v19 : BitVec 1 := Scalar.andi v7 v18
  let v20 : BitVec 32 := Scalar.extui v19
  let c0_i32_9 : BitVec 32 := 0#32
  let v21 : BitVec 1 := Scalar.cmpi .ne v20 c0_i32_9
  v21

def k0_cond4 (i : grid0.Coords) : BitVec 1 :=
  let arg0 : BitVec 32 := BitVec.ofNat 32 (i 0).val
  let c32_i32_0 : BitVec 32 := 32#32
  let v3 : BitVec 32 := Scalar.subi arg0 c32_i32_0
  let c0_i32_10 : BitVec 32 := 0#32
  let v22 : BitVec 1 := Scalar.cmpi .sgt v3 c0_i32_10
  let c2_i32_11 : BitVec 32 := 2#32
  let c0_i32_12 : BitVec 32 := 0#32
  let v23 : BitVec 1 := Scalar.cmpi .eq c2_i32_11 c0_i32_12
  let c1_i32_13 : BitVec 32 := 1#32
  let v24 : BitVec 32 := Scalar.select v23 c1_i32_13 c2_i32_11
  let v25 : BitVec 32 := Scalar.remsi v3 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c0_i32_17 : BitVec 32 := 0#32
  let v33 : BitVec 1 := Scalar.cmpi .eq v32 c0_i32_17
  let v34 : BitVec 1 := Scalar.andi v22 v33
  let v35 : BitVec 32 := Scalar.extui v34
  let c0_i32_18 : BitVec 32 := 0#32
  let v36 : BitVec 1 := Scalar.cmpi .ne v35 c0_i32_18
  v36

def cc0_transform_0 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.subi v0 c0_i32
  let c0_i32_0 : BitVec 32 := 0#32
  let c47_i32 : BitVec 32 := 47#32
  let v2 : BitVec 32 := Scalar.maxsi c0_i32_0 v1
  let v3 : BitVec 32 := Scalar.minsi c47_i32 v2
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c1_i32 : BitVec 32 := 1#32
  let v1 : BitVec 32 := Scalar.subi v0 c1_i32
  let c0_i32 : BitVec 32 := 0#32
  let c47_i32 : BitVec 32 := 47#32
  let v2 : BitVec 32 := Scalar.maxsi c0_i32 v1
  let v3 : BitVec 32 := Scalar.minsi c47_i32 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.subi v0 c0_i32
  let c0_i32_0 : BitVec 32 := 0#32
  let c47_i32 : BitVec 32 := 47#32
  let v2 : BitVec 32 := Scalar.maxsi c0_i32_0 v1
  let v3 : BitVec 32 := Scalar.minsi c47_i32 v2
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.subi v0 c0_i32
  let c0_i32_0 : BitVec 32 := 0#32
  let c47_i32 : BitVec 32 := 47#32
  let v2 : BitVec 32 := Scalar.maxsi c0_i32_0 v1
  let v3 : BitVec 32 := Scalar.minsi c47_i32 v2
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let c32_i32 : BitVec 32 := 32#32
  let v0 : BitVec 32 := Scalar.subi arg0 c32_i32
  let c1_i32 : BitVec 32 := 1#32
  let v1 : BitVec 32 := Scalar.subi v0 c1_i32
  let c0_i32 : BitVec 32 := 0#32
  let c47_i32 : BitVec 32 := 47#32
  let v2 : BitVec 32 := Scalar.maxsi c0_i32 v1
  let v3 : BitVec 32 := Scalar.minsi c47_i32 v2
  let c0_i32_0 : BitVec 32 := 0#32
  let c0_i32_1 : BitVec 32 := 0#32
  ![v3.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8192 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownLowRefIdeal.lean ====
abbrev S12288x8192 : Shape := ⟨2, ![12288, 8192]⟩
abbrev S12288x3072 : Shape := ⟨2, ![12288, 3072]⟩
abbrev S8192x1536 : Shape := ⟨2, ![8192, 1536]⟩
abbrev S256x3072 : Shape := ⟨2, ![256, 3072]⟩
abbrev S_ : Shape := ⟨0, ![]⟩
abbrev S12288 : Shape := ⟨1, ![12288]⟩
abbrev S12288x1 : Shape := ⟨2, ![12288, 1]⟩
abbrev S12288x1x127 : Shape := ⟨3, ![12288, 1, 127]⟩
abbrev S12288x127 : Shape := ⟨2, ![12288, 127]⟩
abbrev S12288x128 : Shape := ⟨2, ![12288, 128]⟩
abbrev S256x1536 : Shape := ⟨2, ![256, 1536]⟩
abbrev S256x32x1536 : Shape := ⟨3, ![256, 32, 1536]⟩
abbrev S12288x1536 : Shape := ⟨2, ![12288, 1536]⟩

abbrev nBuf : Space → Nat
  | .hbm => 94
  | .vmem => 0
  | .smem => 0
  | _ => 0

abbrev bufTy : (tb : Table) → Fin (tcTables nBuf tb) → BufTy
  | .hbm, ⟨0, _⟩ => ⟨S12288x8192, .f32⟩
  | .hbm, ⟨1, _⟩ => ⟨S12288x3072, .f32⟩
  | .hbm, ⟨2, _⟩ => ⟨S8192x1536, .i8⟩
  | .hbm, ⟨3, _⟩ => ⟨S256x3072, .f32⟩
  | .hbm, ⟨4, _⟩ => ⟨S_, .f32⟩
  | .hbm, ⟨5, _⟩ => ⟨S12288, .f32⟩
  | .hbm, ⟨6, _⟩ => ⟨S_, .f32⟩
  | .hbm, ⟨7, _⟩ => ⟨S12288, .f32⟩
  | .hbm, ⟨8, _⟩ => ⟨S12288, .f32⟩
  | .hbm, ⟨9, _⟩ => ⟨S_, .f32⟩
  | .hbm, ⟨10, _⟩ => ⟨S12288, .f32⟩
  | .hbm, ⟨11, _⟩ => ⟨S_, .f32⟩
  | .hbm, ⟨12, _⟩ => ⟨S12288, .f32⟩
  | .hbm, ⟨13, _⟩ => ⟨S12288, .f32⟩
  | .hbm, ⟨14, _⟩ => ⟨S12288, .f32⟩
  | .hbm, ⟨15, _⟩ => ⟨S_, .f32⟩
  | .hbm, ⟨16, _⟩ => ⟨S12288, .f32⟩
  | .hbm, ⟨17, _⟩ => ⟨S12288, .i1⟩
  | .hbm, ⟨18, _⟩ => ⟨S_, .f32⟩
  | .hbm, ⟨19, _⟩ => ⟨S12288, .f32⟩
  | .hbm, ⟨20, _⟩ => ⟨S12288, .f32⟩
  | .hbm, ⟨21, _⟩ => ⟨S_, .f32⟩
  | .hbm, ⟨22, _⟩ => ⟨S_, .f32⟩
  | .hbm, ⟨23, _⟩ => ⟨S12288, .f32⟩
  | .hbm, ⟨24, _⟩ => ⟨S12288, .f32⟩
  | .hbm, ⟨25, _⟩ => ⟨S12288, .f32⟩
  | .hbm, ⟨26, _⟩ => ⟨S12288, .f32⟩
  | .hbm, ⟨27, _⟩ => ⟨S_, .f32⟩
  | .hbm, ⟨28, _⟩ => ⟨S12288, .f32⟩
  | .hbm, ⟨29, _⟩ => ⟨S12288, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S12288, .f32⟩
  | .hbm, ⟨34, _⟩ => ⟨S12288, .f32⟩
  | .hbm, ⟨35, _⟩ => ⟨S_, .f32⟩
  | .hbm, ⟨36, _⟩ => ⟨S12288, .f32⟩
  | .hbm, ⟨37, _⟩ => ⟨S12288, .f32⟩
  | .hbm, ⟨38, _⟩ => ⟨S12288, .i32⟩
  | .hbm, ⟨39, _⟩ => ⟨S12288x1, .f32⟩
  | .hbm, ⟨40, _⟩ => ⟨S12288x8192, .f32⟩
  | .hbm, ⟨41, _⟩ => ⟨S12288x8192, .f32⟩
  | .hbm, ⟨42, _⟩ => ⟨S12288x8192, .f32⟩
  | .hbm, ⟨43, _⟩ => ⟨S12288x1, .i32⟩
  | .hbm, ⟨44, _⟩ => ⟨S12288x1, .f32⟩
  | .hbm, ⟨45, _⟩ => ⟨S12288x8192, .f32⟩
  | .hbm, ⟨46, _⟩ => ⟨S12288x8192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S12288x8192, .f32⟩
  | .hbm, ⟨51, _⟩ => ⟨S12288x8192, .f32⟩
  | .hbm, ⟨52, _⟩ => ⟨S_, .f32⟩
  | .hbm, ⟨53, _⟩ => ⟨S12288x8192, .f32⟩
  | .hbm, ⟨54, _⟩ => ⟨S12288x8192, .f32⟩
  | .hbm, ⟨55, _⟩ => ⟨S12288x8192, .i32⟩
  | .hbm, ⟨56, _⟩ => ⟨S12288x1, .f32⟩
  | .hbm, ⟨57, _⟩ => ⟨S12288, .f32⟩
  | .hbm, ⟨58, _⟩ => ⟨S12288x1, .f32⟩
  | .hbm, ⟨59, _⟩ => ⟨S12288x1x127, .f32⟩
  | .hbm, ⟨60, _⟩ => ⟨S12288x127, .f32⟩
  | .hbm, ⟨61, _⟩ => ⟨S12288x128, .f32⟩
  | .hbm, ⟨62, _⟩ => ⟨S12288x1, .i32⟩
  | .hbm, ⟨63, _⟩ => ⟨S12288x8192, .i32⟩
  | .hbm, ⟨64, _⟩ => ⟨S12288x8192, .i32⟩
  | .hbm, ⟨65, _⟩ => ⟨S12288x8192, .bf16⟩
  | .hbm, ⟨66, _⟩ => ⟨S8192x1536, .i32⟩
  | .hbm, ⟨67, _⟩ => ⟨S_, .i32⟩
  | .hbm, ⟨68, _⟩ => ⟨S8192x1536, .i32⟩
  | .hbm, ⟨69, _⟩ => ⟨S8192x1536, .i32⟩
  | .hbm, ⟨70, _⟩ => ⟨S256x1536, .f32⟩
  | .hbm, ⟨71, _⟩ => ⟨S_, .i32⟩
  | .hbm, ⟨72, _⟩ => ⟨S8192x1536, .i32⟩
  | .hbm, ⟨73, _⟩ => ⟨S8192x1536, .i1⟩
  | .hbm, ⟨74, _⟩ => ⟨S_, .i32⟩
  | .hbm, ⟨75, _⟩ => ⟨S8192x1536, .i32⟩
  | .hbm, ⟨76, _⟩ => ⟨S8192x1536, .i32⟩
  | .hbm, ⟨77, _⟩ => ⟨S8192x1536, .i32⟩
  | .hbm, ⟨78, _⟩ => ⟨S8192x1536, .bf16⟩
  | .hbm, ⟨79, _⟩ => ⟨S256x32x1536, .f32⟩
  | .hbm, ⟨80, _⟩ => ⟨S8192x1536, .f32⟩
  | .hbm, ⟨81, _⟩ => ⟨S8192x1536, .bf16⟩
  | .hbm, ⟨82, _⟩ => ⟨S8192x1536, .bf16⟩
  | .hbm, ⟨83, _⟩ => ⟨S12288x1536, .f32⟩
  | .hbm, ⟨84, _⟩ => ⟨S12288x1, .f32⟩
  | .hbm, ⟨85, _⟩ => ⟨S12288x1536, .f32⟩
  | .hbm, ⟨86, _⟩ => ⟨S12288x1536, .f32⟩
  | .hbm, ⟨87, _⟩ => ⟨S12288x1536, .f32⟩
  | .hbm, ⟨88, _⟩ => ⟨S12288x1536, .f32⟩
  | .hbm, ⟨89, _⟩ => ⟨S12288x1536, .bf16⟩
  | .hbm, ⟨90, _⟩ => ⟨S12288x8192, .i8⟩
  | .hbm, ⟨91, _⟩ => ⟨S_, .bf16⟩
  | .hbm, ⟨92, _⟩ => ⟨S12288x1536, .bf16⟩
  | .hbm, ⟨93, _⟩ => ⟨S12288x3072, .bf16⟩
  | _, _ => ⟨S12288x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_v10 : Ref sig .tc := ⟨.hbm, 20, rfl⟩
abbrev main_cst_5 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_6 : Ref sig .tc := ⟨.hbm, 27, rfl⟩
abbrev main_v14 : Ref sig .tc := ⟨.hbm, 28, rfl⟩
abbrev main_v15 : Ref sig .tc := ⟨.hbm, 29, rfl⟩
abbrev main_cst_7 : Ref sig .tc := ⟨.hbm, 30, rfl⟩
abbrev main_cst_8 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_9 : Ref sig .tc := ⟨.hbm, 47, rfl⟩
abbrev main_cst_10 : Ref sig .tc := ⟨.hbm, 48, rfl⟩
abbrev main_call4_v0 : Ref sig .tc := ⟨.hbm, 49, rfl⟩
abbrev main_call4_v1 : Ref sig .tc := ⟨.hbm, 50, rfl⟩
abbrev main_call4_v2 : Ref sig .tc := ⟨.hbm, 51, rfl⟩
abbrev main_call4_v3 : Ref sig .tc := ⟨.hbm, 52, rfl⟩
abbrev main_call4_v4 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_11 : Ref sig .tc := ⟨.hbm, 71, rfl⟩
abbrev main_v42 : Ref sig .tc := ⟨.hbm, 72, rfl⟩
abbrev main_v43 : Ref sig .tc := ⟨.hbm, 73, rfl⟩
abbrev main_c_12 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_13 : Ref sig .tc := ⟨.hbm, 91, rfl⟩
abbrev main_v60 : Ref sig .tc := ⟨.hbm, 92, rfl⟩
abbrev main_v61 : Ref sig .tc := ⟨.hbm, 93, rfl⟩

abbrev nD : Nat := 1
abbrev τ : Topo := Topo.v7x

variable {F : FTy → Type} [FloatOps F]
-- ==== Proof.GateUpBits.lean ====
/- The bit facts of `gate_up`'s weight unpacking. The kernel reads four weight bytes of a column as one 32-bit word, masks
   the low (or, after a shift, the high) nibble of every byte at once, flips bit 3 of each nibble, reads the word back as
   four bytes and subtracts 8. Here: those word operations act byte by byte, and what they leave is the nibble read as a
   signed 4-bit integer, which is how the reference states it. -/
module

public import Idealize.ShloMosaic.Lib.BitcastFour
public import Idealize.ShloMosaic.Lib.Pointwise
public import Idealize.ShloMosaic.Lib.IdealHost

@[expose] public section

set_option maxRecDepth 16384

noncomputable section

namespace Cert.Int4

open Idealize.ShloMosaic

/-- The low nibble of a byte, its bit 3 flipped. -/
def lowFlip (b : BitVec 8) : BitVec 8 := (b &&& 15#8) ^^^ 8#8

/-- The high nibble of a byte, its bit 3 flipped. -/
def highFlip (b : BitVec 8) : BitVec 8 := (b >>> 4) ^^^ 8#8

/-- A byte of a word, read back: bit `i` of row `p` of the eight-bit view is bit `8 (p % 4) + i` of word row `p / 4`. -/
theorem bitcast_32_8_getLsbD_ix2 {R r n : Nat} (x : (⟨2, ![r, n]⟩ : Shape).Idx → BitVec 32)
    (h : (⟨2, ![r, n]⟩ : Shape).Bitcasts 32 ⟨2, ![R, n]⟩ 8) (p : Fin R) (l : Fin n) (i : Nat) (hi : i < 8) (a : Fin r)
    (ha : a.val = p.val / 4) :
    (bitcast ⟨2, ![R, n]⟩ 8 x h (ix2 p l)).getLsbD i = (x (ix2 a l)).getLsbD (8 * (p.val % 4) + i) := by
  rw [bitcast_getLsbD x h _ i hi (by decide)]
  have hr : (⟨2, ![R, n]⟩ : Shape).row (ix2 p l) = p.val := rfl
  have e1 : (p.val * 8 + i) / 32 = a.val := by omega
  have e2 : (p.val * 8 + i) % 32 = 8 * (p.val % 4) + i := by omega
  rw [show ((⟨2, ![R, n]⟩ : Shape).row (ix2 p l) * 8 + i) % 32 = 8 * (p.val % 4) + i from e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The library's word lemma at `ix2`: bit `q` of word row `a` is bit `q % 8` of byte row `p = 4 a + q / 8`. -/
theorem bitcast_8_32_getLsbD_at {R r n : Nat} (x : (⟨2, ![R, n]⟩ : Shape).Idx → BitVec 8)
    (h : (⟨2, ![R, n]⟩ : Shape).Bitcasts 8 ⟨2, ![r, n]⟩ 32) (a : Fin r) (l : Fin n) (q : Nat) (hq : q < 32) (p : Fin R)
    (hp : p.val = 4 * a.val + q / 8) :
    (bitcast ⟨2, ![r, n]⟩ 32 x h (ix2 a l)).getLsbD q = (x (ix2 p l)).getLsbD (q % 8) := by
  have e1 : (ix2 a l : (⟨2, ![r, n]⟩ : Shape).Idx) = ValueIdx.ix2 a l := by
    funext c; match c with
    | ⟨0, _⟩ => rfl
    | ⟨1, _⟩ => rfl
  have e2 : (ix2 p l : (⟨2, ![R, n]⟩ : Shape).Idx) = ValueIdx.ix2 p l := by
    funext c; match c with
    | ⟨0, _⟩ => rfl
    | ⟨1, _⟩ => rfl
  rw [e1, e2]; exact bitcast_8_32_getLsbD_ix2 x h a l q hq p hp

/-- The two mask constants bit by bit, every byte alike. -/
theorem mask_bits : ∀ q : Fin 4, ∀ i : Fin 8,
    (252645135#32).getLsbD (8 * q.val + i.val) = decide (i.val < 4) ∧ (134744072#32).getLsbD (8 * q.val + i.val) = decide (i.val = 3)
      ∧ (15#8).getLsbD i.val = decide (i.val < 4) ∧ (8#8).getLsbD i.val = decide (i.val = 3) := by decide

section
variable {R r n : Nat} (x : (⟨2, ![R, n]⟩ : Shape).Idx → BitVec 8)
  (h1 : (⟨2, ![R, n]⟩ : Shape).Bitcasts 8 ⟨2, ![r, n]⟩ 32) (h2 : (⟨2, ![r, n]⟩ : Shape).Bitcasts 32 ⟨2, ![R, n]⟩ 8)
  (p : Fin R) (l : Fin n)

/-- The word operations of the low nibble, read at a byte. -/
theorem low_word (hp : p.val / 4 < r) :
    bitcast ⟨2, ![R, n]⟩ 8 (xori (andi (bitcast ⟨2, ![r, n]⟩ 32 x h1) (broadcast ⟨2, ![r, n]⟩ 252645135#32)) (broadcast ⟨2, ![r, n]⟩ 134744072#32)) h2 (ix2 p l)
      = lowFlip (x (ix2 p l)) := by
  apply BitVec.eq_of_getLsbD_eq
  intro i hi
  obtain ⟨m1, m2, m3, m4⟩ := mask_bits ⟨p.val % 4, by omega⟩ ⟨i, hi⟩
  rw [bitcast_32_8_getLsbD_ix2 _ h2 p l i hi ⟨p.val / 4, hp⟩ rfl]
  show (((bitcast ⟨2, ![r, n]⟩ 32 x h1 (ix2 ⟨p.val / 4, hp⟩ l)) &&& 252645135#32) ^^^ 134744072#32).getLsbD _ = _
  have hq : 8 * (p.val % 4) + i < 32 := by omega
  rw [lowFlip, BitVec.getLsbD_xor, BitVec.getLsbD_and, BitVec.getLsbD_xor, BitVec.getLsbD_and, m1, m2, m3, m4,
    bitcast_8_32_getLsbD_at x h1 ⟨p.val / 4, hp⟩ l _ hq p (by show p.val = 4 * (p.val / 4) + (8 * (p.val % 4) + i) / 8; omega),
    show (8 * (p.val % 4) + i) % 8 = i by omega]

/-- The word operations of the high nibble, read at a byte. -/
theorem high_word (hp : p.val / 4 < r) :
    bitcast ⟨2, ![R, n]⟩ 8 (xori (andi (shrsi (bitcast ⟨2, ![r, n]⟩ 32 x h1) (broadcast ⟨2, ![r, n]⟩ 4#32)) (broadcast ⟨2, ![r, n]⟩ 252645135#32)) (broadcast ⟨2, ![r, n]⟩ 134744072#32)) h2 (ix2 p l)
      = highFlip (x (ix2 p l)) := by
  apply BitVec.eq_of_getLsbD_eq
  intro i hi
  obtain ⟨m1, m2, m3, m4⟩ := mask_bits ⟨p.val % 4, by omega⟩ ⟨i, hi⟩
  rw [bitcast_32_8_getLsbD_ix2 _ h2 p l i hi ⟨p.val / 4, hp⟩ rfl]
  show (((IntOp.shrsi .vector (bitcast ⟨2, ![r, n]⟩ 32 x h1 (ix2 ⟨p.val / 4, hp⟩ l)) 4#32) &&& 252645135#32) ^^^ 134744072#32).getLsbD _ = _
  have hs : ∀ w : BitVec 32, IntOp.shrsi .vector w 4#32 = w.sshiftRight 4 := fun w => by simp [IntOp.shrsi]
  rw [hs, highFlip, BitVec.getLsbD_xor, BitVec.getLsbD_and, BitVec.getLsbD_xor, m1, m2, m4, BitVec.getLsbD_sshiftRight,
    BitVec.getLsbD_ushiftRight]
  by_cases h4 : i < 4
  · have hq : 4 + (8 * (p.val % 4) + i) < 32 := by omega
    rw [if_pos hq, bitcast_8_32_getLsbD_at x h1 ⟨p.val / 4, hp⟩ l _ hq p (by show p.val = 4 * (p.val / 4) + (4 + (8 * (p.val % 4) + i)) / 8; omega),
      show (4 + (8 * (p.val % 4) + i)) % 8 = 4 + i by omega]
    simp [h4, show 8 * (p.val % 4) + i < 32 by omega]
  · simp [h4, BitVec.getLsbD_of_ge (x (ix2 p l)) (4 + i) (by omega)]

end

/-- The bf16 constant the kernel subtracts is 8. -/
theorem ofBits_eight : Ideal.ofBits .bf16 0x4100#16 = ((8 : ℝ) : EReal) := by
  simp [Ideal.ofBits, Ideal.ieee, -EReal.coe_mul]; norm_num

/-- A nibble held in 32 bits read as a signed 4-bit integer, as the reference spells it. -/
def field (n : BitVec 32) : BitVec 32 := Scalar.select (IntOp.cmpi .sge n 8#32) (n - 16#32) n

/-- The flipped low nibble less 8 is the low nibble read as a signed integer, byte by byte. -/
theorem low_int : ∀ b : BitVec 8, (lowFlip b).toInt - 8 = (field (b.setWidth 32 &&& 15#32)).toInt := by decide +kernel

/-- … and so for the high nibble. -/
theorem high_int : ∀ b : BitVec 8, (highFlip b).toInt - 8 = (field ((b.setWidth 32).sshiftRight 4)).toInt := by decide +kernel

/-- The low nibble of a byte as a signed integer, an extended real. -/
def low (b : BitVec 8) : EReal := (((field (b.setWidth 32 &&& 15#32)).toInt : ℝ) : EReal)

/-- The high nibble of a byte as a signed integer, an extended real. -/
def high (b : BitVec 8) : EReal := (((field ((b.setWidth 32).sshiftRight 4)).toInt : ℝ) : EReal)

/-- Flipping bit 3 of the low nibble and subtracting 8 reads it as a signed integer. -/
theorem low_eq (b : BitVec 8) : (((lowFlip b).toInt : ℝ) : EReal) - Ideal.ofBits .bf16 0x4100#16 = low b := by
  rw [ofBits_eight, ← EReal.coe_sub, low, ← low_int b]; push_cast; rfl

/-- … and so for the high nibble. -/
theorem high_eq (b : BitVec 8) : (((highFlip b).toInt : ℝ) : EReal) - Ideal.ofBits .bf16 0x4100#16 = high b := by
  rw [ofBits_eight, ← EReal.coe_sub, high, ← high_int b]; push_cast; rfl

end Cert.Int4
-- ==== Proof.GateUpWeight.lean ====
/- The weight scratch of `gate_up`: at the first row tile of a column tile the kernel dequantises the column tile's weight
   into a scratch (gate columns left, up columns right), 32 rows at a time, eight groups a trip, twelve trips. Here: every
   piece written holds, at each of its indices, the signed nibble times its group's scale. -/
module

public import proofs.«01_k».proof.Proof.Gen.GateUpIdeal.Value
public import proofs.«01_k».proof.Proof.GateUpBits
public import Idealize.ShloMosaic.Lib.Pipeline.ValueKit

@[expose] public section

set_option maxRecDepth 16384

noncomputable section

namespace Cert.GateUpVal

open Idealize.ShloMosaic Idealize.ShloMosaic.TcCoe Idealize.SL.Sem
open Cert.GateUpIdeal Cert.GateUpIdeal.Gen

/-- The dequantised weight of a column tile: its gate half in columns below 1024, its up half from there. -/
def weight (x2 : Vec Ideal S3072x1024 .i8) (x3 x4 : Vec Ideal S96x1024 .f32) : Vec Ideal S3072x2048 .bf16 := fun y =>
  if h : (y 1 : ℕ) < 1024 then
    Int4.low (x2 (ix2 ⟨y 0, (y 0).isLt⟩ ⟨y 1, h⟩)) * x3 (ix2 ⟨(y 0 : ℕ) / 32, by have : (y 0 : ℕ) < 3072 := (y 0).isLt; omega⟩ ⟨y 1, h⟩)
  else
    Int4.high (x2 (ix2 ⟨y 0, (y 0).isLt⟩ ⟨(y 1 : ℕ) - 1024, by have : (y 1 : ℕ) < 2048 := (y 1).isLt; omega⟩))
      * x4 (ix2 ⟨(y 0 : ℕ) / 32, by have : (y 0 : ℕ) < 3072 := (y 0).isLt; omega⟩ ⟨(y 1 : ℕ) - 1024, by have : (y 1 : ℕ) < 2048 := (y 1).isLt; omega⟩)

/-- What a group's store of the gate half holds. -/
def lowPay (s3 s4 : Vec Ideal S1x1024 .f32) (q : Vec Ideal S32x1024 .i8) : Vec Ideal S32x1024 .bf16 := k0_pay8 (k0_pay5 s3 s4 q)

/-- What a group's store of the up half holds. -/
def highPay (s3 s4 : Vec Ideal S1x1024 .f32) (q : Vec Ideal S32x1024 .i8) : Vec Ideal S32x1024 .bf16 := k0_pay9 (k0_pay4 s3 s4) (k0_pay6 q) k0_pay7

/-- A gate store at an index: the signed low nibble times the group's gate scale. -/
theorem lowPay_at (s3 s4 : Vec Ideal S1x1024 .f32) (q : Vec Ideal S32x1024 .i8) (p : Fin 32) (l : Fin 1024) :
    lowPay s3 s4 q (ix2 p l) = Int4.low (q (ix2 p l)) * s3 (ix2 0 l) := by
  have hw := Int4.low_word q bitcasts_S32x1024_w8_S8x1024_w32 bitcasts_S8x1024_w32_S32x1024_w8 p l (by omega)
  pointwise [lowPay, k0_pay8, k0_pay5, k0_pay2, k0_pay3]
  rw [← Int4.low_eq]
  exact congrArg (fun b : BitVec 8 => ((((b.toInt : ℝ) : EReal) - Ideal.ofBits .bf16 0x4100#16) * s3 (ix2 0 l))) hw

/-- An up store at an index: the signed high nibble times the group's up scale. -/
theorem highPay_at (s3 s4 : Vec Ideal S1x1024 .f32) (q : Vec Ideal S32x1024 .i8) (p : Fin 32) (l : Fin 1024) :
    highPay s3 s4 q (ix2 p l) = Int4.high (q (ix2 p l)) * s4 (ix2 0 l) := by
  have hw := Int4.high_word q bitcasts_S32x1024_w8_S8x1024_w32 bitcasts_S8x1024_w32_S32x1024_w8 p l (by omega)
  pointwise [highPay, k0_pay9, k0_pay4, k0_pay6, k0_pay7, k0_pay2, k0_pay3]
  rw [← Int4.high_eq]
  exact congrArg (fun b : BitVec 8 => ((((b.toInt : ℝ) : EReal) - Ideal.ofBits .bf16 0x4100#16) * s4 (ix2 0 l))) hw

/-! The sixteen stores' payloads are these two, cut differently by the printer. -/
theorem pay51_eq (a b : Vec Ideal S1x1024 .f32) (q : Vec Ideal S32x1024 .i8) : k0_pay51 (k0_pay47 a b) (k0_pay48 q) = highPay a b q := rfl
theorem pay50_eq (a b : Vec Ideal S1x1024 .f32) (q : Vec Ideal S32x1024 .i8) : k0_pay50 (k0_pay47 a b) (k0_pay48 q) k0_pay49 = lowPay a b q := rfl
theorem pay46_eq (a b : Vec Ideal S1x1024 .f32) (q : Vec Ideal S32x1024 .i8) : k0_pay46 (k0_pay40 a b) (k0_pay43 q) k0_pay44 = highPay a b q := rfl
theorem pay45_eq (a b : Vec Ideal S1x1024 .f32) (q : Vec Ideal S32x1024 .i8) : k0_pay45 (k0_pay40 a b) (k0_pay42 q) = lowPay a b q := rfl
theorem pay39_eq (a b : Vec Ideal S1x1024 .f32) (q : Vec Ideal S32x1024 .i8) : k0_pay39 (k0_pay33 q) (k0_pay35 a b) = highPay a b q := rfl
theorem pay38_eq (a b : Vec Ideal S1x1024 .f32) (q : Vec Ideal S32x1024 .i8) : k0_pay38 (k0_pay34 a b) (k0_pay36 q) k0_pay37 = lowPay a b q := rfl
theorem pay30_eq (a b : Vec Ideal S1x1024 .f32) (q : Vec Ideal S32x1024 .i8) : k0_pay30 (k0_pay28 a b q) = highPay a b q := rfl
theorem pay29_eq (a b : Vec Ideal S1x1024 .f32) (q : Vec Ideal S32x1024 .i8) : k0_pay29 a b q = lowPay a b q := rfl
theorem pay25_eq (a b : Vec Ideal S1x1024 .f32) (q : Vec Ideal S32x1024 .i8) : k0_pay25 a b q = highPay a b q := rfl
theorem pay24_eq (a b : Vec Ideal S1x1024 .f32) (q : Vec Ideal S32x1024 .i8) : k0_pay24 a b q = lowPay a b q := rfl
theorem pay21_eq (a b : Vec Ideal S1x1024 .f32) (q : Vec Ideal S32x1024 .i8) : k0_pay21 (k0_pay17 a b) (k0_pay18 q) = highPay a b q := rfl
theorem pay20_eq (a b : Vec Ideal S1x1024 .f32) (q : Vec Ideal S32x1024 .i8) : k0_pay20 (k0_pay17 a b) (k0_pay19 q) = lowPay a b q := rfl
theorem pay16_eq (a b : Vec Ideal S1x1024 .f32) (q : Vec Ideal S32x1024 .i8) : k0_pay16 (k0_pay10 a b) (k0_pay13 q) = highPay a b q := rfl
theorem pay15_eq (a b : Vec Ideal S1x1024 .f32) (q : Vec Ideal S32x1024 .i8) : k0_pay15 (k0_pay12 q) (k0_pay14 a b) = lowPay a b q := rfl

/-- The rows and columns of group `r` of trip `k`: scale row `8 k + r`, weight rows from `32 (8 k + r)`. -/
theorem offs : ∀ (k : Fin k0_t1_loop.trips) (r : Fin 8),
    k0_off1 k (BitVec.ofNat 32 r.val) = ![8 * k.val + r.val, 0] ∧ k0_off2 k (BitVec.ofNat 32 r.val) = ![32 * (8 * k.val + r.val), 0]
      ∧ k0_off3 k (BitVec.ofNat 32 r.val) = ![32 * (8 * k.val + r.val), 0] ∧ k0_off4 k (BitVec.ofNat 32 r.val) = ![32 * (8 * k.val + r.val), 1024] := by
  decide +kernel

section
variable (x2 : Vec Ideal S3072x1024 .i8) (x3 x4 : Vec Ideal S96x1024 .f32) (k : Fin k0_t1_loop.trips) (r : Fin 8) (y : S3072x2048.Idx)
  (h1 : ∀ a, k0_off1 k (BitVec.ofNat 32 r.val) a + S1x1024.size a ≤ S96x1024.size a)
  (h2 : ∀ a, k0_off2 k (BitVec.ofNat 32 r.val) a + S32x1024.size a ≤ S3072x1024.size a)

/-- Group `r` of trip `k`, gate half: its piece agrees with `weight` wherever it lies. -/
theorem low_tile :
    View.TileAt y (k0_off3 k (BitVec.ofNat 32 r.val)) ![32, 1024]
      (lowPay (View.ld x3 (Rect.unit (s := S96x1024) (k0_off1 k (BitVec.ofNat 32 r.val)) S1x1024.size h1))
        (View.ld x4 (Rect.unit (s := S96x1024) (k0_off1 k (BitVec.ofNat 32 r.val)) S1x1024.size h1))
        (View.ld x2 (Rect.unit (s := S3072x1024) (k0_off2 k (BitVec.ofNat 32 r.val)) S32x1024.size h2)))
      (weight x2 x3 x4 y) := by
  intro x hx
  obtain ⟨e1, e2, e3, e4⟩ := offs k r
  have y0 := hx 0
  have y1 := hx 1
  rw [e3] at y0 y1
  simp only [Matrix.cons_val_zero, Matrix.cons_val_one] at y0 y1
  have b0 : (x 0 : ℕ) < 32 := (x 0).isLt
  have b1 : (x 1 : ℕ) < 1024 := (x 1).isLt
  have ex : x = ix2 (n0 := 32) (n1 := 1024) ⟨x 0, b0⟩ ⟨x 1, b1⟩ := eq_ix2 x
  rw [ex, lowPay_at, weight, dif_pos (by omega)]
  refine Ideal.mul_congr (congrArg Int4.low (View.ld_unit_apply_of x2 _ _ h2 _ _ fun a => ?_)) (View.ld_unit_apply_of x3 _ _ h1 _ _ fun a => ?_)
  · refine Eq.trans ?_ (congrArg (fun z => z + _) (congrFun e2 a).symm)
    match a with
    | ⟨0, _⟩ => exact y0
    | ⟨1, _⟩ => show (y 1 : ℕ) = 0 + (x 1 : ℕ); omega
  · refine Eq.trans ?_ (congrArg (fun z => z + _) (congrFun e1 a).symm)
    match a with
    | ⟨0, _⟩ => show (y 0 : ℕ) / 32 = 8 * k.val + r.val + 0; omega
    | ⟨1, _⟩ => show (y 1 : ℕ) = 0 + (x 1 : ℕ); omega

/-- Group `r` of trip `k`, up half: its piece agrees with `weight` wherever it lies. -/
theorem high_tile :
    View.TileAt y (k0_off4 k (BitVec.ofNat 32 r.val)) ![32, 1024]
      (highPay (View.ld x3 (Rect.unit (s := S96x1024) (k0_off1 k (BitVec.ofNat 32 r.val)) S1x1024.size h1))
        (View.ld x4 (Rect.unit (s := S96x1024) (k0_off1 k (BitVec.ofNat 32 r.val)) S1x1024.size h1))
        (View.ld x2 (Rect.unit (s := S3072x1024) (k0_off2 k (BitVec.ofNat 32 r.val)) S32x1024.size h2)))
      (weight x2 x3 x4 y) := by
  intro x hx
  obtain ⟨e1, e2, e3, e4⟩ := offs k r
  have y0 := hx 0
  have y1 := hx 1
  rw [e4] at y0 y1
  simp only [Matrix.cons_val_zero, Matrix.cons_val_one] at y0 y1
  have b0 : (x 0 : ℕ) < 32 := (x 0).isLt
  have b1 : (x 1 : ℕ) < 1024 := (x 1).isLt
  have ex : x = ix2 (n0 := 32) (n1 := 1024) ⟨x 0, b0⟩ ⟨x 1, b1⟩ := eq_ix2 x
  rw [ex, highPay_at, weight, dif_neg (by omega)]
  refine Ideal.mul_congr (congrArg Int4.high (View.ld_unit_apply_of x2 _ _ h2 _ _ fun a => ?_)) (View.ld_unit_apply_of x4 _ _ h1 _ _ fun a => ?_)
  · refine Eq.trans ?_ (congrArg (fun z => z + _) (congrFun e2 a).symm)
    match a with
    | ⟨0, _⟩ => exact y0
    | ⟨1, _⟩ => show (y 1 : ℕ) - 1024 = 0 + (x 1 : ℕ); omega
  · refine Eq.trans ?_ (congrArg (fun z => z + _) (congrFun e1 a).symm)
    match a with
    | ⟨0, _⟩ => show (y 0 : ℕ) / 32 = 8 * k.val + r.val + 0; omega
    | ⟨1, _⟩ => show (y 1 : ℕ) - 1024 = 0 + (x 1 : ℕ); omega

end

/-- One trip's sixteen pieces all agree with `weight`. -/
theorem trip_at (𝒱 : Variants) (c : Dev nD) (bd : Option 𝒱.V) (i : grid0.Coords) (arg2 : Memref sig .tc .vmem S1024x3072 .i8) (harg2 : arg2.IsWhole) (arg3 : Memref sig .tc .vmem S1024x128 .f32) (harg3 : arg3.IsWhole) (arg4 : Memref sig .tc .vmem S3072x1024 .i8) (harg4 : arg4.IsWhole) (arg5 : Memref sig .tc .vmem S96x1024 .f32) (harg5 : arg5.IsWhole) (arg6 : Memref sig .tc .vmem S96x1024 .f32) (harg6 : arg6.IsWhole) (arg7 : Memref sig .tc .vmem S1024x1024 .f32) (harg7 : arg7.IsWhole) (arg8 : Memref sig .tc .vmem S3072x2048 .bf16) (harg8 : arg8.IsWhole) (arg9 : Memref sig .tc .vmem S1024x3072 .bf16) (harg9 : arg9.IsWhole) (k0_h1 : k0_cond1 i = 1#1)
    (x2 : Vec Ideal S3072x1024 .i8) (x3 x4 : Vec Ideal S96x1024 .f32) (k : Fin k0_t1_loop.trips) (y : S3072x2048.Idx) :
    View.AllAt (tripL_k0_t1 (F := Ideal) 𝒱 c bd i arg2 harg2 arg3 harg3 arg4 harg4 arg5 harg5 arg6 harg6 arg7 harg7 arg8 harg8 arg9 harg9 k0_h1 (harg4.unread x2) (harg5.unread x3) (harg6.unread x4) k) y (weight x2 x3 x4 y) := by
  unfold tripL_k0_t1 trip_k0_t1
  frame_out
  rw [pay51_eq, pay50_eq, pay46_eq, pay45_eq, pay39_eq, pay38_eq, pay30_eq, pay29_eq, pay25_eq, pay24_eq, pay21_eq, pay20_eq, pay16_eq, pay15_eq]
  refine View.allAt_cons_unit _ _ _ _ _ (high_tile x2 x3 x4 k 7 y _ _) ?_
  refine View.allAt_cons_unit _ _ _ _ _ (low_tile x2 x3 x4 k 7 y _ _) ?_
  refine View.allAt_cons_unit _ _ _ _ _ (high_tile x2 x3 x4 k 6 y _ _) ?_
  refine View.allAt_cons_unit _ _ _ _ _ (low_tile x2 x3 x4 k 6 y _ _) ?_
  refine View.allAt_cons_unit _ _ _ _ _ (high_tile x2 x3 x4 k 5 y _ _) ?_
  refine View.allAt_cons_unit _ _ _ _ _ (low_tile x2 x3 x4 k 5 y _ _) ?_
  refine View.allAt_cons_unit _ _ _ _ _ (high_tile x2 x3 x4 k 4 y _ _) ?_
  refine View.allAt_cons_unit _ _ _ _ _ (low_tile x2 x3 x4 k 4 y _ _) ?_
  refine View.allAt_cons_unit _ _ _ _ _ (high_tile x2 x3 x4 k 3 y _ _) ?_
  refine View.allAt_cons_unit _ _ _ _ _ (low_tile x2 x3 x4 k 3 y _ _) ?_
  refine View.allAt_cons_unit _ _ _ _ _ (high_tile x2 x3 x4 k 2 y _ _) ?_
  refine View.allAt_cons_unit _ _ _ _ _ (low_tile x2 x3 x4 k 2 y _ _) ?_
  refine View.allAt_cons_unit _ _ _ _ _ (high_tile x2 x3 x4 k 1 y _ _) ?_
  refine View.allAt_cons_unit _ _ _ _ _ (low_tile x2 x3 x4 k 1 y _ _) ?_
  refine View.allAt_cons_unit _ _ _ _ _ (high_tile x2 x3 x4 k 0 y _ _) ?_
  refine View.allAt_cons_unit _ _ _ _ _ (low_tile x2 x3 x4 k 0 y _ _) ?_
  exact View.allAt_nil _ _

/-- All the pieces of the trips before the `n`-th agree with `weight`. -/
theorem trips_at (𝒱 : Variants) (c : Dev nD) (bd : Option 𝒱.V) (i : grid0.Coords) (arg2 : Memref sig .tc .vmem S1024x3072 .i8) (harg2 : arg2.IsWhole) (arg3 : Memref sig .tc .vmem S1024x128 .f32) (harg3 : arg3.IsWhole) (arg4 : Memref sig .tc .vmem S3072x1024 .i8) (harg4 : arg4.IsWhole) (arg5 : Memref sig .tc .vmem S96x1024 .f32) (harg5 : arg5.IsWhole) (arg6 : Memref sig .tc .vmem S96x1024 .f32) (harg6 : arg6.IsWhole) (arg7 : Memref sig .tc .vmem S1024x1024 .f32) (harg7 : arg7.IsWhole) (arg8 : Memref sig .tc .vmem S3072x2048 .bf16) (harg8 : arg8.IsWhole) (arg9 : Memref sig .tc .vmem S1024x3072 .bf16) (harg9 : arg9.IsWhole) (k0_h1 : k0_cond1 i = 1#1)
    (x2 : Vec Ideal S3072x1024 .i8) (x3 x4 : Vec Ideal S96x1024 .f32) (y : S3072x2048.Idx) : ∀ n : ℕ, n ≤ k0_t1_loop.trips →
    View.AllAt (pb_k0_t1 (F := Ideal) 𝒱 c bd i arg2 harg2 arg3 harg3 arg4 harg4 arg5 harg5 arg6 harg6 arg7 harg7 arg8 harg8 arg9 harg9 k0_h1 (harg4.unread x2) (harg5.unread x3) (harg6.unread x4) n) y (weight x2 x3 x4 y)
  | 0, _ => View.allAt_nil _ _
  | n + 1, h => by
    rw [pb_k0_t1_succ 𝒱 c bd i arg2 harg2 arg3 harg3 arg4 harg4 arg5 harg5 arg6 harg6 arg7 harg7 arg8 harg8 arg9 harg9 k0_h1 (harg4.unread x2) (harg5.unread x3) (harg6.unread x4) ⟨n, h⟩]
    intro p hp
    rcases List.mem_append.mp hp with hp | hp
    · exact trip_at 𝒱 c bd i arg2 harg2 arg3 harg3 arg4 harg4 arg5 harg5 arg6 harg6 arg7 harg7 arg8 harg8 arg9 harg9 k0_h1 x2 x3 x4 ⟨n, h⟩ y p hp
    · exact trips_at 𝒱 c bd i arg2 harg2 arg3 harg3 arg4 harg4 arg5 harg5 arg6 harg6 arg7 harg7 arg8 harg8 arg9 harg9 k0_h1 x2 x3 x4 y n (Nat.le_of_succ_le h) p hp

end Cert.GateUpVal
-- ==== Proof.GateUpBlock.lean ====
/- A grid point of `gate_up`: its activations are the codes less their row's zero point, its output tile is the gated
   product of the activations with the two halves of the weight scratch. Both cases of the body compute this one function. -/
module

public import proofs.«01_k».proof.Proof.GateUpWeight
public import Idealize.ShloMosaic.Lib.Pointwise

@[expose] public section

set_option maxRecDepth 16384

noncomputable section

namespace Cert.GateUpVal

open Idealize.ShloMosaic Idealize.ShloMosaic.TcCoe Idealize.SL.Sem
open Cert.GateUpIdeal Cert.GateUpIdeal.Gen

/-- A covered load of writes whose pieces leave `w` reads `w`. -/
theorem cov_ld {sig : RefSig} {κ : Kind} {sp : Space} {s : Shape} {e : EltTy} (v : View sig κ sp s e) (L : List (View.Piece (Elt Ideal) s e)) (r : Rect s)
    (w : s.Idx → Elt Ideal e) (h : View.canon L = w) : v.readCov L r.toLoadRect = View.ld w r := by
  rw [View.readCov_eq_canon', h]

/-- The first point of a column tile leaves the column tile's weight in the scratch. -/
theorem filled (c : Dev nD) (i : grid0.Coords) (arg2 : Memref sig .tc .vmem S1024x3072 .i8) (harg2 : arg2.IsWhole) (arg3 : Memref sig .tc .vmem S1024x128 .f32) (harg3 : arg3.IsWhole) (arg4 : Memref sig .tc .vmem S3072x1024 .i8) (harg4 : arg4.IsWhole) (arg5 : Memref sig .tc .vmem S96x1024 .f32) (harg5 : arg5.IsWhole) (arg6 : Memref sig .tc .vmem S96x1024 .f32) (harg6 : arg6.IsWhole) (arg7 : Memref sig .tc .vmem S1024x1024 .f32) (harg7 : arg7.IsWhole) (arg8 : Memref sig .tc .vmem S3072x2048 .bf16) (harg8 : arg8.IsWhole) (arg9 : Memref sig .tc .vmem S1024x3072 .bf16) (harg9 : arg9.IsWhole) (hc0 : cond0_0 i) (x0 : Vec Ideal S1024x3072 .i8) (x1 : Vec Ideal S1024x128 .f32) (x2 : Vec Ideal S3072x1024 .i8) (x3 x4 : Vec Ideal S96x1024 .f32) :
    View.canon (pb_k0_t1 (F := Ideal) Variants.none c none i arg2 harg2 arg3 harg3 arg4 harg4 arg5 harg5 arg6 harg6 arg7 harg7 arg8 harg8 arg9 harg9 hc0 (harg4.unread x2) (harg5.unread x3) (harg6.unread x4) (Scf.trips k0_t1_loop.lb k0_t1_loop.ub k0_t1_loop.st)) = weight x2 x3 x4 :=
  funext fun y => View.canon_eq_of_allAt _ _ _ (scover0_A_0 c i arg2 harg2 arg3 harg3 arg4 harg4 arg5 harg5 arg6 harg6 arg7 harg7 arg8 harg8 arg9 harg9 hc0 x0 x1 x2 x3 x4 y)
    (trips_at Variants.none c none i arg2 harg2 arg3 harg3 arg4 harg4 arg5 harg5 arg6 harg6 arg7 harg7 arg8 harg8 arg9 harg9 hc0 x2 x3 x4 y _ le_rfl)

theorem sout0_A (c : Dev nD) (i : grid0.Coords) (arg2 : Memref sig .tc .vmem S1024x3072 .i8) (harg2 : arg2.IsWhole) (arg3 : Memref sig .tc .vmem S1024x128 .f32) (harg3 : arg3.IsWhole) (arg4 : Memref sig .tc .vmem S3072x1024 .i8) (harg4 : arg4.IsWhole) (arg5 : Memref sig .tc .vmem S96x1024 .f32) (harg5 : arg5.IsWhole) (arg6 : Memref sig .tc .vmem S96x1024 .f32) (harg6 : arg6.IsWhole) (arg7 : Memref sig .tc .vmem S1024x1024 .f32) (harg7 : arg7.IsWhole) (arg8 : Memref sig .tc .vmem S3072x2048 .bf16) (harg8 : arg8.IsWhole) (arg9 : Memref sig .tc .vmem S1024x3072 .bf16) (harg9 : arg9.IsWhole) (hc0 : cond0_0 i) (x0 : Vec Ideal S1024x3072 .i8) (x1 : Vec Ideal S1024x128 .f32) (x2 : Vec Ideal S3072x1024 .i8) (x3 x4 : Vec Ideal S96x1024 .f32) :
    sout0_A_0 (F := Ideal) c i arg2 harg2 arg3 harg3 arg4 harg4 arg5 harg5 arg6 harg6 arg7 harg7 arg8 harg8 arg9 harg9 hc0 x0 x1 x2 x3 x4 = weight x2 x3 x4 := by
  refine Eq.trans ?_ (filled c i arg2 harg2 arg3 harg3 arg4 harg4 arg5 harg5 arg6 harg6 arg7 harg7 arg8 harg8 arg9 harg9 hc0 x0 x1 x2 x3 x4)
  unfold sout0_A_0
  rw [View.read_writes_junk_eq_canon]
  rfl

/-- The activations of a point: the codes less their row's zero point. -/
def acts (x0 : Vec Ideal S1024x3072 .i8) (x1 : Vec Ideal S1024x128 .f32) : Vec Ideal S1024x3072 .bf16 := fun y =>
  (((x0 y : BitVec 8).toInt : ℝ) : EReal) - x1 (ix2 ⟨y 0, (y 0).isLt⟩ 1)

/-- What a store of 64 rows of activations holds. -/
def actPay (s : Vec Ideal S64x1 .f32) (q : Vec Ideal S64x3072 .i8) : Vec Ideal S64x3072 .bf16 := k0_pay52 s q

theorem actPay_at (s : Vec Ideal S64x1 .f32) (q : Vec Ideal S64x3072 .i8) (p : Fin 64) (l : Fin 3072) :
    actPay s q (ix2 p l) = (((q (ix2 p l) : BitVec 8).toInt : ℝ) : EReal) - s (ix2 p 0) := by
  pointwise! [actPay, k0_pay52]

/-- A store of the rows from `o` agrees with the activations wherever it lies. -/
theorem act_tile (x0 : Vec Ideal S1024x3072 .i8) (x1 : Vec Ideal S1024x128 .f32) (o : ℕ) (y : S1024x3072.Idx)
    (h1 : ∀ a, (![o, 1] : Fin 2 → ℕ) a + S64x1.size a ≤ S1024x128.size a) (h0 : ∀ a, (![o, 0] : Fin 2 → ℕ) a + S64x3072.size a ≤ S1024x3072.size a) :
    View.TileAt y ![o, 0] S64x3072.size
      (actPay (View.ld x1 (Rect.unit (s := S1024x128) ![o, 1] S64x1.size h1)) (View.ld x0 (Rect.unit (s := S1024x3072) ![o, 0] S64x3072.size h0))) (acts x0 x1 y) := by
  intro x hx
  have y0 := hx 0
  have y1 := hx 1
  simp only [Matrix.cons_val_zero, Matrix.cons_val_one] at y0 y1
  have b0 : (x 0 : ℕ) < 64 := (x 0).isLt
  have b1 : (x 1 : ℕ) < 3072 := (x 1).isLt
  have ex : x = ix2 (n0 := 64) (n1 := 3072) ⟨x 0, b0⟩ ⟨x 1, b1⟩ := eq_ix2 x
  rw [ex, actPay_at, acts]
  refine congrArg₂ (fun (a : BitVec 8) (b : EReal) => (((a.toInt : ℝ) : EReal)) - b) (View.ld_unit_apply_of x0 _ _ h0 _ _ fun a => ?_) (View.ld_unit_apply_of x1 _ _ h1 _ _ fun a => ?_)
  · match a with
    | ⟨0, _⟩ => exact y0
    | ⟨1, _⟩ => exact y1
  · match a with
    | ⟨0, _⟩ => exact y0
    | ⟨1, _⟩ => rfl

/-- A load of a whole block through its view reads the block. -/
theorem act_ld {sig : RefSig} {κ : Kind} {sp : Space} {s : Shape} {e : EltTy} (a : Memref sig κ sp s e) (h : a.IsWhole) (x : s.Idx → Elt Ideal e) (r : Rect s) :
    View.readAt (Elt Ideal) a.view r.toLoadRect (h.unread x) = View.ld x r := by
  frame_out

/-! The sixteen stores' payloads are this one, cut differently by the printer. -/
theorem act71_eq (s : Vec Ideal S64x1 .f32) (q : Vec Ideal S64x3072 .i8) : k0_pay71 s q = actPay s q := rfl
theorem act70_eq (s : Vec Ideal S64x1 .f32) (q : Vec Ideal S64x3072 .i8) : k0_pay70 (k0_pay68 s) (k0_pay69 q) = actPay s q := rfl
theorem act67_eq (s : Vec Ideal S64x1 .f32) (q : Vec Ideal S64x3072 .i8) : k0_pay67 s q = actPay s q := rfl
theorem act66_eq (s : Vec Ideal S64x1 .f32) (q : Vec Ideal S64x3072 .i8) : k0_pay66 s q = actPay s q := rfl
theorem act65_eq (s : Vec Ideal S64x1 .f32) (q : Vec Ideal S64x3072 .i8) : k0_pay65 s q = actPay s q := rfl
theorem act64_eq (s : Vec Ideal S64x1 .f32) (q : Vec Ideal S64x3072 .i8) : k0_pay64 (k0_pay63 s q) = actPay s q := rfl
theorem act62_eq (s : Vec Ideal S64x1 .f32) (q : Vec Ideal S64x3072 .i8) : k0_pay62 s q = actPay s q := rfl
theorem act61_eq (s : Vec Ideal S64x1 .f32) (q : Vec Ideal S64x3072 .i8) : k0_pay61 s q = actPay s q := rfl
theorem act60_eq (s : Vec Ideal S64x1 .f32) (q : Vec Ideal S64x3072 .i8) : k0_pay60 s q = actPay s q := rfl
theorem act59_eq (s : Vec Ideal S64x1 .f32) (q : Vec Ideal S64x3072 .i8) : k0_pay59 s q = actPay s q := rfl
theorem act58_eq (s : Vec Ideal S64x1 .f32) (q : Vec Ideal S64x3072 .i8) : k0_pay58 s q = actPay s q := rfl
theorem act57_eq (s : Vec Ideal S64x1 .f32) (q : Vec Ideal S64x3072 .i8) : k0_pay57 s q = actPay s q := rfl
theorem act56_eq (s : Vec Ideal S64x1 .f32) (q : Vec Ideal S64x3072 .i8) : k0_pay56 (k0_pay55 s) q = actPay s q := rfl
theorem act54_eq (s : Vec Ideal S64x1 .f32) (q : Vec Ideal S64x3072 .i8) : k0_pay54 s q = actPay s q := rfl
theorem act53_eq (s : Vec Ideal S64x1 .f32) (q : Vec Ideal S64x3072 .i8) : k0_pay53 s q = actPay s q := rfl
theorem act52_eq (s : Vec Ideal S64x1 .f32) (q : Vec Ideal S64x3072 .i8) : k0_pay52 s q = actPay s q := rfl

/-- Case A's stores of the activations leave them whole. -/
theorem acts_A (c : Dev nD) (arg2 : Memref sig .tc .vmem S1024x3072 .i8) (harg2 : arg2.IsWhole) (arg3 : Memref sig .tc .vmem S1024x128 .f32) (harg3 : arg3.IsWhole) (x0 : Vec Ideal S1024x3072 .i8) (x1 : Vec Ideal S1024x128 .f32) :
    View.canon (kernelRun0_A.sl.HS1_16 c arg2 harg2 arg3 harg3 x0 x1) = acts x0 x1 := by
  funext y
  have hc : ∃ p ∈ kernelRun0_A.sl.HS1_16 c arg2 harg2 arg3 harg3 x0 x1, y ∈ p.1.set := View.cover_of_tiledL (s := S1024x3072) _ ![64, 3072] (by sl_kernel_rfl) y
  refine View.canon_eq_of_allAt _ _ _ hc ?_
  clear hc
  frame_out
  rw [act71_eq, act70_eq, act67_eq, act66_eq, act65_eq, act64_eq, act62_eq, act61_eq, act60_eq, act59_eq, act58_eq, act57_eq, act56_eq, act54_eq, act53_eq, act52_eq]
  refine View.allAt_cons_unit _ _ _ _ _ (act_tile x0 x1 960 y _ _) ?_
  refine View.allAt_cons_unit _ _ _ _ _ (act_tile x0 x1 896 y _ _) ?_
  refine View.allAt_cons_unit _ _ _ _ _ (act_tile x0 x1 832 y _ _) ?_
  refine View.allAt_cons_unit _ _ _ _ _ (act_tile x0 x1 768 y _ _) ?_
  refine View.allAt_cons_unit _ _ _ _ _ (act_tile x0 x1 704 y _ _) ?_
  refine View.allAt_cons_unit _ _ _ _ _ (act_tile x0 x1 640 y _ _) ?_
  refine View.allAt_cons_unit _ _ _ _ _ (act_tile x0 x1 576 y _ _) ?_
  refine View.allAt_cons_unit _ _ _ _ _ (act_tile x0 x1 512 y _ _) ?_
  refine View.allAt_cons_unit _ _ _ _ _ (act_tile x0 x1 448 y _ _) ?_
  refine View.allAt_cons_unit _ _ _ _ _ (act_tile x0 x1 384 y _ _) ?_
  refine View.allAt_cons_unit _ _ _ _ _ (act_tile x0 x1 320 y _ _) ?_
  refine View.allAt_cons_unit _ _ _ _ _ (act_tile x0 x1 256 y _ _) ?_
  refine View.allAt_cons_unit _ _ _ _ _ (act_tile x0 x1 192 y _ _) ?_
  refine View.allAt_cons_unit _ _ _ _ _ (act_tile x0 x1 128 y _ _) ?_
  refine View.allAt_cons_unit _ _ _ _ _ (act_tile x0 x1 64 y _ _) ?_
  refine View.allAt_cons_unit _ _ _ _ _ (act_tile x0 x1 0 y _ _) ?_
  exact View.allAt_nil _ _

theorem v150_A (c : Dev nD) (arg2 : Memref sig .tc .vmem S1024x3072 .i8) (harg2 : arg2.IsWhole) (arg3 : Memref sig .tc .vmem S1024x128 .f32) (harg3 : arg3.IsWhole) (arg9 : Memref sig .tc .vmem S1024x3072 .bf16) (x0 : Vec Ideal S1024x3072 .i8) (x1 : Vec Ideal S1024x128 .f32) :
    kernelRun0_A.sl.v150 c arg2 harg2 arg3 harg3 arg9 x0 x1 = acts x0 x1 := by
  unfold kernelRun0_A.sl.v150
  rw [cov_ld _ _ _ _ (acts_A c arg2 harg2 arg3 harg3 x0 x1)]
  funext y
  exact View.ld_unit_apply_of _ _ _ _ _ _ fun a => by match a with
    | ⟨0, _⟩ => exact (Nat.zero_add _).symm
    | ⟨1, _⟩ => exact (Nat.zero_add _).symm

/-- Case B's stores of the activations leave them whole. -/
theorem acts_B (c : Dev nD) (arg2 : Memref sig .tc .vmem S1024x3072 .i8) (harg2 : arg2.IsWhole) (arg3 : Memref sig .tc .vmem S1024x128 .f32) (harg3 : arg3.IsWhole) (x0 : Vec Ideal S1024x3072 .i8) (x1 : Vec Ideal S1024x128 .f32) :
    View.canon (kernelRun0_B.sl.HS1_16 c arg2 harg2 arg3 harg3 x0 x1) = acts x0 x1 := by
  funext y
  have hc : ∃ p ∈ kernelRun0_B.sl.HS1_16 c arg2 harg2 arg3 harg3 x0 x1, y ∈ p.1.set := View.cover_of_tiledL (s := S1024x3072) _ ![64, 3072] (by sl_kernel_rfl) y
  refine View.canon_eq_of_allAt _ _ _ hc ?_
  clear hc
  frame_out
  rw [act71_eq, act70_eq, act67_eq, act66_eq, act65_eq, act64_eq, act62_eq, act61_eq, act60_eq, act59_eq, act58_eq, act57_eq, act56_eq, act54_eq, act53_eq, act52_eq]
  refine View.allAt_cons_unit _ _ _ _ _ (act_tile x0 x1 960 y _ _) ?_
  refine View.allAt_cons_unit _ _ _ _ _ (act_tile x0 x1 896 y _ _) ?_
  refine View.allAt_cons_unit _ _ _ _ _ (act_tile x0 x1 832 y _ _) ?_
  refine View.allAt_cons_unit _ _ _ _ _ (act_tile x0 x1 768 y _ _) ?_
  refine View.allAt_cons_unit _ _ _ _ _ (act_tile x0 x1 704 y _ _) ?_
  refine View.allAt_cons_unit _ _ _ _ _ (act_tile x0 x1 640 y _ _) ?_
  refine View.allAt_cons_unit _ _ _ _ _ (act_tile x0 x1 576 y _ _) ?_
  refine View.allAt_cons_unit _ _ _ _ _ (act_tile x0 x1 512 y _ _) ?_
  refine View.allAt_cons_unit _ _ _ _ _ (act_tile x0 x1 448 y _ _) ?_
  refine View.allAt_cons_unit _ _ _ _ _ (act_tile x0 x1 384 y _ _) ?_
  refine View.allAt_cons_unit _ _ _ _ _ (act_tile x0 x1 320 y _ _) ?_
  refine View.allAt_cons_unit _ _ _ _ _ (act_tile x0 x1 256 y _ _) ?_
  refine View.allAt_cons_unit _ _ _ _ _ (act_tile x0 x1 192 y _ _) ?_
  refine View.allAt_cons_unit _ _ _ _ _ (act_tile x0 x1 128 y _ _) ?_
  refine View.allAt_cons_unit _ _ _ _ _ (act_tile x0 x1 64 y _ _) ?_
  refine View.allAt_cons_unit _ _ _ _ _ (act_tile x0 x1 0 y _ _) ?_
  exact View.allAt_nil _ _

theorem v150_B (c : Dev nD) (arg2 : Memref sig .tc .vmem S1024x3072 .i8) (harg2 : arg2.IsWhole) (arg3 : Memref sig .tc .vmem S1024x128 .f32) (harg3 : arg3.IsWhole) (arg9 : Memref sig .tc .vmem S1024x3072 .bf16) (x0 : Vec Ideal S1024x3072 .i8) (x1 : Vec Ideal S1024x128 .f32) :
    kernelRun0_B.sl.v150 c arg2 harg2 arg3 harg3 arg9 x0 x1 = acts x0 x1 := by
  unfold kernelRun0_B.sl.v150
  rw [cov_ld _ _ _ _ (acts_B c arg2 harg2 arg3 harg3 x0 x1)]
  funext y
  exact View.ld_unit_apply_of _ _ _ _ _ _ fun a => by match a with
    | ⟨0, _⟩ => exact (Nat.zero_add _).symm
    | ⟨1, _⟩ => exact (Nat.zero_add _).symm

/-- Four tiles of 256 columns, each the gated product of the activations with its two column tiles of `W`. -/
def tilePay (s : Vec Ideal S1024x1 .f32) (a : Vec Ideal S1024x3072 .bf16) (wg wu : Vec Ideal S3072x256 .bf16) : Vec Ideal S1024x256 .f32 := k0_pay73 s a wg a wu

/-- The gated value from its two sums and the row's scale. -/
def gated (g u s : EReal) : EReal := u * s * (g * s) * Ideal.logistic (g * s)

theorem tilePay_at (s : Vec Ideal S1024x1 .f32) (a : Vec Ideal S1024x3072 .bf16) (wg wu : Vec Ideal S3072x256 .bf16) (p : Fin 1024) (l : Fin 256) :
    tilePay s a wg wu (ix2 p l) = gated (∑ k : Fin 3072, a (ix2 p k) * wg (ix2 k l)) (∑ k : Fin 3072, a (ix2 p k) * wu (ix2 k l)) (s (ix2 p 0)) := by
  pointwise! [tilePay, gated, k0_pay73, k0_pay72]

/-- A point's output tile. -/
def outv (a : Vec Ideal S1024x3072 .bf16) (x1 : Vec Ideal S1024x128 .f32) (W : Vec Ideal S3072x2048 .bf16) : Vec Ideal S1024x1024 .f32 := fun y =>
  gated (∑ k : Fin 3072, a (ix2 ⟨y 0, (y 0).isLt⟩ k) * W (ix2 k ⟨y 1, by have : (y 1 : ℕ) < 1024 := (y 1).isLt; omega⟩))
    (∑ k : Fin 3072, a (ix2 ⟨y 0, (y 0).isLt⟩ k) * W (ix2 k ⟨1024 + (y 1 : ℕ), by have : (y 1 : ℕ) < 1024 := (y 1).isLt; omega⟩))
    (x1 (ix2 ⟨y 0, (y 0).isLt⟩ 0))

theorem out_tile (a : Vec Ideal S1024x3072 .bf16) (x1 : Vec Ideal S1024x128 .f32) (W : Vec Ideal S3072x2048 .bf16) (o o' : ℕ) (ho : o' = 1024 + o) (y : S1024x1024.Idx)
    (hs : ∀ a, (![0, 0] : Fin 2 → ℕ) a + S1024x1.size a ≤ S1024x128.size a) (hg : ∀ a, (![0, o] : Fin 2 → ℕ) a + S3072x256.size a ≤ S3072x2048.size a)
    (hu : ∀ a, (![0, o'] : Fin 2 → ℕ) a + S3072x256.size a ≤ S3072x2048.size a) :
    View.TileAt y ![0, o] S1024x256.size
      (tilePay (View.ld x1 (Rect.unit (s := S1024x128) ![0, 0] S1024x1.size hs)) a (View.ld W (Rect.unit (s := S3072x2048) ![0, o] S3072x256.size hg)) (View.ld W (Rect.unit (s := S3072x2048) ![0, o'] S3072x256.size hu)))
      (outv a x1 W y) := by
  intro x hx
  subst ho
  have y0 := hx 0
  have y1 := hx 1
  simp only [Matrix.cons_val_zero, Matrix.cons_val_one] at y0 y1
  have b0 : (x 0 : ℕ) < 1024 := (x 0).isLt
  have b1 : (x 1 : ℕ) < 256 := (x 1).isLt
  have ex : x = ix2 (n0 := 1024) (n1 := 256) ⟨x 0, b0⟩ ⟨x 1, b1⟩ := eq_ix2 x
  have hr : (⟨y 0, (y 0).isLt⟩ : Fin 1024) = ⟨x 0, b0⟩ := Fin.ext (y0.trans (Nat.zero_add _))
  rw [ex, tilePay_at, outv, hr]
  congr 1
  · refine Finset.sum_congr rfl fun k _ => Ideal.mul_congr rfl (View.ld_unit_apply_of W _ _ hg _ _ fun a => ?_)
    match a with
    | ⟨0, _⟩ => exact (Nat.zero_add _).symm
    | ⟨1, _⟩ => exact y1
  · refine Finset.sum_congr rfl fun k _ => Ideal.mul_congr rfl (View.ld_unit_apply_of W _ _ hu _ _ fun a => ?_)
    match a with
    | ⟨0, _⟩ => exact (Nat.zero_add _).symm
    | ⟨1, _⟩ => show 1024 + (y 1 : ℕ) = 1024 + o + (x 1 : ℕ); omega
  · refine View.ld_unit_apply_of x1 _ _ hs _ _ fun a => ?_
    match a with
    | ⟨0, _⟩ => exact (Nat.zero_add _).symm
    | ⟨1, _⟩ => rfl

theorem out73_eq (s : Vec Ideal S1024x1 .f32) (a : Vec Ideal S1024x3072 .bf16) (wg wu : Vec Ideal S3072x256 .bf16) : k0_pay73 s a wg a wu = tilePay s a wg wu := rfl
theorem out74_eq (s : Vec Ideal S1024x1 .f32) (a : Vec Ideal S1024x3072 .bf16) (wg wu : Vec Ideal S3072x256 .bf16) : k0_pay74 (k0_pay72 s) a wg a wu = tilePay s a wg wu := rfl
theorem out75_eq (s : Vec Ideal S1024x1 .f32) (a : Vec Ideal S1024x3072 .bf16) (wg wu : Vec Ideal S3072x256 .bf16) : k0_pay75 (k0_pay72 s) a wg a wu = tilePay s a wg wu := rfl
theorem out1_eq (s : Vec Ideal S1024x1 .f32) (a : Vec Ideal S1024x3072 .bf16) (wg wu : Vec Ideal S3072x256 .bf16) :
    k0_pay1 (k0_pay72 s) (k0_pay76 (k0_pay72 s) a wg) a wu (constant (F := Ideal) S1024x256 .f32 0x00000000#32) = tilePay s a wg wu := rfl

theorem out_A (c : Dev nD) (i : grid0.Coords) (arg2 : Memref sig .tc .vmem S1024x3072 .i8) (harg2 : arg2.IsWhole) (arg3 : Memref sig .tc .vmem S1024x128 .f32) (harg3 : arg3.IsWhole) (arg4 : Memref sig .tc .vmem S3072x1024 .i8) (harg4 : arg4.IsWhole) (arg5 : Memref sig .tc .vmem S96x1024 .f32) (harg5 : arg5.IsWhole) (arg6 : Memref sig .tc .vmem S96x1024 .f32) (harg6 : arg6.IsWhole) (arg7 : Memref sig .tc .vmem S1024x1024 .f32) (harg7 : arg7.IsWhole) (arg8 : Memref sig .tc .vmem S3072x2048 .bf16) (harg8 : arg8.IsWhole) (arg9 : Memref sig .tc .vmem S1024x3072 .bf16) (harg9 : arg9.IsWhole) (hc0 : cond0_0 i) (x0 : Vec Ideal S1024x3072 .i8) (x1 : Vec Ideal S1024x128 .f32) (x2 : Vec Ideal S3072x1024 .i8) (x3 x4 : Vec Ideal S96x1024 .f32) :
    out0_A_5 (F := Ideal) c i arg2 harg2 arg3 harg3 arg4 harg4 arg5 harg5 arg6 harg6 arg7 harg7 arg8 harg8 arg9 harg9 hc0 x0 x1 x2 x3 x4 = outv (acts x0 x1) x1 (weight x2 x3 x4) := by
  funext y
  have hcov := cover0_A_5 (F := Ideal) c i arg2 harg2 arg3 harg3 arg4 harg4 arg5 harg5 arg6 harg6 arg7 harg7 arg8 harg8 arg9 harg9 hc0 x0 x1 x2 x3 x4 y
  unfold out0_A_5
  rw [View.read_writes_junk_eq_canon]
  refine View.canon_eq_of_allAt _ _ _ hcov ?_
  clear hcov
  unfold kernelRun0_A
  dsimp only
  unfold kernelRun0_A.sl.r_6 kernelRun0_A.sl.r_4 kernelRun0_A.sl.r_5 kernelRun0_A.sl.r_7 kernelRun0_A.sl.cst_122
  dsimp only
  simp only [v150_A, act_ld]

  simp only [cov_ld _ _ _ _ (filled c i arg2 harg2 arg3 harg3 arg4 harg4 arg5 harg5 arg6 harg6 arg7 harg7 arg8 harg8 arg9 harg9 hc0 x0 x1 x2 x3 x4)]
  rw [out1_eq, out75_eq, out74_eq, out73_eq]
  refine View.allAt_cons_unit _ _ _ _ _ (out_tile (acts x0 x1) x1 (weight x2 x3 x4) 768 1792 rfl y _ _ _) ?_
  refine View.allAt_cons_unit _ _ _ _ _ (out_tile (acts x0 x1) x1 (weight x2 x3 x4) 512 1536 rfl y _ _ _) ?_
  refine View.allAt_cons_unit _ _ _ _ _ (out_tile (acts x0 x1) x1 (weight x2 x3 x4) 256 1280 rfl y _ _ _) ?_
  refine View.allAt_cons_unit _ _ _ _ _ (out_tile (acts x0 x1) x1 (weight x2 x3 x4) 0 1024 rfl y _ _ _) ?_
  exact View.allAt_nil _ _

theorem out_B (c : Dev nD) (i : grid0.Coords) (arg2 : Memref sig .tc .vmem S1024x3072 .i8) (harg2 : arg2.IsWhole) (arg3 : Memref sig .tc .vmem S1024x128 .f32) (harg3 : arg3.IsWhole) (arg4 : Memref sig .tc .vmem S3072x1024 .i8) (harg4 : arg4.IsWhole) (arg5 : Memref sig .tc .vmem S96x1024 .f32) (harg5 : arg5.IsWhole) (arg6 : Memref sig .tc .vmem S96x1024 .f32) (harg6 : arg6.IsWhole) (arg7 : Memref sig .tc .vmem S1024x1024 .f32) (harg7 : arg7.IsWhole) (arg8 : Memref sig .tc .vmem S3072x2048 .bf16) (harg8 : arg8.IsWhole) (arg9 : Memref sig .tc .vmem S1024x3072 .bf16) (harg9 : arg9.IsWhole) (hc0 : ¬cond0_0 i) (x0 : Vec Ideal S1024x3072 .i8) (x1 : Vec Ideal S1024x128 .f32) (x2 : Vec Ideal S3072x1024 .i8) (x3 x4 : Vec Ideal S96x1024 .f32) (xs0 : Vec Ideal S3072x2048 .bf16) :
    out0_B_5 (F := Ideal) c i arg2 harg2 arg3 harg3 arg4 harg4 arg5 harg5 arg6 harg6 arg7 harg7 arg8 harg8 arg9 harg9 hc0 x0 x1 x2 x3 x4 xs0 = outv (acts x0 x1) x1 xs0 := by
  funext y
  have hcov := cover0_B_5 (F := Ideal) c i arg2 harg2 arg3 harg3 arg4 harg4 arg5 harg5 arg6 harg6 arg7 harg7 arg8 harg8 arg9 harg9 hc0 x0 x1 x2 x3 x4 xs0 y
  unfold out0_B_5
  rw [View.read_writes_junk_eq_canon]
  refine View.canon_eq_of_allAt _ _ _ hcov ?_
  clear hcov
  unfold kernelRun0_B
  dsimp only
  unfold kernelRun0_B.sl.r_6 kernelRun0_B.sl.r_4 kernelRun0_B.sl.r_5 kernelRun0_B.sl.r_7 kernelRun0_B.sl.cst_122
  dsimp only
  simp only [v150_B, act_ld]

  rw [out1_eq, out75_eq, out74_eq, out73_eq]
  refine View.allAt_cons_unit _ _ _ _ _ (out_tile (acts x0 x1) x1 xs0 768 1792 rfl y _ _ _) ?_
  refine View.allAt_cons_unit _ _ _ _ _ (out_tile (acts x0 x1) x1 xs0 512 1536 rfl y _ _ _) ?_
  refine View.allAt_cons_unit _ _ _ _ _ (out_tile (acts x0 x1) x1 xs0 256 1280 rfl y _ _ _) ?_
  refine View.allAt_cons_unit _ _ _ _ _ (out_tile (acts x0 x1) x1 xs0 0 1024 rfl y _ _ _) ?_
  exact View.allAt_nil _ _

end Cert.GateUpVal
-- ==== Proof.GateUpRef.lean ====
/- The reference of `gate_up` at an index: the gated product of the centred codes with the signed nibbles times their
   groups' scales. -/
module

public import proofs.«01_k».proof.Proof.Gen.GateUpRefIdeal.Run
public import proofs.«01_k».proof.Proof.GateUpBits
public import Idealize.ShloMosaic.Lib.Pointwise

@[expose] public section

set_option maxRecDepth 16384

noncomputable section

namespace Cert.GateUpRefVal

open Idealize.ShloMosaic Idealize.ShloMosaic.TcCoe Idealize.SL.Sem
open Cert.GateUpRefIdeal Cert.GateUpRefIdeal.Gen

/-- The gated product at row `r`, column `l`, over the four arguments. -/
def gateUp (codes : Vec Ideal S12288x3072 .i8) (aux : Vec Ideal S12288x128 .f32) (wq : Vec Ideal S3072x8192 .i8) (ws : Vec Ideal S96x16384 .f32)
    (r : Fin 12288) (l : Fin 8192) : EReal :=
  let g : EReal := (∑ k : Fin 3072, ((((codes (ix2 r k) : BitVec 8).toInt : ℝ) : EReal) - aux (ix2 r 1))
    * (Int4.low (wq (ix2 k l)) * ws (ix2 ⟨(k : ℕ) / 32, by omega⟩ ⟨(l : ℕ), by omega⟩))) * aux (ix2 r 0)
  let u : EReal := (∑ k : Fin 3072, ((((codes (ix2 r k) : BitVec 8).toInt : ℝ) : EReal) - aux (ix2 r 1))
    * (Int4.high (wq (ix2 k l)) * ws (ix2 ⟨(k : ℕ) / 32, by omega⟩ ⟨8192 + (l : ℕ), by omega⟩))) * aux (ix2 r 0)
  u * g * Ideal.logistic g

theorem ext_int (b : BitVec 8) : (FloatOps.sitofp .f32 (BitVec.signExtend 32 b) : Ideal .f32) = (((b.toInt : ℝ)) : EReal) := by
  show (((BitVec.signExtend 32 b).toInt : ℝ) : EReal) = _
  rw [BitVec.toInt_signExtend_of_le (by omega)]

theorem ref_low (b : BitVec 8) : (FloatOps.sitofp .bf16 (Scalar.select
    (IntOp.cmpi .sge (IntOp.andi (BitVec.setWidth 32 b) 15#32) 8#32) (IntOp.subi (IntOp.andi (BitVec.setWidth 32 b) 15#32) 16#32)
    (IntOp.andi (BitVec.setWidth 32 b) 15#32)) : Ideal .bf16) = Int4.low b := rfl

theorem ref_high (b : BitVec 8) : (FloatOps.sitofp .bf16 (Scalar.select
    (IntOp.cmpi .sge (IntOp.shrsi .host (BitVec.setWidth 32 b) 4#32) 8#32) (IntOp.subi (IntOp.shrsi .host (BitVec.setWidth 32 b) 4#32) 16#32)
    (IntOp.shrsi .host (BitVec.setWidth 32 b) 4#32)) : Ideal .bf16) = Int4.high b := rfl

/-- The reference's result at an index. -/
theorem ref_at (m : (ℓ : Loc nD τ sig) → Buf (Elt Ideal) ℓ) (c : Dev nD) (r : Fin 12288) (l : Fin 8192) :
    Cert.GateUpRefIdeal.Value.res_main_v53 m c (ix2 r l)
      = gateUp (m ((c.tc : Thread nD τ).loc main_arg0)) (m ((c.tc : Thread nD τ).loc main_arg1)) (m ((c.tc : Thread nD τ).loc main_arg2)) (m ((c.tc : Thread nD τ).loc main_arg3)) r l := by
  pointwise [Cert.GateUpRefIdeal.Value.res_main_v53]
  simp only [ext_int, ref_low, ref_high]
  rfl

end Cert.GateUpRefVal
-- ==== Proof.GateUpValue.lean ====
/- The array `gate_up` leaves is the reference's, index by index. -/
module

public import proofs.«01_k».proof.Proof.GateUpBlock
public import proofs.«01_k».proof.Proof.GateUpRef
public import Idealize.ShloMosaic.Lib.Pipeline.ValueKit.Held

@[expose] public section

set_option maxRecDepth 16384

noncomputable section

namespace Cert.GateUpVal

open Idealize.ShloMosaic Idealize.ShloMosaic.TcCoe Idealize.SL.Sem
open Cert.GateUpIdeal Cert.GateUpIdeal.Gen

/-- The blocks of point `t`: row tile `t % 12`, column tile `t / 12`, the up scales eight column tiles on. -/
theorem idx : ∀ t : Fin cfg0.N, win0_0.index t = ![t.val % 12, 0] ∧ win0_1.index t = ![t.val % 12, 0] ∧ win0_2.index t = ![0, t.val / 12]
    ∧ win0_3.index t = ![0, t.val / 12] ∧ win0_4.index t = ![0, t.val / 12 + 8] ∧ win0_5.index t = ![t.val % 12, t.val / 12] :=
  (by decide +kernel : ∀ t : Fin grid0.N, _)

variable (m : (ℓ : Loc nD τ sig) → Buf (Elt Ideal) ℓ)

/-- The scratch after point `t` is the weight the run's first point wrote. -/
theorem held (c : Dev nD) (t : Fin cfg0.N) :
    (outsAt0 m c t.val t.isLt).2 = (fun t : Fin cfg0.N => weight (iblk m c 2 t) (iblk m c 3 t) (iblk m c 4 t)) ⟨12 * (t.val / 12), Pipeline.run_start_lt t⟩ := by
  refine Pipeline.eq_of_write_hold (fun n h => (outsAt0 m c n h).2) 12 (fun t => weight (iblk m c 2 t) (iblk m c 3 t) (iblk m c 4 t)) ?_ ?_ t
  · intro t h
    show (outsAt0 m c t.val t.isLt).2 = _
    rw [outsAt0_A m c t h]
    exact sout0_A ..
  · intro t h
    show (outsAt0 m c t.val t.isLt).2 = _
    rw [outsAt0_B m c t h]
    rfl

/-- The run's first point reads the same weight blocks as `t`. -/
theorem same (c : Dev nD) (t : Fin cfg0.N) (s : Fin cfg0.N) (h : s.val / 12 = t.val / 12) :
    weight (iblk m c 2 s) (iblk m c 3 s) (iblk m c 4 s) = weight (iblk m c 2 t) (iblk m c 3 t) (iblk m c 4 t) := by
  have h2 : iblk m c 2 s = iblk m c 2 t := funext fun y => by blk_point [iblk, V, idx t, idx s, h]
  have h3 : iblk m c 3 s = iblk m c 3 t := funext fun y => by blk_point [iblk, V, idx t, idx s, h]
  have h4 : iblk m c 4 s = iblk m c 4 t := funext fun y => by blk_point [iblk, V, idx t, idx s, h]
  rw [h2, h3, h4]

/-- What point `t` leaves in the output buffer. -/
theorem left (c : Dev nD) (t : Fin cfg0.N) :
    (outsAt0 m c t.val t.isLt).1 = outv (acts (iblk m c 0 t) (iblk m c 1 t)) (iblk m c 1 t) (weight (iblk m c 2 t) (iblk m c 3 t) (iblk m c 4 t)) := by
  by_cases h : t.val % 12 = 0
  · rw [outsAt0_A m c t h]
    dsimp only
    rw [out_A]
  · rw [outsAt0_B m c t h]
    have hp : t.val - 1 < cfg0.N := Nat.lt_of_le_of_lt (Nat.sub_le _ _) t.isLt
    have e := held m c ⟨t.val - 1, hp⟩
    dsimp only
    have e' := e.trans (same m c t ⟨12 * ((t.val - 1) / 12), Pipeline.run_start_lt ⟨t.val - 1, hp⟩⟩ (by show 12 * ((t.val - 1) / 12) / 12 = t.val / 12; omega))
    rw [out_B]
    exact congrArg (outv _ _) e'

theorem outv_at (a : Vec Ideal S1024x3072 .bf16) (x1 : Vec Ideal S1024x128 .f32) (W : Vec Ideal S3072x2048 .bf16) (p l : Fin 1024) :
    outv a x1 W (ix2 p l) = gated (∑ k : Fin 3072, a (ix2 p k) * W (ix2 k ⟨(l : ℕ), by omega⟩)) (∑ k : Fin 3072, a (ix2 p k) * W (ix2 k ⟨1024 + (l : ℕ), by omega⟩)) (x1 (ix2 p 0)) := rfl

theorem acts_at (x0 : Vec Ideal S1024x3072 .i8) (x1 : Vec Ideal S1024x128 .f32) (p : Fin 1024) (k : Fin 3072) :
    acts x0 x1 (ix2 p k) = (((x0 (ix2 p k) : BitVec 8).toInt : ℝ) : EReal) - x1 (ix2 p 1) := rfl

theorem weight_low (x2 : Vec Ideal S3072x1024 .i8) (x3 x4 : Vec Ideal S96x1024 .f32) (k : Fin 3072) (l : Fin 1024) :
    weight x2 x3 x4 (ix2 k ⟨(l : ℕ), by omega⟩) = Int4.low (x2 (ix2 k l)) * x3 (ix2 ⟨(k : ℕ) / 32, by omega⟩ l) := dif_pos l.isLt

theorem weight_high (x2 : Vec Ideal S3072x1024 .i8) (x3 x4 : Vec Ideal S96x1024 .f32) (k : Fin 3072) (l : Fin 1024) :
    weight x2 x3 x4 (ix2 k ⟨1024 + (l : ℕ), by omega⟩) = Int4.high (x2 (ix2 k l)) * x4 (ix2 ⟨(k : ℕ) / 32, by omega⟩ l) := by
  refine (dif_neg (Nat.not_lt.mpr (Nat.le_add_right 1024 l))).trans ?_
  have h : (⟨1024 + (l : ℕ) - 1024, by omega⟩ : Fin 1024) = l := Fin.ext (by show 1024 + (l : ℕ) - 1024 = l; omega)
  exact congrArg (fun z : Fin 1024 => Int4.high (x2 (ix2 k z)) * x4 (ix2 ⟨(k : ℕ) / 32, by omega⟩ z)) h

/-- A point's output tile is its part of the gated product. -/
theorem point (c : Dev nD) (t : Fin cfg0.N) (p : Fin 1024) (l : Fin 1024) (r : Fin 12288) (q : Fin 8192) (hr : (r : ℕ) = t.val % 12 * 1024 + p) (hq : (q : ℕ) = t.val / 12 * 1024 + l) :
    outv (acts (iblk m c 0 t) (iblk m c 1 t)) (iblk m c 1 t) (weight (iblk m c 2 t) (iblk m c 3 t) (iblk m c 4 t)) (ix2 p l)
      = Cert.GateUpRefVal.gateUp (m ((c : Thread nD τ).loc main_arg0)) (m ((c : Thread nD τ).loc main_arg1)) (m ((c : Thread nD τ).loc main_arg2)) (m ((c : Thread nD τ).loc main_arg3)) r q := by
  have e0 : ∀ k : Fin 3072, iblk m c 0 t (ix2 p k) = m ((c : Thread nD τ).loc main_arg0) (ix2 r k) := fun k => by blk_point [iblk, V, idx t, hr]
  have e1 : ∀ k : Fin 128, iblk m c 1 t (ix2 p k) = m ((c : Thread nD τ).loc main_arg1) (ix2 r k) := fun k => by blk_point [iblk, V, idx t, hr]
  have e2 : ∀ k : Fin 3072, iblk m c 2 t (ix2 k l) = m ((c : Thread nD τ).loc main_arg2) (ix2 k q) := fun k => by blk_point [iblk, V, idx t, hq]
  have e3 : ∀ k : Fin 96, iblk m c 3 t (ix2 k l) = m ((c : Thread nD τ).loc main_arg3) (ix2 k ⟨(q : ℕ), by omega⟩) := fun k => by blk_point [iblk, V, idx t, hq]
  have e4 : ∀ k : Fin 96, iblk m c 4 t (ix2 k l) = m ((c : Thread nD τ).loc main_arg3) (ix2 k ⟨8192 + (q : ℕ), by omega⟩) := fun k => by blk_point [iblk, V, idx t, hq]
  rw [outv_at]
  simp only [acts_at, weight_low, weight_high]
  unfold gated Cert.GateUpRefVal.gateUp
  simp only [e0, e1, e2, e3, e4]

/-- The array after the run, at an index. -/
theorem final_at (c : Dev nD) (R : Vec Ideal S12288x8192 .f32)
    (hR : ∀ r q, R (ix2 r q) = Cert.GateUpRefVal.gateUp (m ((c : Thread nD τ).loc main_arg0)) (m ((c : Thread nD τ).loc main_arg1)) (m ((c : Thread nD τ).loc main_arg2)) (m ((c : Thread nD τ).loc main_arg3)) r q) :
    (dats m 0 c).arrAt 5 cfg0.N = R := by
  refine (dats m 0 c).arrAt_eq_of_covers 5 _ (by decide +kernel) fun t _ y => ?_
  blk_simp
  rw [after0_5, left]
  idx_vars y
  have ht : t.val < 96 := t.isLt
  have hr : t.val % 12 * 1024 + (y0 : ℕ) < 12288 := by omega
  have hq : t.val / 12 * 1024 + (y1 : ℕ) < 8192 := by omega
  have hE : ((View.whole main_v0).slice (win0_5.rect t)).emb (ix2 y0 y1) = ix2 (n0 := 12288) (n1 := 8192) ⟨_, hr⟩ ⟨_, hq⟩ := by blk_ext [idx t]
  exact (point m c t y0 y1 ⟨_, hr⟩ ⟨_, hq⟩ rfl rfl).trans ((congrArg R hE).trans (hR _ _)).symm

end Cert.GateUpVal
-- ==== Proof.DownHighRun.lean ====
/- The body of `DownHigh` run in each of the two cases of its grid: points that expand a slice of the weight, and points that
   multiply. Each run names the pieces that the case's stores leave (found by `sl_exec`). -/
module

public import proofs.«01_k».proof.Proof.Gen.DownHigh.Frame
public import proofs.«01_k».proof.Proof.Gen.DownHigh.Skeleton

@[expose] public section

set_option maxRecDepth 16384

noncomputable section

namespace Cert.DownHigh.Hand

open Cert.DownHigh.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 32 — decided over the grid. -/
theorem hcond0_0 : ∀ t : Fin cfg0.N, cond0_0 (grid0.coords t) ↔ t.val < 32 :=
  (by decide +kernel : ∀ t : Fin grid0.N, cond0_0 (grid0.coords t) ↔ t.val < 32)

/-- The condition of the body's `scf.if` 1 (`k0_h2`), from the grid coordinates (the skeleton's scalar
    chain substituted). -/
abbrev cond0_1 (i : grid0.Coords) : Prop := k0_cond2 i = 1#1
/-- It holds at the points from point 32 on — decided over the grid. -/
theorem hcond0_1 : ∀ t : Fin cfg0.N, cond0_1 (grid0.coords t) ↔ 32 ≤ t.val :=
  (by decide +kernel : ∀ t : Fin grid0.N, cond0_1 (grid0.coords t) ↔ 32 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 live: the case stores into it. -/
theorem liveAt0_5_B : ∀ t : Fin cfg0.N, ¬cond0_0 (grid0.coords t) → cond0_1 (grid0.coords t) → cfg0.idle 5 (grid0.coords t) = false := by decide +kernel

/-! ## The kernel body on any staging memrefs: a subtype the run finds -/

/-- One staging buffer of output window 5, through which its contents are stated (`View.read_writes_of_cover`: the
    choice does not matter). -/
abbrev VO0_5 : View sig .tc .vmem S512x1536 .bf16 := (Memref.whole cc0_stg5_0 : Memref sig .tc .vmem S512x1536 .bf16).view
/-- Each window's current staging memref at point `t`, spelled as the pipeline passes it (`bodyAt0`), and its wholeness. -/
abbrev ms0_0 (t : Fin cfg0.N) : Memref sig .tc .vmem S512x8192 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1536 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1536 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S8192x1536 .bf16 := Memref.whole cc0_scratch0
abbrev scM0_1 : Memref sig .tc .vmem S512x8192 .bf16 := Memref.whole cc0_scratch1
/-- The scratch `arg8` the kernel carries between points, as a view: what it holds is stated through it. -/
abbrev VS0_0 : View sig .tc .vmem S8192x1536 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 1, … 31: 32 of 56), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (the generated `*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x8192 .i8) (harg1 : arg1.IsWhole) (arg2 : Memref sig .tc .vmem S512x128 .f32) (harg2 : arg2.IsWhole) (arg3 : Memref sig .tc .vmem S512x1536 .f32) (harg3 : arg3.IsWhole) (arg4 : Memref sig .tc .vmem S256x1536 .i8) (harg4 : arg4.IsWhole) (arg5 : Memref sig .tc .vmem S8x1536 .f32) (harg5 : arg5.IsWhole) (arg7 : Memref sig .tc .vmem S512x1536 .bf16) (harg7 : arg7.IsWhole) (arg8 : Memref sig .tc .vmem S8192x1536 .bf16) (harg8 : arg8.IsWhole) (arg9 : Memref sig .tc .vmem S512x8192 .bf16) (harg9 : arg9.IsWhole) (hc0 : cond0_0 i) (hc1 : ¬cond0_1 i)
    (x0 : Vec F S512x8192 .i8) (x1 : Vec F S512x128 .f32) (x2 : Vec F S512x1536 .f32) (x3 : Vec F S256x1536 .i8) (x4 : Vec F S8x1536 .f32) :
    Σ' (L5 : List (View.Piece (Elt F) S512x1536 .bf16)), Σ' (LS0 : List (View.Piece (Elt F) S8192x1536 .bf16)), { LT1 : List (View.Piece (Elt F) S512x8192 .bf16) //
      ∀ (xi5 : Vec F S512x1536 .bf16) (xs0 : Vec F S8192x1536 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare xi5 ∗ owns (c : Thread nD τ) arg8 fullShare xs0 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare xi5 ∗ (arg8.view.loc (c : Thread nD τ) ↦[arg8.view.set]{fullShare} arg8.view.writes (Elt F) (harg8.unread xs0) LS0) ∗ (∃ d, owns (c : Thread nD τ) arg9 fullShare d)) -∗ K ⟨⟩))
          ⊢ wp frame (wpE (defs₀ (F := F)) Variants.none c none) E (cc0_down_high i arg1 harg1 arg2 harg2 arg3 harg3 arg4 harg4 arg5 harg5 (Memref.whole main_arg5) (Memref.isWhole_whole _) arg7 harg7 arg8 harg8 arg9 harg9) K } := by
  refine ⟨[], ?_, [], fun xi5 xs0 E K => ?run⟩
  case run =>
    simp only [cc0_down_high_eq_skeleton]; unfold cc0_down_high_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf5; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg7.read_unread _
      iexact H5
    isplitl [HS0]; · iexact HS0
    iexists _, _; isplitr; swap; · iexact HS1
    ipureintro; rfl

-- (the run's proof term is large: the definition's epilogue — `abstractNestedProofs` — walks it past the default budget)
set_option maxHeartbeats 1000000 in
/-- What the body's stores leave in each output's staging memref, as pieces (last first) IN CASE B (`scf.if` 0 not taken, `scf.if` 1 taken: points 32, 33, … 55: 24 of 56), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (the generated `*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x8192 .i8) (harg1 : arg1.IsWhole) (arg2 : Memref sig .tc .vmem S512x128 .f32) (harg2 : arg2.IsWhole) (arg3 : Memref sig .tc .vmem S512x1536 .f32) (harg3 : arg3.IsWhole) (arg4 : Memref sig .tc .vmem S256x1536 .i8) (harg4 : arg4.IsWhole) (arg5 : Memref sig .tc .vmem S8x1536 .f32) (harg5 : arg5.IsWhole) (arg7 : Memref sig .tc .vmem S512x1536 .bf16) (harg7 : arg7.IsWhole) (arg8 : Memref sig .tc .vmem S8192x1536 .bf16) (harg8 : arg8.IsWhole) (arg9 : Memref sig .tc .vmem S512x8192 .bf16) (harg9 : arg9.IsWhole) (hc0 : ¬cond0_0 i) (hc1 : cond0_1 i)
    (x0 : Vec F S512x8192 .i8) (x1 : Vec F S512x128 .f32) (x2 : Vec F S512x1536 .f32) (x3 : Vec F S256x1536 .i8) (x4 : Vec F S8x1536 .f32) (xs0 : Vec F S8192x1536 .bf16) :
    Σ' (L5 : List (View.Piece (Elt F) S512x1536 .bf16)), Σ' (LS0 : List (View.Piece (Elt F) S8192x1536 .bf16)), { LT1 : List (View.Piece (Elt F) S512x8192 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ owns (c : Thread nD τ) arg8 fullShare xs0 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ owns (c : Thread nD τ) arg8 fullShare xs0 ∗ (∃ f, arg9.view.loc (c : Thread nD τ) ↦[arg9.view.set]{fullShare} arg9.view.writes (Elt F) f LT1)) -∗ K ⟨⟩))
          ⊢ wp frame (wpE (defs₀ (F := F)) Variants.none c none) E (cc0_down_high i arg1 harg1 arg2 harg2 arg3 harg3 arg4 harg4 arg5 harg5 (Memref.whole main_arg5) (Memref.isWhole_whole _) arg7 harg7 arg8 harg8 arg9 harg9) K } := by
  refine ⟨?_, [], ?_, fun E K => ?run⟩
  case run =>
    simp only [cc0_down_high_eq_skeleton]; unfold cc0_down_high_skel
    simp only [k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg8.read_unread _
      iexact HS0
    iexists _; iexact HS1

end Cert.DownHigh.Hand

end
-- ==== Proof.DownHighFrame.lean ====
/- The frame of `DownHigh`: the weight scratch is filled one slice of rows per point, and the points that multiply find it full. -/
module

public import proofs.«01_k».proof.Proof.DownHighRun
public import Idealize.ShloMosaic.Lib.Claim

@[expose] public section

set_option maxRecDepth 16384

noncomputable section

namespace Cert.DownHigh.Hand

open Cert.DownHigh Cert.DownHigh.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A place of the weight scratch lies in store `r` of point `i` iff its row does. -/
theorem mem_store (i : grid0.Coords) (r : Fin 8) (w : BitVec 32) (h : w = BitVec.ofNat 32 (32 * r.val))
    (inb : ∀ a, k0_off1 i w a + (![32, 1536] : Fin 2 → ℕ) a ≤ S8192x1536.size a) (y : S8192x1536.Idx) :
    y ∈ (Rect.unit (k0_off1 i w) ![32, 1536] inb : Rect S8192x1536).set
      ↔ 256 * (i 0).val + 32 * r.val ≤ (y 0).val ∧ (y 0).val < 256 * (i 0).val + 32 * r.val + 32 := by
  subst h
  rw [Rect.mem_set_unit, k0_off1_eq]
  have hy : (y 1).val < 1536 := (y 1).isLt
  constructor
  · intro h
    exact h 0
  · intro h a
    match a with
    | 0 => exact h
    | 1 => exact ⟨Nat.zero_le _, by show (y 1).val < 0 + 1536; omega⟩

section

variable (c : Dev nD) (i : grid0.Coords) (arg1 : Memref sig .tc .vmem S512x8192 .i8) (harg1 : arg1.IsWhole) (arg2 : Memref sig .tc .vmem S512x128 .f32) (harg2 : arg2.IsWhole) (arg3 : Memref sig .tc .vmem S512x1536 .f32) (harg3 : arg3.IsWhole) (arg4 : Memref sig .tc .vmem S256x1536 .i8) (harg4 : arg4.IsWhole) (arg5 : Memref sig .tc .vmem S8x1536 .f32) (harg5 : arg5.IsWhole) (arg7 : Memref sig .tc .vmem S512x1536 .bf16) (harg7 : arg7.IsWhole) (arg8 : Memref sig .tc .vmem S8192x1536 .bf16) (harg8 : arg8.IsWhole) (arg9 : Memref sig .tc .vmem S512x8192 .bf16) (harg9 : arg9.IsWhole) (hc0 : cond0_0 i) (hc1 : ¬cond0_1 i) (x0 : Vec F S512x8192 .i8) (x1 : Vec F S512x128 .f32) (x2 : Vec F S512x1536 .f32) (x3 : Vec F S256x1536 .i8) (x4 : Vec F S8x1536 .f32)

/-- The stores of point `i` cover its 256 rows of the weight scratch. -/
theorem stores_hit (y : S8192x1536.Idx) (h : (y 0).val / 256 = (i 0).val) :
    ∃ p ∈ (kernelRun0_A c i arg1 harg1 arg2 harg2 arg3 harg3 arg4 harg4 arg5 harg5 arg7 harg7 arg8 harg8 arg9 harg9 hc0 hc1 x0 x1 x2 x3 x4).2.1, y ∈ p.1.set := by
  unfold kernelRun0_A
  dsimp only
  simp only [List.mem_cons, List.not_mem_nil, or_false, exists_eq_or_imp, exists_eq_left]
  rw [mem_store i 7 224#32 rfl, mem_store i 6 192#32 rfl, mem_store i 5 160#32 rfl, mem_store i 4 128#32 rfl, mem_store i 3 96#32 rfl, mem_store i 2 64#32 rfl, mem_store i 1 32#32 rfl, mem_store i 0 0#32 rfl]
  simp only [Fin.isValue, Fin.val_zero, Fin.val_one, Fin.val_two, show (3 : Fin 8).val = 3 from rfl, show (4 : Fin 8).val = 4 from rfl, show (5 : Fin 8).val = 5 from rfl, show (6 : Fin 8).val = 6 from rfl, show (7 : Fin 8).val = 7 from rfl]
  omega

/-- The stores of point `i` miss every other row. -/
theorem stores_miss (y : S8192x1536.Idx) (h : (y 0).val / 256 ≠ (i 0).val) :
    ∀ p ∈ (kernelRun0_A c i arg1 harg1 arg2 harg2 arg3 harg3 arg4 harg4 arg5 harg5 arg7 harg7 arg8 harg8 arg9 harg9 hc0 hc1 x0 x1 x2 x3 x4).2.1, y ∉ p.1.set := by
  unfold kernelRun0_A
  dsimp only
  simp only [List.forall_mem_cons, List.not_mem_nil, false_imp_iff, implies_true, and_true]
  rw [mem_store i 7 224#32 rfl, mem_store i 6 192#32 rfl, mem_store i 5 160#32 rfl, mem_store i 4 128#32 rfl, mem_store i 3 96#32 rfl, mem_store i 2 64#32 rfl, mem_store i 1 32#32 rfl, mem_store i 0 0#32 rfl]
  simp only [Fin.isValue, Fin.val_zero, Fin.val_one, Fin.val_two, show (3 : Fin 8).val = 3 from rfl, show (4 : Fin 8).val = 4 from rfl, show (5 : Fin 8).val = 5 from rfl, show (6 : Fin 8).val = 6 from rfl, show (7 : Fin 8).val = 7 from rfl]
  omega

end

/-- What case A leaves in scratch `arg8`: its pieces (stores, a counted loop's segment) read back over the contents it was handed (`xs0`: what the point before left, or at the first point what the scratch held before it). -/
def sout0_A_0 (c : Dev nD) (i : grid0.Coords) (arg1 : Memref sig .tc .vmem S512x8192 .i8) (harg1 : arg1.IsWhole) (arg2 : Memref sig .tc .vmem S512x128 .f32) (harg2 : arg2.IsWhole) (arg3 : Memref sig .tc .vmem S512x1536 .f32) (harg3 : arg3.IsWhole) (arg4 : Memref sig .tc .vmem S256x1536 .i8) (harg4 : arg4.IsWhole) (arg5 : Memref sig .tc .vmem S8x1536 .f32) (harg5 : arg5.IsWhole) (arg7 : Memref sig .tc .vmem S512x1536 .bf16) (harg7 : arg7.IsWhole) (arg8 : Memref sig .tc .vmem S8192x1536 .bf16) (harg8 : arg8.IsWhole) (arg9 : Memref sig .tc .vmem S512x8192 .bf16) (harg9 : arg9.IsWhole) (hc0 : cond0_0 i) (hc1 : ¬cond0_1 i)
    (x0 : Vec F S512x8192 .i8) (x1 : Vec F S512x128 .f32) (x2 : Vec F S512x1536 .f32) (x3 : Vec F S256x1536 .i8) (x4 : Vec F S8x1536 .f32) (xs0 : Vec F S8192x1536 .bf16) : Vec F S8192x1536 .bf16 :=
  arg8.view.read (Elt F) (arg8.view.writes (Elt F) (harg8.unread xs0) (kernelRun0_A c i arg1 harg1 arg2 harg2 arg3 harg3 arg4 harg4 arg5 harg5 arg7 harg7 arg8 harg8 arg9 harg9 hc0 hc1 x0 x1 x2 x3 x4).2.1)

/-- Case B's pieces for output 5 tile its block (6 stores of `S512x256`, checked by the kernel's evaluation: Lib/Ring.lean `Piece.tiledL`, linear in the pieces, through a loop's `@[irreducible]` trip theorem too), so they cover it. -/
theorem cover0_B_5 (c : Dev nD) (i : grid0.Coords) (arg1 : Memref sig .tc .vmem S512x8192 .i8) (harg1 : arg1.IsWhole) (arg2 : Memref sig .tc .vmem S512x128 .f32) (harg2 : arg2.IsWhole) (arg3 : Memref sig .tc .vmem S512x1536 .f32) (harg3 : arg3.IsWhole) (arg4 : Memref sig .tc .vmem S256x1536 .i8) (harg4 : arg4.IsWhole) (arg5 : Memref sig .tc .vmem S8x1536 .f32) (harg5 : arg5.IsWhole) (arg7 : Memref sig .tc .vmem S512x1536 .bf16) (harg7 : arg7.IsWhole) (arg8 : Memref sig .tc .vmem S8192x1536 .bf16) (harg8 : arg8.IsWhole) (arg9 : Memref sig .tc .vmem S512x8192 .bf16) (harg9 : arg9.IsWhole) (hc0 : ¬cond0_0 i) (hc1 : cond0_1 i)
    (x0 : Vec F S512x8192 .i8) (x1 : Vec F S512x128 .f32) (x2 : Vec F S512x1536 .f32) (x3 : Vec F S256x1536 .i8) (x4 : Vec F S8x1536 .f32) (xs0 : Vec F S8192x1536 .bf16) (y : S512x1536.Idx) :
    ∃ pc ∈ (kernelRun0_B c i arg1 harg1 arg2 harg2 arg3 harg3 arg4 harg4 arg5 harg5 arg7 harg7 arg8 harg8 arg9 harg9 hc0 hc1 x0 x1 x2 x3 x4 xs0).1, y ∈ pc.1.set :=
  View.cover_of_tiledL (kernelRun0_B c i arg1 harg1 arg2 harg2 arg3 harg3 arg4 harg4 arg5 harg5 arg7 harg7 arg8 harg8 arg9 harg9 hc0 hc1 x0 x1 x2 x3 x4 xs0).1 S512x256.size (by sl_kernel_rfl) y

/-- What case B leaves in output 5's staging buffer: its pieces read back over junk. -/
def out0_B_5 (c : Dev nD) (i : grid0.Coords) (arg1 : Memref sig .tc .vmem S512x8192 .i8) (harg1 : arg1.IsWhole) (arg2 : Memref sig .tc .vmem S512x128 .f32) (harg2 : arg2.IsWhole) (arg3 : Memref sig .tc .vmem S512x1536 .f32) (harg3 : arg3.IsWhole) (arg4 : Memref sig .tc .vmem S256x1536 .i8) (harg4 : arg4.IsWhole) (arg5 : Memref sig .tc .vmem S8x1536 .f32) (harg5 : arg5.IsWhole) (arg7 : Memref sig .tc .vmem S512x1536 .bf16) (harg7 : arg7.IsWhole) (arg8 : Memref sig .tc .vmem S8192x1536 .bf16) (harg8 : arg8.IsWhole) (arg9 : Memref sig .tc .vmem S512x8192 .bf16) (harg9 : arg9.IsWhole) (hc0 : ¬cond0_0 i) (hc1 : cond0_1 i)
    (x0 : Vec F S512x8192 .i8) (x1 : Vec F S512x128 .f32) (x2 : Vec F S512x1536 .f32) (x3 : Vec F S256x1536 .i8) (x4 : Vec F S8x1536 .f32) (xs0 : Vec F S8192x1536 .bf16) : Vec F S512x1536 .bf16 :=
  VO0_5.read (Elt F) (VO0_5.writes (Elt F) VO0_5.junk (kernelRun0_B c i arg1 harg1 arg2 harg2 arg3 harg3 arg4 harg4 arg5 harg5 arg7 harg7 arg8 harg8 arg9 harg9 hc0 hc1 x0 x1 x2 x3 x4 xs0).1)

variable (m : (ℓ : Loc nD τ sig) → Buf (Elt F) ℓ) (ρ : Dev nD → PrngReg)

/-- The grid has one axis: a point's coordinate is its number. -/
theorem coords_val : ∀ t : Fin cfg0.N, (grid0.coords t 0).val = t.val :=
  (by decide +kernel : ∀ t : Fin grid0.N, (grid0.coords t 0).val = t.val)

/-- The weight scratch after a point `t` that expands a slice, from its contents `xs0` before the point. -/
def sA (c : Dev nD) (t : Fin cfg0.N) (h0 : t.val < 32) (xs0 : Vec F S8192x1536 .bf16) : Vec F S8192x1536 .bf16 :=
  sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => absurd ((hcond0_1 t).mp h) (by omega)) (iblk m c 0 t) (iblk m c 1 t) (iblk m c 2 t) (iblk m c 3 t) (iblk m c 4 t) xs0

/-- The output block after a point `t` that multiplies, from the weight scratch's contents `xs0`. -/
def oB (c : Dev nD) (t : Fin cfg0.N) (h1 : 32 ≤ t.val) (xs0 : Vec F S8192x1536 .bf16) : Vec F S512x1536 .bf16 :=
  out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => absurd ((hcond0_0 t).mp h) (by omega)) ((hcond0_1 t).mpr h1) (iblk m c 0 t) (iblk m c 1 t) (iblk m c 2 t) (iblk m c 3 t) (iblk m c 4 t) xs0

/-- The point that fills row `y 0` of the weight scratch. -/
def pt (y : S8192x1536.Idx) : Fin cfg0.N :=
  ⟨(y 0).val / 256, by have h : (y 0).val < 8192 := (y 0).isLt; rw [show cfg0.N = 56 from N_0]; omega⟩

theorem pt_lt (y : S8192x1536.Idx) : (pt y).val < 32 := by
  have h : (y 0).val < 8192 := (y 0).isLt
  show (y 0).val / 256 < 32
  omega

/-- The full weight scratch: at each place what the point that fills it leaves there. -/
def wt (c : Dev nD) : Vec F S8192x1536 .bf16 := fun y =>
  sA m c (pt y) (pt_lt y) (VS0_0.read (Elt F) VS0_0.junk) y

/-- A point leaves in its own rows what `wt` names, whatever the scratch held. -/
theorem sA_hit (c : Dev nD) (t : Fin cfg0.N) (h0 : t.val < 32) (xs0 : Vec F S8192x1536 .bf16) (y : S8192x1536.Idx)
    (hy : (y 0).val / 256 = t.val) : sA m c t h0 xs0 y = wt m c y := by
  obtain rfl : pt y = t := Fin.ext hy
  unfold wt sA sout0_A_0
  exact View.read_writes_apply_eq _ _ _ _ y _ (stores_hit c _ _ _ _ _ _ _ _ _ _ _ _ _ _ _ _ _ _ _ _ _ _ _ _ y (hy.trans (coords_val _).symm))

/-- A point leaves every other row as it was. -/
theorem sA_miss (c : Dev nD) (t : Fin cfg0.N) (h0 : t.val < 32) (xs0 : Vec F S8192x1536 .bf16) (y : S8192x1536.Idx)
    (hy : (y 0).val / 256 ≠ t.val) : sA m c t h0 xs0 y = xs0 y := by
  unfold sA sout0_A_0
  rw [View.read_writes_apply_of_forall_not_mem _ _ y _ (stores_miss c _ _ _ _ _ _ _ _ _ _ _ _ _ _ _ _ _ _ _ _ _ _ _ _ y
    (fun h => hy (h.trans (coords_val _)))), (Memref.isWhole_whole _).read_unread]

/-- The region invariant before position `n`: the rows of the weight scratch below `256 n` hold `wt`, the rest and the other
    scratch anything, and the generator register some state. -/
def PhiS (c : Dev nD) (n : ℕ) (h : n ≤ cfg0.N) : sProp 𝕄 :=
  iprop(∃ dS0 : Vec F S8192x1536 .bf16, ⌜∀ y : S8192x1536.Idx, (y 0).val < 256 * n → dS0 y = wt m c y⌝
    ∗ iprop(owns (c : Thread nD τ) scM0_0 fullShare dS0 ∗ (∃ d, owns (c : Thread nD τ) scM0_1 fullShare d)) ∗ (∃ r, prngReg c r))

/-- What the output's buffer holds after point `t` (nothing is named where the point stores nothing into it). -/
def outv (c : Dev nD) (t : Fin cfg0.N) : Vec F S512x1536 .bf16 :=
  if h1 : 32 ≤ t.val then oB m c t h1 (wt m c) else VO0_5.read (Elt F) VO0_5.junk

/-! ## The pipeline's proof data -/

/-- The proof data of the one pipeline: the arrays as the region finds them; after a point each input's buffer at its block and
    the output's at the product with the full weight scratch; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outv m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outv m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 6400000 in
/-- The body at any point: a point that expands a slice extends the rows held by one slice; a point that multiplies finds
    every row held. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_castSucc m c t]
  unfold PhiS
  have hN : t.val < 56 := lt_of_lt_of_eq t.isLt (show cfg0.N = 56 from N_0)
  by_cases h0 : t.val < 32
  · by_cases h1 : 32 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      iintro ⟨⟨%dS0, %hd, ⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · iexists sA m c t h0 dS0
        isplitr
        · ipureintro
          intro y hy
          by_cases h : (y 0).val / 256 = t.val
          · exact sA_hit m c t h0 dS0 y h
          · rw [sA_miss m c t h0 dS0 y h]
            exact hd y (by omega)
        unfold sA sout0_A_0
        isplitl [HS0 HS1]
        · isplitl [HS0]
          · unfold owns; iexists _; isplitr
            swap; · iexact HS0
            ipureintro; rfl
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h1 : 32 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1)], after0_5]
      iintro ⟨⟨%dS0, %hd, ⟨HS0, HS1⟩, Hg⟩, Ho, ⟨%d0, H0⟩, ⟨%d1, H1⟩, ⟨%d2, H2⟩, ⟨%d3, H3⟩, ⟨%d4, H4⟩, ⟨%d5, H5⟩⟩
      obtain rfl : dS0 = wt m c := funext fun y => hd y (by have h : (y 0).val < 8192 := (y 0).isLt; omega)
      rw [show outv m c t = oB m c t h1 (wt m c) from dif_pos h1]
      unfold oB out0_B_5
      iapply ((kernelRun0_B c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, HS0, ⟨%fT1, HS1⟩⟩
      isplitl [HS0 HS1 Hg]
      · iexists wt m c
        isplitr
        · ipureintro
          exact fun y _ => rfl
        isplitl [HS0 HS1]
        · isplitl [HS0]
          · iexact HS0
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point, at whatever the carried scratch holds. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%dS0, HS0⟩, HS1⟩, Hg⟩
  iexists dS0
  isplitr
  · ipureintro
    intro y hy
    exact absurd hy (by omega)
  isplitl [HS0 HS1]
  · isplitl [HS0]; · iexact HS0
    iexact HS1
  iexact Hg

/-- After the last point the invariant gives `ΦA` back: what the carried scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  unfold PhiS
  iintro ⟨%dS0, -, ⟨HS0, HS1⟩, Hg⟩
  isplitl [HS0 HS1]
  · isplitl [HS0]
    · iexists _; iexact HS0
    iexact HS1
  iexact Hg

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame at any `F`: every execution terminates, the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.DownHigh.Hand

end
-- ==== Proof.DownHighIdealRun.lean ====
/- The body of `DownHighIdeal` run in each of the two cases of its grid: points that expand a slice of the weight, and points that
   multiply. Each run names the pieces that the case's stores leave (found by `sl_exec`). -/
module

public import proofs.«01_k».proof.Proof.Gen.DownHighIdeal.Frame
public import proofs.«01_k».proof.Proof.Gen.DownHighIdeal.Skeleton

@[expose] public section

set_option maxRecDepth 16384

noncomputable section

namespace Cert.DownHighIdeal.Hand

open Cert.DownHighIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 32 — decided over the grid. -/
theorem hcond0_0 : ∀ t : Fin cfg0.N, cond0_0 (grid0.coords t) ↔ t.val < 32 :=
  (by decide +kernel : ∀ t : Fin grid0.N, cond0_0 (grid0.coords t) ↔ t.val < 32)

/-- The condition of the body's `scf.if` 1 (`k0_h2`), from the grid coordinates (the skeleton's scalar
    chain substituted). -/
abbrev cond0_1 (i : grid0.Coords) : Prop := k0_cond2 i = 1#1
/-- It holds at the points from point 32 on — decided over the grid. -/
theorem hcond0_1 : ∀ t : Fin cfg0.N, cond0_1 (grid0.coords t) ↔ 32 ≤ t.val :=
  (by decide +kernel : ∀ t : Fin grid0.N, cond0_1 (grid0.coords t) ↔ 32 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 live: the case stores into it. -/
theorem liveAt0_5_B : ∀ t : Fin cfg0.N, ¬cond0_0 (grid0.coords t) → cond0_1 (grid0.coords t) → cfg0.idle 5 (grid0.coords t) = false := by decide +kernel

/-! ## The kernel body on any staging memrefs: a subtype the run finds -/

/-- One staging buffer of output window 5, through which its contents are stated (`View.read_writes_of_cover`: the
    choice does not matter). -/
abbrev VO0_5 : View sig .tc .vmem S512x1536 .bf16 := (Memref.whole cc0_stg5_0 : Memref sig .tc .vmem S512x1536 .bf16).view
/-- Each window's current staging memref at point `t`, spelled as the pipeline passes it (`bodyAt0`), and its wholeness. -/
abbrev ms0_0 (t : Fin cfg0.N) : Memref sig .tc .vmem S512x8192 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1536 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1536 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S8192x1536 .bf16 := Memref.whole cc0_scratch0
abbrev scM0_1 : Memref sig .tc .vmem S512x8192 .bf16 := Memref.whole cc0_scratch1
/-- The scratch `arg8` the kernel carries between points, as a view: what it holds is stated through it. -/
abbrev VS0_0 : View sig .tc .vmem S8192x1536 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 1, … 31: 32 of 56), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (the generated `*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x8192 .i8) (harg1 : arg1.IsWhole) (arg2 : Memref sig .tc .vmem S512x128 .f32) (harg2 : arg2.IsWhole) (arg3 : Memref sig .tc .vmem S512x1536 .f32) (harg3 : arg3.IsWhole) (arg4 : Memref sig .tc .vmem S256x1536 .i8) (harg4 : arg4.IsWhole) (arg5 : Memref sig .tc .vmem S8x1536 .f32) (harg5 : arg5.IsWhole) (arg7 : Memref sig .tc .vmem S512x1536 .bf16) (harg7 : arg7.IsWhole) (arg8 : Memref sig .tc .vmem S8192x1536 .bf16) (harg8 : arg8.IsWhole) (arg9 : Memref sig .tc .vmem S512x8192 .bf16) (harg9 : arg9.IsWhole) (hc0 : cond0_0 i) (hc1 : ¬cond0_1 i)
    (x0 : Vec F S512x8192 .i8) (x1 : Vec F S512x128 .f32) (x2 : Vec F S512x1536 .f32) (x3 : Vec F S256x1536 .i8) (x4 : Vec F S8x1536 .f32) :
    Σ' (L5 : List (View.Piece (Elt F) S512x1536 .bf16)), Σ' (LS0 : List (View.Piece (Elt F) S8192x1536 .bf16)), { LT1 : List (View.Piece (Elt F) S512x8192 .bf16) //
      ∀ (xi5 : Vec F S512x1536 .bf16) (xs0 : Vec F S8192x1536 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare xi5 ∗ owns (c : Thread nD τ) arg8 fullShare xs0 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare xi5 ∗ (arg8.view.loc (c : Thread nD τ) ↦[arg8.view.set]{fullShare} arg8.view.writes (Elt F) (harg8.unread xs0) LS0) ∗ (∃ d, owns (c : Thread nD τ) arg9 fullShare d)) -∗ K ⟨⟩))
          ⊢ wp frame (wpE (defs₀ (F := F)) Variants.none c none) E (cc0_down_high i arg1 harg1 arg2 harg2 arg3 harg3 arg4 harg4 arg5 harg5 (Memref.whole main_arg5) (Memref.isWhole_whole _) arg7 harg7 arg8 harg8 arg9 harg9) K } := by
  refine ⟨[], ?_, [], fun xi5 xs0 E K => ?run⟩
  case run =>
    simp only [cc0_down_high_eq_skeleton]; unfold cc0_down_high_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf5; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg7.read_unread _
      iexact H5
    isplitl [HS0]; · iexact HS0
    iexists _, _; isplitr; swap; · iexact HS1
    ipureintro; rfl

-- (the run's proof term is large: the definition's epilogue — `abstractNestedProofs` — walks it past the default budget)
set_option maxHeartbeats 1000000 in
/-- What the body's stores leave in each output's staging memref, as pieces (last first) IN CASE B (`scf.if` 0 not taken, `scf.if` 1 taken: points 32, 33, … 55: 24 of 56), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (the generated `*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x8192 .i8) (harg1 : arg1.IsWhole) (arg2 : Memref sig .tc .vmem S512x128 .f32) (harg2 : arg2.IsWhole) (arg3 : Memref sig .tc .vmem S512x1536 .f32) (harg3 : arg3.IsWhole) (arg4 : Memref sig .tc .vmem S256x1536 .i8) (harg4 : arg4.IsWhole) (arg5 : Memref sig .tc .vmem S8x1536 .f32) (harg5 : arg5.IsWhole) (arg7 : Memref sig .tc .vmem S512x1536 .bf16) (harg7 : arg7.IsWhole) (arg8 : Memref sig .tc .vmem S8192x1536 .bf16) (harg8 : arg8.IsWhole) (arg9 : Memref sig .tc .vmem S512x8192 .bf16) (harg9 : arg9.IsWhole) (hc0 : ¬cond0_0 i) (hc1 : cond0_1 i)
    (x0 : Vec F S512x8192 .i8) (x1 : Vec F S512x128 .f32) (x2 : Vec F S512x1536 .f32) (x3 : Vec F S256x1536 .i8) (x4 : Vec F S8x1536 .f32) (xs0 : Vec F S8192x1536 .bf16) :
    Σ' (L5 : List (View.Piece (Elt F) S512x1536 .bf16)), Σ' (LS0 : List (View.Piece (Elt F) S8192x1536 .bf16)), { LT1 : List (View.Piece (Elt F) S512x8192 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ owns (c : Thread nD τ) arg8 fullShare xs0 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ owns (c : Thread nD τ) arg8 fullShare xs0 ∗ (∃ f, arg9.view.loc (c : Thread nD τ) ↦[arg9.view.set]{fullShare} arg9.view.writes (Elt F) f LT1)) -∗ K ⟨⟩))
          ⊢ wp frame (wpE (defs₀ (F := F)) Variants.none c none) E (cc0_down_high i arg1 harg1 arg2 harg2 arg3 harg3 arg4 harg4 arg5 harg5 (Memref.whole main_arg5) (Memref.isWhole_whole _) arg7 harg7 arg8 harg8 arg9 harg9) K } := by
  refine ⟨?_, [], ?_, fun E K => ?run⟩
  case run =>
    simp only [cc0_down_high_eq_skeleton]; unfold cc0_down_high_skel
    simp only [k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg8.read_unread _
      iexact HS0
    iexists _; iexact HS1

end Cert.DownHighIdeal.Hand

end
-- ==== Proof.DownHighIdealFrame.lean ====
/- The frame of `DownHighIdeal`: the weight scratch is filled one slice of rows per point, and the points that multiply find it full. -/
module

public import proofs.«01_k».proof.Proof.DownHighIdealRun
public import Idealize.ShloMosaic.Lib.Claim

@[expose] public section

set_option maxRecDepth 16384

noncomputable section

namespace Cert.DownHighIdeal.Hand

open Cert.DownHighIdeal Cert.DownHighIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A place of the weight scratch lies in store `r` of point `i` iff its row does. -/
theorem mem_store (i : grid0.Coords) (r : Fin 8) (w : BitVec 32) (h : w = BitVec.ofNat 32 (32 * r.val))
    (inb : ∀ a, k0_off1 i w a + (![32, 1536] : Fin 2 → ℕ) a ≤ S8192x1536.size a) (y : S8192x1536.Idx) :
    y ∈ (Rect.unit (k0_off1 i w) ![32, 1536] inb : Rect S8192x1536).set
      ↔ 256 * (i 0).val + 32 * r.val ≤ (y 0).val ∧ (y 0).val < 256 * (i 0).val + 32 * r.val + 32 := by
  subst h
  rw [Rect.mem_set_unit, k0_off1_eq]
  have hy : (y 1).val < 1536 := (y 1).isLt
  constructor
  · intro h
    exact h 0
  · intro h a
    match a with
    | 0 => exact h
    | 1 => exact ⟨Nat.zero_le _, by show (y 1).val < 0 + 1536; omega⟩

section

variable (c : Dev nD) (i : grid0.Coords) (arg1 : Memref sig .tc .vmem S512x8192 .i8) (harg1 : arg1.IsWhole) (arg2 : Memref sig .tc .vmem S512x128 .f32) (harg2 : arg2.IsWhole) (arg3 : Memref sig .tc .vmem S512x1536 .f32) (harg3 : arg3.IsWhole) (arg4 : Memref sig .tc .vmem S256x1536 .i8) (harg4 : arg4.IsWhole) (arg5 : Memref sig .tc .vmem S8x1536 .f32) (harg5 : arg5.IsWhole) (arg7 : Memref sig .tc .vmem S512x1536 .bf16) (harg7 : arg7.IsWhole) (arg8 : Memref sig .tc .vmem S8192x1536 .bf16) (harg8 : arg8.IsWhole) (arg9 : Memref sig .tc .vmem S512x8192 .bf16) (harg9 : arg9.IsWhole) (hc0 : cond0_0 i) (hc1 : ¬cond0_1 i) (x0 : Vec F S512x8192 .i8) (x1 : Vec F S512x128 .f32) (x2 : Vec F S512x1536 .f32) (x3 : Vec F S256x1536 .i8) (x4 : Vec F S8x1536 .f32)

/-- The stores of point `i` cover its 256 rows of the weight scratch. -/
theorem stores_hit (y : S8192x1536.Idx) (h : (y 0).val / 256 = (i 0).val) :
    ∃ p ∈ (kernelRun0_A c i arg1 harg1 arg2 harg2 arg3 harg3 arg4 harg4 arg5 harg5 arg7 harg7 arg8 harg8 arg9 harg9 hc0 hc1 x0 x1 x2 x3 x4).2.1, y ∈ p.1.set := by
  unfold kernelRun0_A
  dsimp only
  simp only [List.mem_cons, List.not_mem_nil, or_false, exists_eq_or_imp, exists_eq_left]
  rw [mem_store i 7 224#32 rfl, mem_store i 6 192#32 rfl, mem_store i 5 160#32 rfl, mem_store i 4 128#32 rfl, mem_store i 3 96#32 rfl, mem_store i 2 64#32 rfl, mem_store i 1 32#32 rfl, mem_store i 0 0#32 rfl]
  simp only [Fin.isValue, Fin.val_zero, Fin.val_one, Fin.val_two, show (3 : Fin 8).val = 3 from rfl, show (4 : Fin 8).val = 4 from rfl, show (5 : Fin 8).val = 5 from rfl, show (6 : Fin 8).val = 6 from rfl, show (7 : Fin 8).val = 7 from rfl]
  omega

/-- The stores of point `i` miss every other row. -/
theorem stores_miss (y : S8192x1536.Idx) (h : (y 0).val / 256 ≠ (i 0).val) :
    ∀ p ∈ (kernelRun0_A c i arg1 harg1 arg2 harg2 arg3 harg3 arg4 harg4 arg5 harg5 arg7 harg7 arg8 harg8 arg9 harg9 hc0 hc1 x0 x1 x2 x3 x4).2.1, y ∉ p.1.set := by
  unfold kernelRun0_A
  dsimp only
  simp only [List.forall_mem_cons, List.not_mem_nil, false_imp_iff, implies_true, and_true]
  rw [mem_store i 7 224#32 rfl, mem_store i 6 192#32 rfl, mem_store i 5 160#32 rfl, mem_store i 4 128#32 rfl, mem_store i 3 96#32 rfl, mem_store i 2 64#32 rfl, mem_store i 1 32#32 rfl, mem_store i 0 0#32 rfl]
  simp only [Fin.isValue, Fin.val_zero, Fin.val_one, Fin.val_two, show (3 : Fin 8).val = 3 from rfl, show (4 : Fin 8).val = 4 from rfl, show (5 : Fin 8).val = 5 from rfl, show (6 : Fin 8).val = 6 from rfl, show (7 : Fin 8).val = 7 from rfl]
  omega

end

/-- What case A leaves in scratch `arg8`: its pieces (stores, a counted loop's segment) read back over the contents it was handed (`xs0`: what the point before left, or at the first point what the scratch held before it). -/
def sout0_A_0 (c : Dev nD) (i : grid0.Coords) (arg1 : Memref sig .tc .vmem S512x8192 .i8) (harg1 : arg1.IsWhole) (arg2 : Memref sig .tc .vmem S512x128 .f32) (harg2 : arg2.IsWhole) (arg3 : Memref sig .tc .vmem S512x1536 .f32) (harg3 : arg3.IsWhole) (arg4 : Memref sig .tc .vmem S256x1536 .i8) (harg4 : arg4.IsWhole) (arg5 : Memref sig .tc .vmem S8x1536 .f32) (harg5 : arg5.IsWhole) (arg7 : Memref sig .tc .vmem S512x1536 .bf16) (harg7 : arg7.IsWhole) (arg8 : Memref sig .tc .vmem S8192x1536 .bf16) (harg8 : arg8.IsWhole) (arg9 : Memref sig .tc .vmem S512x8192 .bf16) (harg9 : arg9.IsWhole) (hc0 : cond0_0 i) (hc1 : ¬cond0_1 i)
    (x0 : Vec F S512x8192 .i8) (x1 : Vec F S512x128 .f32) (x2 : Vec F S512x1536 .f32) (x3 : Vec F S256x1536 .i8) (x4 : Vec F S8x1536 .f32) (xs0 : Vec F S8192x1536 .bf16) : Vec F S8192x1536 .bf16 :=
  arg8.view.read (Elt F) (arg8.view.writes (Elt F) (harg8.unread xs0) (kernelRun0_A c i arg1 harg1 arg2 harg2 arg3 harg3 arg4 harg4 arg5 harg5 arg7 harg7 arg8 harg8 arg9 harg9 hc0 hc1 x0 x1 x2 x3 x4).2.1)

/-- Case B's pieces for output 5 tile its block (6 stores of `S512x256`, checked by the kernel's evaluation: Lib/Ring.lean `Piece.tiledL`, linear in the pieces, through a loop's `@[irreducible]` trip theorem too), so they cover it. -/
theorem cover0_B_5 (c : Dev nD) (i : grid0.Coords) (arg1 : Memref sig .tc .vmem S512x8192 .i8) (harg1 : arg1.IsWhole) (arg2 : Memref sig .tc .vmem S512x128 .f32) (harg2 : arg2.IsWhole) (arg3 : Memref sig .tc .vmem S512x1536 .f32) (harg3 : arg3.IsWhole) (arg4 : Memref sig .tc .vmem S256x1536 .i8) (harg4 : arg4.IsWhole) (arg5 : Memref sig .tc .vmem S8x1536 .f32) (harg5 : arg5.IsWhole) (arg7 : Memref sig .tc .vmem S512x1536 .bf16) (harg7 : arg7.IsWhole) (arg8 : Memref sig .tc .vmem S8192x1536 .bf16) (harg8 : arg8.IsWhole) (arg9 : Memref sig .tc .vmem S512x8192 .bf16) (harg9 : arg9.IsWhole) (hc0 : ¬cond0_0 i) (hc1 : cond0_1 i)
    (x0 : Vec F S512x8192 .i8) (x1 : Vec F S512x128 .f32) (x2 : Vec F S512x1536 .f32) (x3 : Vec F S256x1536 .i8) (x4 : Vec F S8x1536 .f32) (xs0 : Vec F S8192x1536 .bf16) (y : S512x1536.Idx) :
    ∃ pc ∈ (kernelRun0_B c i arg1 harg1 arg2 harg2 arg3 harg3 arg4 harg4 arg5 harg5 arg7 harg7 arg8 harg8 arg9 harg9 hc0 hc1 x0 x1 x2 x3 x4 xs0).1, y ∈ pc.1.set :=
  View.cover_of_tiledL (kernelRun0_B c i arg1 harg1 arg2 harg2 arg3 harg3 arg4 harg4 arg5 harg5 arg7 harg7 arg8 harg8 arg9 harg9 hc0 hc1 x0 x1 x2 x3 x4 xs0).1 S512x256.size (by sl_kernel_rfl) y

/-- What case B leaves in output 5's staging buffer: its pieces read back over junk. -/
def out0_B_5 (c : Dev nD) (i : grid0.Coords) (arg1 : Memref sig .tc .vmem S512x8192 .i8) (harg1 : arg1.IsWhole) (arg2 : Memref sig .tc .vmem S512x128 .f32) (harg2 : arg2.IsWhole) (arg3 : Memref sig .tc .vmem S512x1536 .f32) (harg3 : arg3.IsWhole) (arg4 : Memref sig .tc .vmem S256x1536 .i8) (harg4 : arg4.IsWhole) (arg5 : Memref sig .tc .vmem S8x1536 .f32) (harg5 : arg5.IsWhole) (arg7 : Memref sig .tc .vmem S512x1536 .bf16) (harg7 : arg7.IsWhole) (arg8 : Memref sig .tc .vmem S8192x1536 .bf16) (harg8 : arg8.IsWhole) (arg9 : Memref sig .tc .vmem S512x8192 .bf16) (harg9 : arg9.IsWhole) (hc0 : ¬cond0_0 i) (hc1 : cond0_1 i)
    (x0 : Vec F S512x8192 .i8) (x1 : Vec F S512x128 .f32) (x2 : Vec F S512x1536 .f32) (x3 : Vec F S256x1536 .i8) (x4 : Vec F S8x1536 .f32) (xs0 : Vec F S8192x1536 .bf16) : Vec F S512x1536 .bf16 :=
  VO0_5.read (Elt F) (VO0_5.writes (Elt F) VO0_5.junk (kernelRun0_B c i arg1 harg1 arg2 harg2 arg3 harg3 arg4 harg4 arg5 harg5 arg7 harg7 arg8 harg8 arg9 harg9 hc0 hc1 x0 x1 x2 x3 x4 xs0).1)

variable (m : (ℓ : Loc nD τ sig) → Buf (Elt F) ℓ) (ρ : Dev nD → PrngReg)

/-- The grid has one axis: a point's coordinate is its number. -/
theorem coords_val : ∀ t : Fin cfg0.N, (grid0.coords t 0).val = t.val :=
  (by decide +kernel : ∀ t : Fin grid0.N, (grid0.coords t 0).val = t.val)

/-- The weight scratch after a point `t` that expands a slice, from its contents `xs0` before the point. -/
def sA (c : Dev nD) (t : Fin cfg0.N) (h0 : t.val < 32) (xs0 : Vec F S8192x1536 .bf16) : Vec F S8192x1536 .bf16 :=
  sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => absurd ((hcond0_1 t).mp h) (by omega)) (iblk m c 0 t) (iblk m c 1 t) (iblk m c 2 t) (iblk m c 3 t) (iblk m c 4 t) xs0

/-- The output block after a point `t` that multiplies, from the weight scratch's contents `xs0`. -/
def oB (c : Dev nD) (t : Fin cfg0.N) (h1 : 32 ≤ t.val) (xs0 : Vec F S8192x1536 .bf16) : Vec F S512x1536 .bf16 :=
  out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => absurd ((hcond0_0 t).mp h) (by omega)) ((hcond0_1 t).mpr h1) (iblk m c 0 t) (iblk m c 1 t) (iblk m c 2 t) (iblk m c 3 t) (iblk m c 4 t) xs0

/-- The point that fills row `y 0` of the weight scratch. -/
def pt (y : S8192x1536.Idx) : Fin cfg0.N :=
  ⟨(y 0).val / 256, by have h : (y 0).val < 8192 := (y 0).isLt; rw [show cfg0.N = 56 from N_0]; omega⟩

theorem pt_lt (y : S8192x1536.Idx) : (pt y).val < 32 := by
  have h : (y 0).val < 8192 := (y 0).isLt
  show (y 0).val / 256 < 32
  omega

/-- The full weight scratch: at each place what the point that fills it leaves there. -/
def wt (c : Dev nD) : Vec F S8192x1536 .bf16 := fun y =>
  sA m c (pt y) (pt_lt y) (VS0_0.read (Elt F) VS0_0.junk) y

/-- A point leaves in its own rows what `wt` names, whatever the scratch held. -/
theorem sA_hit (c : Dev nD) (t : Fin cfg0.N) (h0 : t.val < 32) (xs0 : Vec F S8192x1536 .bf16) (y : S8192x1536.Idx)
    (hy : (y 0).val / 256 = t.val) : sA m c t h0 xs0 y = wt m c y := by
  obtain rfl : pt y = t := Fin.ext hy
  unfold wt sA sout0_A_0
  exact View.read_writes_apply_eq _ _ _ _ y _ (stores_hit c _ _ _ _ _ _ _ _ _ _ _ _ _ _ _ _ _ _ _ _ _ _ _ _ y (hy.trans (coords_val _).symm))

/-- A point leaves every other row as it was. -/
theorem sA_miss (c : Dev nD) (t : Fin cfg0.N) (h0 : t.val < 32) (xs0 : Vec F S8192x1536 .bf16) (y : S8192x1536.Idx)
    (hy : (y 0).val / 256 ≠ t.val) : sA m c t h0 xs0 y = xs0 y := by
  unfold sA sout0_A_0
  rw [View.read_writes_apply_of_forall_not_mem _ _ y _ (stores_miss c _ _ _ _ _ _ _ _ _ _ _ _ _ _ _ _ _ _ _ _ _ _ _ _ y
    (fun h => hy (h.trans (coords_val _)))), (Memref.isWhole_whole _).read_unread]

/-- The region invariant before position `n`: the rows of the weight scratch below `256 n` hold `wt`, the rest and the other
    scratch anything, and the generator register some state. -/
def PhiS (c : Dev nD) (n : ℕ) (h : n ≤ cfg0.N) : sProp 𝕄 :=
  iprop(∃ dS0 : Vec F S8192x1536 .bf16, ⌜∀ y : S8192x1536.Idx, (y 0).val < 256 * n → dS0 y = wt m c y⌝
    ∗ iprop(owns (c : Thread nD τ) scM0_0 fullShare dS0 ∗ (∃ d, owns (c : Thread nD τ) scM0_1 fullShare d)) ∗ (∃ r, prngReg c r))

/-- What the output's buffer holds after point `t` (nothing is named where the point stores nothing into it). -/
def outv (c : Dev nD) (t : Fin cfg0.N) : Vec F S512x1536 .bf16 :=
  if h1 : 32 ≤ t.val then oB m c t h1 (wt m c) else VO0_5.read (Elt F) VO0_5.junk

/-! ## The pipeline's proof data -/

/-- The proof data of the one pipeline: the arrays as the region finds them; after a point each input's buffer at its block and
    the output's at the product with the full weight scratch; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outv m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outv m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 6400000 in
/-- The body at any point: a point that expands a slice extends the rows held by one slice; a point that multiplies finds
    every row held. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_castSucc m c t]
  unfold PhiS
  have hN : t.val < 56 := lt_of_lt_of_eq t.isLt (show cfg0.N = 56 from N_0)
  by_cases h0 : t.val < 32
  · by_cases h1 : 32 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      iintro ⟨⟨%dS0, %hd, ⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · iexists sA m c t h0 dS0
        isplitr
        · ipureintro
          intro y hy
          by_cases h : (y 0).val / 256 = t.val
          · exact sA_hit m c t h0 dS0 y h
          · rw [sA_miss m c t h0 dS0 y h]
            exact hd y (by omega)
        unfold sA sout0_A_0
        isplitl [HS0 HS1]
        · isplitl [HS0]
          · unfold owns; iexists _; isplitr
            swap; · iexact HS0
            ipureintro; rfl
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h1 : 32 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1)], after0_5]
      iintro ⟨⟨%dS0, %hd, ⟨HS0, HS1⟩, Hg⟩, Ho, ⟨%d0, H0⟩, ⟨%d1, H1⟩, ⟨%d2, H2⟩, ⟨%d3, H3⟩, ⟨%d4, H4⟩, ⟨%d5, H5⟩⟩
      obtain rfl : dS0 = wt m c := funext fun y => hd y (by have h : (y 0).val < 8192 := (y 0).isLt; omega)
      rw [show outv m c t = oB m c t h1 (wt m c) from dif_pos h1]
      unfold oB out0_B_5
      iapply ((kernelRun0_B c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, HS0, ⟨%fT1, HS1⟩⟩
      isplitl [HS0 HS1 Hg]
      · iexists wt m c
        isplitr
        · ipureintro
          exact fun y _ => rfl
        isplitl [HS0 HS1]
        · isplitl [HS0]
          · iexact HS0
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point, at whatever the carried scratch holds. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%dS0, HS0⟩, HS1⟩, Hg⟩
  iexists dS0
  isplitr
  · ipureintro
    intro y hy
    exact absurd hy (by omega)
  isplitl [HS0 HS1]
  · isplitl [HS0]; · iexact HS0
    iexact HS1
  iexact Hg

/-- After the last point the invariant gives `ΦA` back: what the carried scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  unfold PhiS
  iintro ⟨%dS0, -, ⟨HS0, HS1⟩, Hg⟩
  isplitl [HS0 HS1]
  · isplitl [HS0]
    · iexists _; iexact HS0
    iexact HS1
  iexact Hg

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame at any `F`: every execution terminates, the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.DownHighIdeal.Hand

end
-- ==== Proof.DownHighBlock.lean ====
/- A grid point of `down_high`: a point of the first phase leaves its 256 rows of the dequantised weight, a point of the second
   leaves the residual plus the scaled product of its centred codes with the weight scratch. -/
module

public import proofs.«01_k».proof.Proof.DownHighIdealFrame
public import proofs.«01_k».proof.Proof.GateUpBlock

@[expose] public section

set_option maxRecDepth 16384

noncomputable section

namespace Cert.DownHighVal

open Idealize.ShloMosaic Idealize.ShloMosaic.TcCoe Idealize.SL.Sem
open Cert.DownHighIdeal Cert.DownHighIdeal.Gen Cert.DownHighIdeal.Hand
open Cert.GateUpVal (cov_ld act_ld)

/-- What a group's store of the weight holds. -/
def wPay (s : Vec Ideal S1x1536 .f32) (q : Vec Ideal S32x1536 .i8) : Vec Ideal S32x1536 .bf16 := k0_pay2 q s

/-- A group's store at an index: the signed high nibble times the group's scale. -/
theorem wPay_at (s : Vec Ideal S1x1536 .f32) (q : Vec Ideal S32x1536 .i8) (p : Fin 32) (l : Fin 1536) :
    wPay s q (ix2 p l) = Int4.high (q (ix2 p l)) * s (ix2 0 l) := by
  have hw := Int4.high_word q bitcasts_S32x1536_w8_S8x1536_w32 bitcasts_S8x1536_w32_S32x1536_w8 p l (by omega)
  pointwise [wPay, k0_pay2]
  rw [← Int4.high_eq]
  exact congrArg (fun b : BitVec 8 => ((((b.toInt : ℝ) : EReal) - Ideal.ofBits .bf16 0x4100#16) * s (ix2 0 l))) hw

/-! The eight stores' payloads are this one, cut differently by the printer. -/
theorem w4_eq (s : Vec Ideal S1x1536 .f32) (q : Vec Ideal S32x1536 .i8) : k0_pay4 q s = wPay s q := rfl
theorem w7_eq (s : Vec Ideal S1x1536 .f32) (q : Vec Ideal S32x1536 .i8) : k0_pay7 (k0_pay5 q) (k0_pay6 s) = wPay s q := rfl
theorem w8_eq (s : Vec Ideal S1x1536 .f32) (q : Vec Ideal S32x1536 .i8) : k0_pay8 q s = wPay s q := rfl
theorem w11_eq (s : Vec Ideal S1x1536 .f32) (q : Vec Ideal S32x1536 .i8) : k0_pay11 (k0_pay9 q) k0_pay10 s = wPay s q := rfl
theorem w12_eq (s : Vec Ideal S1x1536 .f32) (q : Vec Ideal S32x1536 .i8) : k0_pay12 q s = wPay s q := rfl
theorem w13_eq (s : Vec Ideal S1x1536 .f32) (q : Vec Ideal S32x1536 .i8) : k0_pay13 q s = wPay s q := rfl
theorem w1_eq (s : Vec Ideal S1x1536 .f32) (q : Vec Ideal S32x1536 .i8) : k0_pay1 (k0_pay14 q) (k0_pay15 s) = wPay s q := rfl
theorem w2_eq (s : Vec Ideal S1x1536 .f32) (q : Vec Ideal S32x1536 .i8) : k0_pay2 q s = wPay s q := rfl

/-- The rows of point `i`'s slice: the weight at row `y 0` of the scratch, from the row `y 0 - 256 i` of the point's block. -/
def slice (i : ℕ) (x3 : Vec Ideal S256x1536 .i8) (x4 : Vec Ideal S8x1536 .f32) : Vec Ideal S8192x1536 .bf16 := fun y =>
  Int4.high (x3 (ix2 ⟨(y 0 : ℕ) % 256, Nat.mod_lt _ (by decide)⟩ ⟨y 1, (y 1).isLt⟩))
    * x4 (ix2 ⟨(y 0 : ℕ) % 256 / 32, by have := Nat.mod_lt (y 0 : ℕ) (show 256 > 0 by decide); omega⟩ ⟨y 1, (y 1).isLt⟩)

/-- Store `r` of point `i` agrees with the slice wherever it lies. -/
theorem w_tile (i : grid0.Coords) (r : Fin 8) (x3 : Vec Ideal S256x1536 .i8) (x4 : Vec Ideal S8x1536 .f32) (w : BitVec 32)
    (hw : w = BitVec.ofNat 32 (32 * r.val)) (o o' : ℕ) (ho : o = r.val) (ho' : o' = 32 * r.val) (y : S8192x1536.Idx)
    (hs : ∀ a, (![o, 0] : Fin 2 → ℕ) a + S1x1536.size a ≤ S8x1536.size a) (hq : ∀ a, (![o', 0] : Fin 2 → ℕ) a + S32x1536.size a ≤ S256x1536.size a) :
    View.TileAt y (k0_off1 i w) ![32, 1536]
      (wPay (View.ld x4 (Rect.unit (s := S8x1536) ![o, 0] S1x1536.size hs)) (View.ld x3 (Rect.unit (s := S256x1536) ![o', 0] S32x1536.size hq)))
      (slice (i 0).val x3 x4 y) := by
  intro x hx
  subst hw ho ho'
  have y0 := hx 0
  have y1 := hx 1
  rw [k0_off1_eq] at y0 y1
  simp only [Matrix.cons_val_zero, Matrix.cons_val_one] at y0 y1
  have b0 : (x 0 : ℕ) < 32 := (x 0).isLt
  have b1 : (x 1 : ℕ) < 1536 := (x 1).isLt
  have ex : x = ix2 (n0 := 32) (n1 := 1536) ⟨x 0, b0⟩ ⟨x 1, b1⟩ := eq_ix2 x
  rw [ex, wPay_at, slice]
  refine Ideal.mul_congr (congrArg Int4.high (View.ld_unit_apply_of x3 _ _ hq _ _ fun a => ?_)) (View.ld_unit_apply_of x4 _ _ hs _ _ fun a => ?_)
  · match a with
    | ⟨0, _⟩ => show (y 0 : ℕ) % 256 = 32 * r.val + (x 0 : ℕ); omega
    | ⟨1, _⟩ => exact y1
  · match a with
    | ⟨0, _⟩ => show (y 0 : ℕ) % 256 / 32 = r.val + 0; omega
    | ⟨1, _⟩ => exact y1

/-- What a point of the first phase leaves in its own rows of the scratch. -/
theorem filled (c : Dev nD) (i : grid0.Coords) (arg1 : Memref sig .tc .vmem S512x8192 .i8) (harg1 : arg1.IsWhole) (arg2 : Memref sig .tc .vmem S512x128 .f32) (harg2 : arg2.IsWhole) (arg3 : Memref sig .tc .vmem S512x1536 .f32) (harg3 : arg3.IsWhole) (arg4 : Memref sig .tc .vmem S256x1536 .i8) (harg4 : arg4.IsWhole) (arg5 : Memref sig .tc .vmem S8x1536 .f32) (harg5 : arg5.IsWhole) (arg7 : Memref sig .tc .vmem S512x1536 .bf16) (harg7 : arg7.IsWhole) (arg8 : Memref sig .tc .vmem S8192x1536 .bf16) (harg8 : arg8.IsWhole) (arg9 : Memref sig .tc .vmem S512x8192 .bf16) (harg9 : arg9.IsWhole) (hc0 : cond0_0 i) (hc1 : ¬cond0_1 i) (x0 : Vec Ideal S512x8192 .i8) (x1 : Vec Ideal S512x128 .f32) (x2 : Vec Ideal S512x1536 .f32) (x3 : Vec Ideal S256x1536 .i8) (x4 : Vec Ideal S8x1536 .f32) (f : Vec Ideal S8192x1536 .bf16) (y : S8192x1536.Idx) (hy : (y 0).val / 256 = (i 0).val) :
    sout0_A_0 (F := Ideal) c i arg1 harg1 arg2 harg2 arg3 harg3 arg4 harg4 arg5 harg5 arg7 harg7 arg8 harg8 arg9 harg9 hc0 hc1 x0 x1 x2 x3 x4 f y = slice (i 0).val x3 x4 y := by
  have hcov := stores_hit (F := Ideal) c i arg1 harg1 arg2 harg2 arg3 harg3 arg4 harg4 arg5 harg5 arg7 harg7 arg8 harg8 arg9 harg9 hc0 hc1 x0 x1 x2 x3 x4 y hy
  unfold sout0_A_0
  rw [View.read_writes_apply_eq _ _ (View.whole cc0_scratch0) (View.whole cc0_scratch0).junk y _ hcov, View.read_writes_junk_eq_canon]
  refine View.canon_eq_of_allAt _ _ _ hcov ?_
  clear hcov
  unfold kernelRun0_A
  dsimp only
  unfold kernelRun0_A.sl.r kernelRun0_A.sl.r_1 kernelRun0_A.sl.r_2 kernelRun0_A.sl.r_3 kernelRun0_A.sl.r_4
  dsimp only
  simp only [act_ld]
  rw [w2_eq, w1_eq, w13_eq, w12_eq, w11_eq, w8_eq, w7_eq, w4_eq]
  refine View.allAt_cons_unit _ _ _ _ _ (w_tile i 7 x3 x4 224#32 rfl 7 224 rfl rfl y _ _) ?_
  refine View.allAt_cons_unit _ _ _ _ _ (w_tile i 6 x3 x4 192#32 rfl 6 192 rfl rfl y _ _) ?_
  refine View.allAt_cons_unit _ _ _ _ _ (w_tile i 5 x3 x4 160#32 rfl 5 160 rfl rfl y _ _) ?_
  refine View.allAt_cons_unit _ _ _ _ _ (w_tile i 4 x3 x4 128#32 rfl 4 128 rfl rfl y _ _) ?_
  refine View.allAt_cons_unit _ _ _ _ _ (w_tile i 3 x3 x4 96#32 rfl 3 96 rfl rfl y _ _) ?_
  refine View.allAt_cons_unit _ _ _ _ _ (w_tile i 2 x3 x4 64#32 rfl 2 64 rfl rfl y _ _) ?_
  refine View.allAt_cons_unit _ _ _ _ _ (w_tile i 1 x3 x4 32#32 rfl 1 32 rfl rfl y _ _) ?_
  refine View.allAt_cons_unit _ _ _ _ _ (w_tile i 0 x3 x4 0#32 rfl 0 0 rfl rfl y _ _) ?_
  exact View.allAt_nil _ _

/-- The activations of a point: the codes less their row's zero point. -/
def acts (x0 : Vec Ideal S512x8192 .i8) (x1 : Vec Ideal S512x128 .f32) : Vec Ideal S512x8192 .bf16 := fun y =>
  (((x0 y : BitVec 8).toInt : ℝ) : EReal) - x1 (ix2 ⟨y 0, (y 0).isLt⟩ 1)

/-- What a store of 32 rows of activations holds. -/
def actPay (s : Vec Ideal S32x1 .f32) (q : Vec Ideal S32x8192 .i8) : Vec Ideal S32x8192 .bf16 := k0_pay16 s q

theorem actPay_at (s : Vec Ideal S32x1 .f32) (q : Vec Ideal S32x8192 .i8) (p : Fin 32) (l : Fin 8192) :
    actPay s q (ix2 p l) = (((q (ix2 p l) : BitVec 8).toInt : ℝ) : EReal) - s (ix2 p 0) := by
  pointwise! [actPay, k0_pay16]

/-- A store of the rows from `o` agrees with the activations wherever it lies. -/
theorem act_tile (x0 : Vec Ideal S512x8192 .i8) (x1 : Vec Ideal S512x128 .f32) (o : ℕ) (y : S512x8192.Idx)
    (h1 : ∀ a, (![o, 1] : Fin 2 → ℕ) a + S32x1.size a ≤ S512x128.size a) (h0 : ∀ a, (![o, 0] : Fin 2 → ℕ) a + S32x8192.size a ≤ S512x8192.size a) :
    View.TileAt y ![o, 0] S32x8192.size
      (actPay (View.ld x1 (Rect.unit (s := S512x128) ![o, 1] S32x1.size h1)) (View.ld x0 (Rect.unit (s := S512x8192) ![o, 0] S32x8192.size h0))) (acts x0 x1 y) := by
  intro x hx
  have y0 := hx 0
  have y1 := hx 1
  simp only [Matrix.cons_val_zero, Matrix.cons_val_one] at y0 y1
  have b0 : (x 0 : ℕ) < 32 := (x 0).isLt
  have b1 : (x 1 : ℕ) < 8192 := (x 1).isLt
  have ex : x = ix2 (n0 := 32) (n1 := 8192) ⟨x 0, b0⟩ ⟨x 1, b1⟩ := eq_ix2 x
  rw [ex, actPay_at, acts]
  refine congrArg₂ (fun (a : BitVec 8) (b : EReal) => (((a.toInt : ℝ) : EReal)) - b) (View.ld_unit_apply_of x0 _ _ h0 _ _ fun a => ?_) (View.ld_unit_apply_of x1 _ _ h1 _ _ fun a => ?_)
  · match a with
    | ⟨0, _⟩ => exact y0
    | ⟨1, _⟩ => exact y1
  · match a with
    | ⟨0, _⟩ => exact y0
    | ⟨1, _⟩ => rfl

/-! The sixteen stores' payloads are this one, cut differently by the printer. -/
theorem act16_eq (s : Vec Ideal S32x1 .f32) (q : Vec Ideal S32x8192 .i8) : k0_pay16 s q = actPay s q := rfl
theorem act17_eq (s : Vec Ideal S32x1 .f32) (q : Vec Ideal S32x8192 .i8) : k0_pay17 s q = actPay s q := rfl
theorem act18_eq (s : Vec Ideal S32x1 .f32) (q : Vec Ideal S32x8192 .i8) : k0_pay18 s q = actPay s q := rfl
theorem act20_eq (s : Vec Ideal S32x1 .f32) (q : Vec Ideal S32x8192 .i8) : k0_pay20 (k0_pay19 s q) = actPay s q := rfl
theorem act21_eq (s : Vec Ideal S32x1 .f32) (q : Vec Ideal S32x8192 .i8) : k0_pay21 s q = actPay s q := rfl
theorem act22_eq (s : Vec Ideal S32x1 .f32) (q : Vec Ideal S32x8192 .i8) : k0_pay22 s q = actPay s q := rfl
theorem act23_eq (s : Vec Ideal S32x1 .f32) (q : Vec Ideal S32x8192 .i8) : k0_pay23 s q = actPay s q := rfl
theorem act26_eq (s : Vec Ideal S32x1 .f32) (q : Vec Ideal S32x8192 .i8) : k0_pay26 (k0_pay24 s) (k0_pay25 q) = actPay s q := rfl
theorem act27_eq (s : Vec Ideal S32x1 .f32) (q : Vec Ideal S32x8192 .i8) : k0_pay27 s q = actPay s q := rfl
theorem act28_eq (s : Vec Ideal S32x1 .f32) (q : Vec Ideal S32x8192 .i8) : k0_pay28 s q = actPay s q := rfl
theorem act29_eq (s : Vec Ideal S32x1 .f32) (q : Vec Ideal S32x8192 .i8) : k0_pay29 s q = actPay s q := rfl
theorem act31_eq (s : Vec Ideal S32x1 .f32) (q : Vec Ideal S32x8192 .i8) : k0_pay31 (k0_pay30 s) q = actPay s q := rfl
theorem act32_eq (s : Vec Ideal S32x1 .f32) (q : Vec Ideal S32x8192 .i8) : k0_pay32 s q = actPay s q := rfl
theorem act33_eq (s : Vec Ideal S32x1 .f32) (q : Vec Ideal S32x8192 .i8) : k0_pay33 s q = actPay s q := rfl
theorem act34_eq (s : Vec Ideal S32x1 .f32) (q : Vec Ideal S32x8192 .i8) : k0_pay34 s q = actPay s q := rfl
theorem act35_eq (s : Vec Ideal S32x1 .f32) (q : Vec Ideal S32x8192 .i8) : k0_pay35 s q = actPay s q := rfl

/-- The stores of the activations leave them whole. -/
theorem acts_B (c : Dev nD) (arg1 : Memref sig .tc .vmem S512x8192 .i8) (harg1 : arg1.IsWhole) (arg2 : Memref sig .tc .vmem S512x128 .f32) (harg2 : arg2.IsWhole) (x0 : Vec Ideal S512x8192 .i8) (x1 : Vec Ideal S512x128 .f32) :
    View.canon (kernelRun0_B.sl.HS1_16 c arg1 harg1 arg2 harg2 x0 x1) = acts x0 x1 := by
  funext y
  have hc : ∃ p ∈ kernelRun0_B.sl.HS1_16 c arg1 harg1 arg2 harg2 x0 x1, y ∈ p.1.set := View.cover_of_tiledL (s := S512x8192) _ ![32, 8192] (by sl_kernel_rfl) y
  refine View.canon_eq_of_allAt _ _ _ hc ?_
  clear hc
  unfold kernelRun0_B.sl.HS1_16
  unfold kernelRun0_B.sl.r kernelRun0_B.sl.r_1 kernelRun0_B.sl.r_2 kernelRun0_B.sl.r_3
  dsimp only
  simp only [act_ld]
  rw [act35_eq, act34_eq, act33_eq, act32_eq, act31_eq, act29_eq, act28_eq, act27_eq, act26_eq, act23_eq, act22_eq, act21_eq, act20_eq, act18_eq, act17_eq, act16_eq]
  refine View.allAt_cons_unit _ _ _ _ _ (act_tile x0 x1 480 y _ _) ?_
  refine View.allAt_cons_unit _ _ _ _ _ (act_tile x0 x1 448 y _ _) ?_
  refine View.allAt_cons_unit _ _ _ _ _ (act_tile x0 x1 416 y _ _) ?_
  refine View.allAt_cons_unit _ _ _ _ _ (act_tile x0 x1 384 y _ _) ?_
  refine View.allAt_cons_unit _ _ _ _ _ (act_tile x0 x1 352 y _ _) ?_
  refine View.allAt_cons_unit _ _ _ _ _ (act_tile x0 x1 320 y _ _) ?_
  refine View.allAt_cons_unit _ _ _ _ _ (act_tile x0 x1 288 y _ _) ?_
  refine View.allAt_cons_unit _ _ _ _ _ (act_tile x0 x1 256 y _ _) ?_
  refine View.allAt_cons_unit _ _ _ _ _ (act_tile x0 x1 224 y _ _) ?_
  refine View.allAt_cons_unit _ _ _ _ _ (act_tile x0 x1 192 y _ _) ?_
  refine View.allAt_cons_unit _ _ _ _ _ (act_tile x0 x1 160 y _ _) ?_
  refine View.allAt_cons_unit _ _ _ _ _ (act_tile x0 x1 128 y _ _) ?_
  refine View.allAt_cons_unit _ _ _ _ _ (act_tile x0 x1 96 y _ _) ?_
  refine View.allAt_cons_unit _ _ _ _ _ (act_tile x0 x1 64 y _ _) ?_
  refine View.allAt_cons_unit _ _ _ _ _ (act_tile x0 x1 32 y _ _) ?_
  refine View.allAt_cons_unit _ _ _ _ _ (act_tile x0 x1 0 y _ _) ?_
  exact View.allAt_nil _ _

theorem acts_ld (c : Dev nD) (arg1 : Memref sig .tc .vmem S512x8192 .i8) (harg1 : arg1.IsWhole) (arg2 : Memref sig .tc .vmem S512x128 .f32) (harg2 : arg2.IsWhole) (arg9 : Memref sig .tc .vmem S512x8192 .bf16) (x0 : Vec Ideal S512x8192 .i8) (x1 : Vec Ideal S512x128 .f32) :
    kernelRun0_B.sl.v153 c arg1 harg1 arg2 harg2 arg9 x0 x1 = acts x0 x1 := by
  unfold kernelRun0_B.sl.v153
  rw [cov_ld _ _ _ _ (acts_B c arg1 harg1 arg2 harg2 x0 x1)]
  funext y
  exact View.ld_unit_apply_of _ _ _ _ _ _ fun a => by match a with
    | ⟨0, _⟩ => exact (Nat.zero_add _).symm
    | ⟨1, _⟩ => exact (Nat.zero_add _).symm

/-- A tile of 256 columns: the residual plus the scaled product of the activations with a column tile of the weight. -/
def tilePay (s : Vec Ideal S512x1 .f32) (a : Vec Ideal S512x8192 .bf16) (w : Vec Ideal S8192x256 .bf16) (h : Vec Ideal S512x256 .f32) : Vec Ideal S512x256 .bf16 := k0_pay37 s a w h

theorem tilePay_at (s : Vec Ideal S512x1 .f32) (a : Vec Ideal S512x8192 .bf16) (w : Vec Ideal S8192x256 .bf16) (h : Vec Ideal S512x256 .f32) (p : Fin 512) (l : Fin 256) :
    tilePay s a w h (ix2 p l) = h (ix2 p l) + (∑ k : Fin 8192, a (ix2 p k) * w (ix2 k l)) * s (ix2 p 0) := by
  pointwise! [tilePay, k0_pay37, k0_pay36]
  simp only [dite_eq_ite, ite_self]

/-- A point's output block. -/
def outv (a : Vec Ideal S512x8192 .bf16) (x1 : Vec Ideal S512x128 .f32) (W : Vec Ideal S8192x1536 .bf16) (x2 : Vec Ideal S512x1536 .f32) : Vec Ideal S512x1536 .bf16 := fun y =>
  x2 y + (∑ k : Fin 8192, a (ix2 ⟨y 0, (y 0).isLt⟩ k) * W (ix2 k ⟨y 1, (y 1).isLt⟩)) * x1 (ix2 ⟨y 0, (y 0).isLt⟩ 0)

theorem out_tile (a : Vec Ideal S512x8192 .bf16) (x1 : Vec Ideal S512x128 .f32) (W : Vec Ideal S8192x1536 .bf16) (x2 : Vec Ideal S512x1536 .f32) (o : ℕ) (y : S512x1536.Idx)
    (hs : ∀ a, (![0, 0] : Fin 2 → ℕ) a + S512x1.size a ≤ S512x128.size a) (hw : ∀ a, (![0, o] : Fin 2 → ℕ) a + S8192x256.size a ≤ S8192x1536.size a)
    (hh : ∀ a, (![0, o] : Fin 2 → ℕ) a + S512x256.size a ≤ S512x1536.size a) :
    View.TileAt y ![0, o] S512x256.size
      (tilePay (View.ld x1 (Rect.unit (s := S512x128) ![0, 0] S512x1.size hs)) a (View.ld W (Rect.unit (s := S8192x1536) ![0, o] S8192x256.size hw)) (View.ld x2 (Rect.unit (s := S512x1536) ![0, o] S512x256.size hh)))
      (outv a x1 W x2 y) := by
  intro x hx
  have y0 := hx 0
  have y1 := hx 1
  simp only [Matrix.cons_val_zero, Matrix.cons_val_one] at y0 y1
  have b0 : (x 0 : ℕ) < 512 := (x 0).isLt
  have b1 : (x 1 : ℕ) < 256 := (x 1).isLt
  have ex : x = ix2 (n0 := 512) (n1 := 256) ⟨x 0, b0⟩ ⟨x 1, b1⟩ := eq_ix2 x
  have hr : (⟨y 0, (y 0).isLt⟩ : Fin 512) = ⟨x 0, b0⟩ := Fin.ext (y0.trans (Nat.zero_add _))
  rw [ex, tilePay_at, outv, hr]
  refine congrArg₂ (fun u v : EReal => u + v) (View.ld_unit_apply_of x2 _ _ hh _ _ fun a => ?_)
    (Ideal.mul_congr (Finset.sum_congr rfl fun k _ => Ideal.mul_congr rfl (View.ld_unit_apply_of W _ _ hw _ _ fun a => ?_)) (View.ld_unit_apply_of x1 _ _ hs _ _ fun a => ?_))
  · match a with
    | ⟨0, _⟩ => exact y0
    | ⟨1, _⟩ => exact y1
  · match a with
    | ⟨0, _⟩ => exact (Nat.zero_add _).symm
    | ⟨1, _⟩ => exact y1
  · match a with
    | ⟨0, _⟩ => exact (Nat.zero_add _).symm
    | ⟨1, _⟩ => rfl

/-! The six stores' payloads are this one, cut differently by the printer. -/
theorem out37_eq (s : Vec Ideal S512x1 .f32) (a : Vec Ideal S512x8192 .bf16) (w : Vec Ideal S8192x256 .bf16) (h : Vec Ideal S512x256 .f32) : k0_pay37 s a w h = tilePay s a w h := rfl
theorem out38_eq (s : Vec Ideal S512x1 .f32) (a : Vec Ideal S512x8192 .bf16) (w : Vec Ideal S8192x256 .bf16) (h : Vec Ideal S512x256 .f32) : k0_pay38 s a w h = tilePay s a w h := rfl
theorem out39_eq (s : Vec Ideal S512x1 .f32) (a : Vec Ideal S512x8192 .bf16) (w : Vec Ideal S8192x256 .bf16) (h : Vec Ideal S512x256 .f32) : k0_pay39 (k0_pay36 s) a w h = tilePay s a w h := rfl
theorem out40_eq (s : Vec Ideal S512x1 .f32) (a : Vec Ideal S512x8192 .bf16) (w : Vec Ideal S8192x256 .bf16) (h : Vec Ideal S512x256 .f32) : k0_pay40 (k0_pay36 s) a w h = tilePay s a w h := rfl
theorem out41_eq (s : Vec Ideal S512x1 .f32) (a : Vec Ideal S512x8192 .bf16) (w : Vec Ideal S8192x256 .bf16) (h : Vec Ideal S512x256 .f32) : k0_pay41 (k0_pay36 s) a w h = tilePay s a w h := rfl
theorem out3_eq (s : Vec Ideal S512x1 .f32) (a : Vec Ideal S512x8192 .bf16) (w : Vec Ideal S8192x256 .bf16) (h : Vec Ideal S512x256 .f32) : k0_pay3 (k0_pay36 s) a w h = tilePay s a w h := rfl

/-- What a point of the second phase leaves in its output block. -/
theorem out_B (c : Dev nD) (i : grid0.Coords) (arg1 : Memref sig .tc .vmem S512x8192 .i8) (harg1 : arg1.IsWhole) (arg2 : Memref sig .tc .vmem S512x128 .f32) (harg2 : arg2.IsWhole) (arg3 : Memref sig .tc .vmem S512x1536 .f32) (harg3 : arg3.IsWhole) (arg4 : Memref sig .tc .vmem S256x1536 .i8) (harg4 : arg4.IsWhole) (arg5 : Memref sig .tc .vmem S8x1536 .f32) (harg5 : arg5.IsWhole) (arg7 : Memref sig .tc .vmem S512x1536 .bf16) (harg7 : arg7.IsWhole) (arg8 : Memref sig .tc .vmem S8192x1536 .bf16) (harg8 : arg8.IsWhole) (arg9 : Memref sig .tc .vmem S512x8192 .bf16) (harg9 : arg9.IsWhole) (hc0 : ¬cond0_0 i) (hc1 : cond0_1 i) (x0 : Vec Ideal S512x8192 .i8) (x1 : Vec Ideal S512x128 .f32) (x2 : Vec Ideal S512x1536 .f32) (x3 : Vec Ideal S256x1536 .i8) (x4 : Vec Ideal S8x1536 .f32) (W : Vec Ideal S8192x1536 .bf16) :
    out0_B_5 (F := Ideal) c i arg1 harg1 arg2 harg2 arg3 harg3 arg4 harg4 arg5 harg5 arg7 harg7 arg8 harg8 arg9 harg9 hc0 hc1 x0 x1 x2 x3 x4 W = outv (acts x0 x1) x1 W x2 := by
  funext y
  have hcov := cover0_B_5 (F := Ideal) c i arg1 harg1 arg2 harg2 arg3 harg3 arg4 harg4 arg5 harg5 arg7 harg7 arg8 harg8 arg9 harg9 hc0 hc1 x0 x1 x2 x3 x4 W y
  unfold out0_B_5
  rw [View.read_writes_junk_eq_canon]
  refine View.canon_eq_of_allAt _ _ _ hcov ?_
  clear hcov
  unfold kernelRun0_B
  dsimp only
  unfold kernelRun0_B.sl.r_4
  dsimp only
  simp only [acts_ld, act_ld]
  rw [out3_eq, out41_eq, out40_eq, out39_eq, out38_eq, out37_eq]
  refine View.allAt_cons_unit _ _ _ _ _ (out_tile (acts x0 x1) x1 W x2 1280 y _ _ _) ?_
  refine View.allAt_cons_unit _ _ _ _ _ (out_tile (acts x0 x1) x1 W x2 1024 y _ _ _) ?_
  refine View.allAt_cons_unit _ _ _ _ _ (out_tile (acts x0 x1) x1 W x2 768 y _ _ _) ?_
  refine View.allAt_cons_unit _ _ _ _ _ (out_tile (acts x0 x1) x1 W x2 512 y _ _ _) ?_
  refine View.allAt_cons_unit _ _ _ _ _ (out_tile (acts x0 x1) x1 W x2 256 y _ _ _) ?_
  refine View.allAt_cons_unit _ _ _ _ _ (out_tile (acts x0 x1) x1 W x2 0 y _ _ _) ?_
  exact View.allAt_nil _ _

end Cert.DownHighVal
-- ==== Proof.DownHighRef.lean ====
/- The reference of `down_high` at an index: the left half of the result is the one handed in, the right half the residual plus
   the product of the centred codes with the signed high nibbles times their groups' scales. -/
module

public import proofs.«01_k».proof.Proof.Gen.DownHighRefIdeal.Run
public import proofs.«01_k».proof.Proof.GateUpRef

@[expose] public section

set_option maxRecDepth 16384

noncomputable section

namespace Cert.DownHighRefVal

open Idealize.ShloMosaic Idealize.ShloMosaic.TcCoe Idealize.SL.Sem
open Cert.DownHighRefIdeal Cert.DownHighRefIdeal.Gen

/-- The residual plus the scaled product at row `r`, column `l` of the right half. -/
def downHigh (codes : Vec Ideal S12288x8192 .i8) (aux : Vec Ideal S12288x128 .f32) (h1 : Vec Ideal S12288x3072 .f32) (wq : Vec Ideal S8192x1536 .i8)
    (ws : Vec Ideal S256x3072 .f32) (r : Fin 12288) (l : Fin 1536) : EReal :=
  h1 (ix2 r ⟨1536 + (l : ℕ), by omega⟩) + (∑ k : Fin 8192, ((((codes (ix2 r k) : BitVec 8).toInt : ℝ) : EReal) - aux (ix2 r 1))
    * (Int4.high (wq (ix2 k l)) * ws (ix2 ⟨(k : ℕ) / 32, by omega⟩ ⟨1536 + (l : ℕ), by omega⟩))) * aux (ix2 r 0)

/-- The right half of the reference's result. -/
def right (m : (ℓ : Loc nD τ sig) → Buf (Elt Ideal) ℓ) (c : Dev nD) : FVec Ideal S12288x1536 .bf16 :=
  (truncf .bf16 (addf (extractStridedSlice S12288x1536 ![0, 1536] (m ((c.tc : Thread nD τ).loc main_arg2)) slices_S12288x3072_S12288x1536_0_1536) (mulf (Host.dotGeneral dot_S12288x8192_S8192x1536_S12288x1536_1_0_0_1_n_n none (truncf .bf16 (subf (sitofp .f32 (extsi 32 (m ((c.tc : Thread nD τ).loc main_arg0)) natLt_8_32)) (broadcastInDim S12288x8192 ![0, 1] bcast_S12288x1_S12288x8192_0_1 (broadcastInDim S12288x1 ![0] bcast_S12288_S12288x1_0 (shapeCast _ (extractStridedSlice S12288x1 ![0, 1] (m ((c.tc : Thread nD τ).loc main_arg1)) slices_S12288x128_S12288x1_0_1) shapeCasts_S12288x1_S12288)))) bitsLt_bf16_f32) (mulf (sitofp .bf16 (select (cmpi .sge (Host.shrsi (extui 32 (m ((c.tc : Thread nD τ).loc main_arg3)) natLt_8_32) (broadcastInDim S8192x1536 ![] bcast_S_S8192x1536 (constantI S_ 32 4#32))) (broadcastInDim S8192x1536 ![] bcast_S_S8192x1536 (constantI S_ 32 8#32))) (subi (Host.shrsi (extui 32 (m ((c.tc : Thread nD τ).loc main_arg3)) natLt_8_32) (broadcastInDim S8192x1536 ![] bcast_S_S8192x1536 (constantI S_ 32 4#32))) (broadcastInDim S8192x1536 ![] bcast_S_S8192x1536 (constantI S_ 32 16#32))) (Host.shrsi (extui 32 (m ((c.tc : Thread nD τ).loc main_arg3)) natLt_8_32) (broadcastInDim S8192x1536 ![] bcast_S_S8192x1536 (constantI S_ 32 4#32))))) (truncf .bf16 (shapeCast _ (broadcastInDim S256x32x1536 ![0, 2] bcast_S256x1536_S256x32x1536_0_2 (extractStridedSlice S256x1536 ![0, 1536] (m ((c.tc : Thread nD τ).loc main_arg4)) slices_S256x3072_S256x1536_0_1536)) shapeCasts_S256x32x1536_S8192x1536) bitsLt_bf16_f32))) (broadcastInDim S12288x1536 ![0, 1] bcast_S12288x1_S12288x1536_0_1 (broadcastInDim S12288x1 ![0] bcast_S12288_S12288x1_0 (shapeCast _ (extractStridedSlice S12288x1 ![0, 0] (m ((c.tc : Thread nD τ).loc main_arg1)) slices_S12288x128_S12288x1_0_0) shapeCasts_S12288x1_S12288))))) bitsLt_bf16_f32)

/-- The reference's result. -/
def res (m : (ℓ : Loc nD τ sig) → Buf (Elt Ideal) ℓ) (c : Dev nD) : FVec Ideal S12288x3072 .bf16 :=
  concatenate S12288x3072 1 [⟨S12288x1536, (extractStridedSlice S12288x1536 ![0, 0] (m ((c.tc : Thread nD τ).loc main_arg5)) slices_S12288x3072_S12288x1536_0_0)⟩, ⟨S12288x1536, right m c⟩] concatenates_S12288x1536_S12288x1536_S12288x3072_d1

/-- The right half at an index. -/
theorem right_at (m : (ℓ : Loc nD τ sig) → Buf (Elt Ideal) ℓ) (c : Dev nD) (r : Fin 12288) (l : Fin 1536) :
    right m c (ix2 r l)
      = downHigh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r l := by
  pointwise [right]
  simp only [GateUpRefVal.ext_int, GateUpRefVal.ref_high]
  rfl

/-- The result's right half at an index. -/
theorem res_right (m : (ℓ : Loc nD τ sig) → Buf (Elt Ideal) ℓ) (c : Dev nD) (r : Fin 12288) (l : Fin 1536) :
    res m c (ix2 r ⟨1536 + (l : ℕ), by omega⟩)
      = downHigh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r l := by
  rw [← right_at]
  pointwise [res]

/-- The result's left half is the argument's. -/
theorem res_left (m : (ℓ : Loc nD τ sig) → Buf (Elt Ideal) ℓ) (c : Dev nD) (r : Fin 12288) (l : Fin 1536) :
    res m c (ix2 r ⟨(l : ℕ), by omega⟩) = m ((c.tc : Thread nD τ).loc main_arg5) (ix2 r ⟨(l : ℕ), by omega⟩) := by
  pointwise [res]

end Cert.DownHighRefVal
-- ==== Proof.DownHighValue.lean ====
/- The array `down_high` leaves is the reference's, index by index. -/
module

public import proofs.«01_k».proof.Proof.DownHighBlock
public import proofs.«01_k».proof.Proof.DownHighRef
public import Idealize.ShloMosaic.Lib.Pipeline.ValueKit.Partial

@[expose] public section

set_option maxRecDepth 16384

noncomputable section

namespace Cert.DownHighVal

open Idealize.ShloMosaic Idealize.ShloMosaic.TcCoe Idealize.SL.Sem
open Cert.DownHighIdeal Cert.DownHighIdeal.Gen Cert.DownHighIdeal.Hand

/-- The blocks of a point of the first phase: the weight's rows go with the point. -/
theorem idxA : ∀ t : Fin cfg0.N, t.val < 32 → win0_3.index t = ![t.val, 0] ∧ win0_4.index t = ![t.val, 1] :=
  (by decide +kernel : ∀ t : Fin grid0.N, t.val < 32 → _)

/-- The blocks of a point of the second phase: the rows of codes, row values, residual and result. -/
theorem idxB : ∀ t : Fin cfg0.N, 32 ≤ t.val → win0_0.index t = ![t.val - 32, 0] ∧ win0_1.index t = ![t.val - 32, 0] ∧ win0_2.index t = ![t.val - 32, 1]
    ∧ win0_5.index t = ![t.val - 32, 1] :=
  (by decide +kernel : ∀ t : Fin grid0.N, 32 ≤ t.val → _)

variable (m : (ℓ : Loc nD τ sig) → Buf (Elt Ideal) ℓ)

/-- The full weight scratch at an index. -/
theorem wt_at (c : Dev nD) (k : Fin 8192) (l : Fin 1536) :
    wt m c (ix2 k l) = Int4.high (m ((c : Thread nD τ).loc main_arg3) (ix2 k l)) * m ((c : Thread nD τ).loc main_arg4) (ix2 (n0 := 256) (n1 := 3072) ⟨(k : ℕ) / 32, by omega⟩ ⟨1536 + (l : ℕ), by omega⟩) := by
  have hc := coords_val (pt (ix2 k l))
  have ht : (pt (ix2 k l)).val = (k : ℕ) / 256 := rfl
  obtain ⟨e3, e4⟩ := idxA (pt (ix2 k l)) (pt_lt _)
  unfold wt sA
  rw [filled _ _ _ _ _ _ _ _ _ _ _ _ _ _ _ _ _ _ _ _ _ _ _ _ _ _ _ (by rw [hc, ht]; rfl)]
  generalize pt (ix2 k l) = t at *
  have h3 : ∀ (a : Fin 256), (k : ℕ) = t.val * 256 + a → iblk m c 3 t (ix2 a l) = m ((c : Thread nD τ).loc main_arg3) (ix2 k l) := fun a ha => by blk_point [iblk, V, e3, ha]
  have h4 : ∀ (a : Fin 8) (b : Fin 256), (b : ℕ) = t.val * 8 + a → iblk m c 4 t (ix2 a l) = m ((c : Thread nD τ).loc main_arg4) (ix2 b ⟨1536 + (l : ℕ), by omega⟩) := fun a b hb => by blk_point [iblk, V, e4, hb]
  show Int4.high (iblk m c 3 t (ix2 ⟨(k : ℕ) % 256, _⟩ l)) * iblk m c 4 t (ix2 ⟨(k : ℕ) % 256 / 32, _⟩ l) = _
  rw [h3 _ (by show (k : ℕ) = t.val * 256 + (k : ℕ) % 256; omega), h4 _ ⟨(k : ℕ) / 32, by omega⟩ (by show (k : ℕ) / 32 = t.val * 8 + (k : ℕ) % 256 / 32; omega)]

theorem outv_at (a : Vec Ideal S512x8192 .bf16) (x1 : Vec Ideal S512x128 .f32) (W : Vec Ideal S8192x1536 .bf16) (x2 : Vec Ideal S512x1536 .f32) (p : Fin 512) (l : Fin 1536) :
    DownHighVal.outv a x1 W x2 (ix2 p l) = x2 (ix2 p l) + (∑ k : Fin 8192, a (ix2 p k) * W (ix2 k l)) * x1 (ix2 p 0) := rfl

theorem acts_at (x0 : Vec Ideal S512x8192 .i8) (x1 : Vec Ideal S512x128 .f32) (p : Fin 512) (k : Fin 8192) :
    acts x0 x1 (ix2 p k) = (((x0 (ix2 p k) : BitVec 8).toInt : ℝ) : EReal) - x1 (ix2 p 1) := rfl

/-- The output block of a point of the second phase is its part of the reference's right half. -/
theorem point (c : Dev nD) (t : Fin cfg0.N) (ht : 32 ≤ t.val) (p : Fin 512) (l : Fin 1536) (r : Fin 12288) (hr : (r : ℕ) = (t.val - 32) * 512 + p) :
    DownHighVal.outv (acts (iblk m c 0 t) (iblk m c 1 t)) (iblk m c 1 t) (wt m c) (iblk m c 2 t) (ix2 p l)
      = Cert.DownHighRefVal.downHigh (m ((c : Thread nD τ).loc main_arg0)) (m ((c : Thread nD τ).loc main_arg1)) (m ((c : Thread nD τ).loc main_arg2)) (m ((c : Thread nD τ).loc main_arg3)) (m ((c : Thread nD τ).loc main_arg4)) r l := by
  obtain ⟨i0, i1, i2, i5⟩ := idxB t ht
  have e0 : ∀ k : Fin 8192, iblk m c 0 t (ix2 p k) = m ((c : Thread nD τ).loc main_arg0) (ix2 r k) := fun k => by blk_point [iblk, V, i0, hr]
  have e1 : ∀ k : Fin 128, iblk m c 1 t (ix2 p k) = m ((c : Thread nD τ).loc main_arg1) (ix2 r k) := fun k => by blk_point [iblk, V, i1, hr]
  have e2 : iblk m c 2 t (ix2 p l) = m ((c : Thread nD τ).loc main_arg2) (ix2 r ⟨1536 + (l : ℕ), by omega⟩) := by blk_point [iblk, V, i2, hr]
  rw [outv_at]
  simp only [acts_at, wt_at]
  unfold Cert.DownHighRefVal.downHigh
  simp only [e0, e1, e2]

/-- What the result holds when the region is entered: the argument it is a copy of. -/
theorem entry (c : Dev nD) : V m c main_v0 = m ((c : Thread nD τ).loc main_arg5) := by unfold V; after_results; try rfl

/-- The array after the run: `R` where `R` is the reference's right half and the argument's left half. -/
theorem final_at (c : Dev nD) (R : Vec Ideal S12288x3072 .bf16)
    (hR : ∀ (r : Fin 12288) (l : Fin 1536), R (ix2 r ⟨1536 + (l : ℕ), by omega⟩)
      = Cert.DownHighRefVal.downHigh (m ((c : Thread nD τ).loc main_arg0)) (m ((c : Thread nD τ).loc main_arg1)) (m ((c : Thread nD τ).loc main_arg2)) (m ((c : Thread nD τ).loc main_arg3)) (m ((c : Thread nD τ).loc main_arg4)) r l)
    (hL : ∀ (r : Fin 12288) (l : Fin 1536), R (ix2 r ⟨(l : ℕ), by omega⟩) = m ((c : Thread nD τ).loc main_arg5) (ix2 r ⟨(l : ℕ), by omega⟩)) :
    (dats m 0 c).arrAt 5 cfg0.N = R := by
  refine (dats m 0 c).arrAt_eq_of_coversWhere_of_agree 5 _ (fun β => 1 ≤ β 1) (by decide +kernel) (fun t hf y => ?_) (fun j hj => ?_)
  · have ht : 32 ≤ t.val := (by decide +kernel : ∀ t : Fin grid0.N, win0_5.flush t = true → 32 ≤ t.val) t hf
    obtain ⟨i0, i1, i2, i5⟩ := idxB t ht
    have hN : t.val < 56 := t.isLt
    blk_simp
    rw [after0_5, Hand.outv, dif_pos ht, oB, out_B]
    idx_vars y
    have hr : (t.val - 32) * 512 + (y0 : ℕ) < 12288 := by omega
    have hE : ((View.whole main_v0).slice (win0_5.rect t)).emb (ix2 y0 y1) = ix2 (n0 := 12288) (n1 := 3072) ⟨_, hr⟩ ⟨1536 + (y1 : ℕ), by omega⟩ := by blk_ext [i5]
    exact (point m c t ht y0 y1 ⟨_, hr⟩ rfl).trans ((congrArg R hE).trans (hR _ _)).symm
  · idx_vars j
    have h1 : (j1 : ℕ) < 1536 := by
      revert hj
      blk_simp [Pipeline.Window.cell_apply]
      omega
    rw [A_eq]
    refine (congrFun (entry m c) _).trans ?_
    exact (hL j0 ⟨j1, h1⟩).symm

/-- The run: the result at what the pipeline's write-backs leave in it, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h.1 c).1 5, h.2 c⟩) (θ_run_and (run_main m ρ) (unchanged m ρ))

end Cert.DownHighVal
-- ==== Proof.DownLowRun.lean ====
/- The body of `DownLow` run in each of the four cases of its grid: a point that expands a slice of the weight (A), the first point
   that quantises (B), and the points that quantise one tile of rows and multiply the one before (C, D, by parity). Each run
   names the pieces that the case's stores leave (found by `sl_exec`). -/
module

public import proofs.«01_k».proof.Proof.Gen.DownLow.Frame
public import proofs.«01_k».proof.Proof.Gen.DownLow.Skeleton

@[expose] public section

set_option maxRecDepth 16384

noncomputable section

namespace Cert.DownLow.Hand

open Cert.DownLow.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point expands a slice of the weight. -/
abbrev cond0_0 (i : grid0.Coords) : Prop := k0_cond1 i = 1#1
theorem hcond0_0 : ∀ t : Fin cfg0.N, cond0_0 (grid0.coords t) ↔ t.val < 32 :=
  (by decide +kernel : ∀ t : Fin grid0.N, cond0_0 (grid0.coords t) ↔ t.val < 32)

/-- The first point that quantises. -/
abbrev cond0_1 (i : grid0.Coords) : Prop := k0_cond2 i = 1#1
theorem hcond0_1 : ∀ t : Fin cfg0.N, cond0_1 (grid0.coords t) ↔ t.val = 32 :=
  (by decide +kernel : ∀ t : Fin grid0.N, cond0_1 (grid0.coords t) ↔ t.val = 32)

/-- A later point, with the second activation scratch written. -/
abbrev cond0_2 (i : grid0.Coords) : Prop := k0_cond3 i = 1#1
theorem hcond0_2 : ∀ t : Fin cfg0.N, cond0_2 (grid0.coords t) ↔ 32 < t.val ∧ t.val % 2 = 1 :=
  (by decide +kernel : ∀ t : Fin grid0.N, cond0_2 (grid0.coords t) ↔ 32 < t.val ∧ t.val % 2 = 1)

/-- A later point, with the first activation scratch written. -/
abbrev cond0_3 (i : grid0.Coords) : Prop := k0_cond4 i = 1#1
theorem hcond0_3 : ∀ t : Fin cfg0.N, cond0_3 (grid0.coords t) ↔ 32 < t.val ∧ t.val % 2 = 0 :=
  (by decide +kernel : ∀ t : Fin grid0.N, cond0_3 (grid0.coords t) ↔ 32 < t.val ∧ t.val % 2 = 0)

set_option maxHeartbeats 16000000 in
/-- The run in case A: the pieces the body's stores leave in the buffers it writes, WITH the proof that it runs from the other
    buffers at given contents and the written ones at anything to the continuation holding the others as they were and the
    written ones with their pieces. -/
noncomputable def kernelRun0_A (c : Dev nD) (i : grid0.Coords) (arg1 : Memref sig .tc .vmem S256x8192 .f32) (harg1 : arg1.IsWhole) (arg2 : Memref sig .tc .vmem S256x1536 .f32) (harg2 : arg2.IsWhole) (arg3 : Memref sig .tc .vmem S256x1536 .i8) (harg3 : arg3.IsWhole) (arg4 : Memref sig .tc .vmem S8x1536 .f32) (harg4 : arg4.IsWhole) (arg5 : Memref sig .tc .vmem S256x8192 .i8) (harg5 : arg5.IsWhole) (arg6 : Memref sig .tc .vmem S256x128 .f32) (harg6 : arg6.IsWhole) (arg7 : Memref sig .tc .vmem S256x1536 .bf16) (harg7 : arg7.IsWhole) (arg8 : Memref sig .tc .vmem S8192x1536 .bf16) (harg8 : arg8.IsWhole) (arg9 : Memref sig .tc .vmem S256x8192 .bf16) (harg9 : arg9.IsWhole) (arg10 : Memref sig .tc .vmem S256x8192 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : ¬cond0_1 i) (hc2 : ¬cond0_2 i) (hc3 : ¬cond0_3 i)
    (x0 : Vec F S256x8192 .f32) (x1 : Vec F S256x1536 .f32) (x2 : Vec F S256x1536 .i8) (x3 : Vec F S8x1536 .f32)  :
    { L8 : List (View.Piece (Elt F) S8192x1536 .bf16) //
      ∀ (z5 : Vec F S256x8192 .i8) (z6 : Vec F S256x128 .f32) (z7 : Vec F S256x1536 .bf16) (y8 : Vec F S8192x1536 .bf16) (z9 : Vec F S256x8192 .bf16) (z10 : Vec F S256x8192 .bf16) (z11 : Vec F S256x128 .f32) (z12 : Vec F S256x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare z5 ∗ owns (c : Thread nD τ) arg6 fullShare z6 ∗ owns (c : Thread nD τ) arg7 fullShare z7 ∗ owns (c : Thread nD τ) arg8 fullShare y8 ∗ owns (c : Thread nD τ) arg9 fullShare z9 ∗ owns (c : Thread nD τ) arg10 fullShare z10 ∗ owns (c : Thread nD τ) arg11 fullShare z11 ∗ owns (c : Thread nD τ) arg12 fullShare z12
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare z5 ∗ owns (c : Thread nD τ) arg6 fullShare z6 ∗ owns (c : Thread nD τ) arg7 fullShare z7 ∗ (arg8.view.loc (c : Thread nD τ) ↦[arg8.view.set]{fullShare} arg8.view.writes (Elt F) (harg8.unread y8) L8) ∗ owns (c : Thread nD τ) arg9 fullShare z9 ∗ owns (c : Thread nD τ) arg10 fullShare z10 ∗ owns (c : Thread nD τ) arg11 fullShare z11 ∗ owns (c : Thread nD τ) arg12 fullShare z12) -∗ K ⟨⟩))
          ⊢ wp frame (wpE (defs₀ (F := F)) Variants.none c none) E (cc0_down_low i arg1 harg1 arg2 harg2 arg3 harg3 arg4 harg4 arg5 harg5 arg6 harg6 arg7 harg7 arg8 harg8 arg9 harg9 arg10 harg10 arg11 harg11 arg12 harg12) K } := by
  refine ⟨?_, fun z5 z6 z7 y8 z9 z10 z11 z12 E K => ?run⟩
  case run =>
    simp only [cc0_down_low_eq_skeleton]; unfold cc0_down_low_skel
    simp only [k0_part141_eq_skeleton, k0_part1_eq_skeleton, k0_part2_eq_skeleton, k0_part3_eq_skeleton, k0_part4_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg12.eq_unread hf12; obtain rfl := harg8.eq_unread hf8
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; isplitr; · ipureintro; exact harg12.read_unread _
    iexact H12

set_option maxHeartbeats 16000000 in
/-- The run in case B: the pieces the body's stores leave in the buffers it writes, WITH the proof that it runs from the other
    buffers at given contents and the written ones at anything to the continuation holding the others as they were and the
    written ones with their pieces. -/
noncomputable def kernelRun0_B (c : Dev nD) (i : grid0.Coords) (arg1 : Memref sig .tc .vmem S256x8192 .f32) (harg1 : arg1.IsWhole) (arg2 : Memref sig .tc .vmem S256x1536 .f32) (harg2 : arg2.IsWhole) (arg3 : Memref sig .tc .vmem S256x1536 .i8) (harg3 : arg3.IsWhole) (arg4 : Memref sig .tc .vmem S8x1536 .f32) (harg4 : arg4.IsWhole) (arg5 : Memref sig .tc .vmem S256x8192 .i8) (harg5 : arg5.IsWhole) (arg6 : Memref sig .tc .vmem S256x128 .f32) (harg6 : arg6.IsWhole) (arg7 : Memref sig .tc .vmem S256x1536 .bf16) (harg7 : arg7.IsWhole) (arg8 : Memref sig .tc .vmem S8192x1536 .bf16) (harg8 : arg8.IsWhole) (arg9 : Memref sig .tc .vmem S256x8192 .bf16) (harg9 : arg9.IsWhole) (arg10 : Memref sig .tc .vmem S256x8192 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : cond0_1 i) (hc2 : ¬cond0_2 i) (hc3 : ¬cond0_3 i)
    (x0 : Vec F S256x8192 .f32) (x1 : Vec F S256x1536 .f32) (x2 : Vec F S256x1536 .i8) (x3 : Vec F S8x1536 .f32)  :
    Σ' (L5 : List (View.Piece (Elt F) S256x8192 .i8)), Σ' (L6 : List (View.Piece (Elt F) S256x128 .f32)), Σ' (L9 : List (View.Piece (Elt F) S256x8192 .bf16)), { L11 : List (View.Piece (Elt F) S256x128 .f32) //
      ∀ (z7 : Vec F S256x1536 .bf16) (z8 : Vec F S8192x1536 .bf16) (z10 : Vec F S256x8192 .bf16) (z12 : Vec F S256x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare z7 ∗ owns (c : Thread nD τ) arg8 fullShare z8 ∗ (∃ d, owns (c : Thread nD τ) arg9 fullShare d) ∗ owns (c : Thread nD τ) arg10 fullShare z10 ∗ (∃ d, owns (c : Thread nD τ) arg11 fullShare d) ∗ owns (c : Thread nD τ) arg12 fullShare z12
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ owns (c : Thread nD τ) arg7 fullShare z7 ∗ owns (c : Thread nD τ) arg8 fullShare z8 ∗ (∃ f, arg9.view.loc (c : Thread nD τ) ↦[arg9.view.set]{fullShare} arg9.view.writes (Elt F) f L9) ∗ owns (c : Thread nD τ) arg10 fullShare z10 ∗ (∃ f, arg11.view.loc (c : Thread nD τ) ↦[arg11.view.set]{fullShare} arg11.view.writes (Elt F) f L11) ∗ owns (c : Thread nD τ) arg12 fullShare z12) -∗ K ⟨⟩))
          ⊢ wp frame (wpE (defs₀ (F := F)) Variants.none c none) E (cc0_down_low i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun z7 z8 z10 z12 E K => ?run⟩
  case run =>
    simp only [cc0_down_low_eq_skeleton]; unfold cc0_down_low_skel
    simp only [k0_part141_eq_skeleton, k0_part48_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part46_eq_skeleton, k0_part47_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%d9, %f9, -, H9⟩, ⟨%f10, %hf10, H10⟩, ⟨%d11, %f11, -, H11⟩, ⟨%f12, %hf12, H12⟩, Hk⟩
    obtain rfl := harg1.eq_unread hf1; obtain rfl := harg2.eq_unread hf2; obtain rfl := harg3.eq_unread hf3; obtain rfl := harg4.eq_unread hf4; obtain rfl := harg7.eq_unread hf7; obtain rfl := harg8.eq_unread hf8; obtain rfl := harg10.eq_unread hf10; obtain rfl := harg12.eq_unread hf12
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]
    · iexists _; isplitr; · ipureintro; exact harg10.read_unread _
      iexact H10
    isplitl [H11]; · iexists _; iexact H11
    iexists _; isplitr; · ipureintro; exact harg12.read_unread _
    iexact H12

set_option maxHeartbeats 16000000 in
/-- The run in case C: the pieces the body's stores leave in the buffers it writes, WITH the proof that it runs from the other
    buffers at given contents and the written ones at anything to the continuation holding the others as they were and the
    written ones with their pieces. -/
noncomputable def kernelRun0_C (c : Dev nD) (i : grid0.Coords) (arg1 : Memref sig .tc .vmem S256x8192 .f32) (harg1 : arg1.IsWhole) (arg2 : Memref sig .tc .vmem S256x1536 .f32) (harg2 : arg2.IsWhole) (arg3 : Memref sig .tc .vmem S256x1536 .i8) (harg3 : arg3.IsWhole) (arg4 : Memref sig .tc .vmem S8x1536 .f32) (harg4 : arg4.IsWhole) (arg5 : Memref sig .tc .vmem S256x8192 .i8) (harg5 : arg5.IsWhole) (arg6 : Memref sig .tc .vmem S256x128 .f32) (harg6 : arg6.IsWhole) (arg7 : Memref sig .tc .vmem S256x1536 .bf16) (harg7 : arg7.IsWhole) (arg8 : Memref sig .tc .vmem S8192x1536 .bf16) (harg8 : arg8.IsWhole) (arg9 : Memref sig .tc .vmem S256x8192 .bf16) (harg9 : arg9.IsWhole) (arg10 : Memref sig .tc .vmem S256x8192 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : ¬cond0_1 i) (hc2 : cond0_2 i) (hc3 : ¬cond0_3 i)
    (x0 : Vec F S256x8192 .f32) (x1 : Vec F S256x1536 .f32) (x2 : Vec F S256x1536 .i8) (x3 : Vec F S8x1536 .f32) (y8 : Vec F S8192x1536 .bf16) (y9 : Vec F S256x8192 .bf16) (y11 : Vec F S256x128 .f32) :
    Σ' (L5 : List (View.Piece (Elt F) S256x8192 .i8)), Σ' (L6 : List (View.Piece (Elt F) S256x128 .f32)), Σ' (L7 : List (View.Piece (Elt F) S256x1536 .bf16)), Σ' (L10 : List (View.Piece (Elt F) S256x8192 .bf16)), { L12 : List (View.Piece (Elt F) S256x128 .f32) //
      ∀  (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare y8 ∗ owns (c : Thread nD τ) arg9 fullShare y9 ∗ (∃ d, owns (c : Thread nD τ) arg10 fullShare d) ∗ owns (c : Thread nD τ) arg11 fullShare y11 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ owns (c : Thread nD τ) arg8 fullShare y8 ∗ owns (c : Thread nD τ) arg9 fullShare y9 ∗ (∃ f, arg10.view.loc (c : Thread nD τ) ↦[arg10.view.set]{fullShare} arg10.view.writes (Elt F) f L10) ∗ owns (c : Thread nD τ) arg11 fullShare y11 ∗ (∃ f, arg12.view.loc (c : Thread nD τ) ↦[arg12.view.set]{fullShare} arg12.view.writes (Elt F) f L12)) -∗ K ⟨⟩))
          ⊢ wp frame (wpE (defs₀ (F := F)) Variants.none c none) E (cc0_down_low i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun  E K => ?run⟩
  case run =>
    simp only [cc0_down_low_eq_skeleton]; unfold cc0_down_low_skel
    simp only [k0_part141_eq_skeleton, k0_part94_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part90_eq_skeleton, k0_part91_eq_skeleton, k0_part92_eq_skeleton, k0_part93_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, ⟨%d10, %f10, -, H10⟩, ⟨%f11, %hf11, H11⟩, ⟨%d12, %f12, -, H12⟩, Hk⟩
    obtain rfl := harg1.eq_unread hf1; obtain rfl := harg2.eq_unread hf2; obtain rfl := harg3.eq_unread hf3; obtain rfl := harg4.eq_unread hf4; obtain rfl := harg8.eq_unread hf8; obtain rfl := harg9.eq_unread hf9; obtain rfl := harg11.eq_unread hf11
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]
    · iexists _; isplitr; · ipureintro; exact harg11.read_unread _
      iexact H11
    iexists _; iexact H12

set_option maxHeartbeats 16000000 in
/-- The run in case D: the pieces the body's stores leave in the buffers it writes, WITH the proof that it runs from the other
    buffers at given contents and the written ones at anything to the continuation holding the others as they were and the
    written ones with their pieces. -/
noncomputable def kernelRun0_D (c : Dev nD) (i : grid0.Coords) (arg1 : Memref sig .tc .vmem S256x8192 .f32) (harg1 : arg1.IsWhole) (arg2 : Memref sig .tc .vmem S256x1536 .f32) (harg2 : arg2.IsWhole) (arg3 : Memref sig .tc .vmem S256x1536 .i8) (harg3 : arg3.IsWhole) (arg4 : Memref sig .tc .vmem S8x1536 .f32) (harg4 : arg4.IsWhole) (arg5 : Memref sig .tc .vmem S256x8192 .i8) (harg5 : arg5.IsWhole) (arg6 : Memref sig .tc .vmem S256x128 .f32) (harg6 : arg6.IsWhole) (arg7 : Memref sig .tc .vmem S256x1536 .bf16) (harg7 : arg7.IsWhole) (arg8 : Memref sig .tc .vmem S8192x1536 .bf16) (harg8 : arg8.IsWhole) (arg9 : Memref sig .tc .vmem S256x8192 .bf16) (harg9 : arg9.IsWhole) (arg10 : Memref sig .tc .vmem S256x8192 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : ¬cond0_1 i) (hc2 : ¬cond0_2 i) (hc3 : cond0_3 i)
    (x0 : Vec F S256x8192 .f32) (x1 : Vec F S256x1536 .f32) (x2 : Vec F S256x1536 .i8) (x3 : Vec F S8x1536 .f32) (y8 : Vec F S8192x1536 .bf16) (y10 : Vec F S256x8192 .bf16) (y12 : Vec F S256x128 .f32) :
    Σ' (L5 : List (View.Piece (Elt F) S256x8192 .i8)), Σ' (L6 : List (View.Piece (Elt F) S256x128 .f32)), Σ' (L7 : List (View.Piece (Elt F) S256x1536 .bf16)), Σ' (L9 : List (View.Piece (Elt F) S256x8192 .bf16)), { L11 : List (View.Piece (Elt F) S256x128 .f32) //
      ∀  (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare y8 ∗ (∃ d, owns (c : Thread nD τ) arg9 fullShare d) ∗ owns (c : Thread nD τ) arg10 fullShare y10 ∗ (∃ d, owns (c : Thread nD τ) arg11 fullShare d) ∗ owns (c : Thread nD τ) arg12 fullShare y12
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ owns (c : Thread nD τ) arg8 fullShare y8 ∗ (∃ f, arg9.view.loc (c : Thread nD τ) ↦[arg9.view.set]{fullShare} arg9.view.writes (Elt F) f L9) ∗ owns (c : Thread nD τ) arg10 fullShare y10 ∗ (∃ f, arg11.view.loc (c : Thread nD τ) ↦[arg11.view.set]{fullShare} arg11.view.writes (Elt F) f L11) ∗ owns (c : Thread nD τ) arg12 fullShare y12) -∗ K ⟨⟩))
          ⊢ wp frame (wpE (defs₀ (F := F)) Variants.none c none) E (cc0_down_low i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun  E K => ?run⟩
  case run =>
    simp only [cc0_down_low_eq_skeleton]; unfold cc0_down_low_skel
    simp only [k0_part140_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part136_eq_skeleton, k0_part137_eq_skeleton, k0_part138_eq_skeleton, k0_part139_eq_skeleton, k0_part141_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%d9, %f9, -, H9⟩, ⟨%f10, %hf10, H10⟩, ⟨%d11, %f11, -, H11⟩, ⟨%f12, %hf12, H12⟩, Hk⟩
    obtain rfl := harg1.eq_unread hf1; obtain rfl := harg2.eq_unread hf2; obtain rfl := harg3.eq_unread hf3; obtain rfl := harg4.eq_unread hf4; obtain rfl := harg8.eq_unread hf8; obtain rfl := harg10.eq_unread hf10; obtain rfl := harg12.eq_unread hf12
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]
    · iexists _; isplitr; · ipureintro; exact harg8.read_unread _
      iexact H8
    isplitl [H9]; · iexists _; iexact H9
    isplitl [H10]
    · iexists _; isplitr; · ipureintro; exact harg10.read_unread _
      iexact H10
    isplitl [H11]; · iexists _; iexact H11
    iexists _; isplitr; · ipureintro; exact harg12.read_unread _
    iexact H12

end Cert.DownLow.Hand

end
-- ==== Proof.DownLowTile.lean ====
/- What the stores of `DownLow`'s body leave: the quantiser's 32 stores of 8 rows each leave in a buffer one function of the rows'
   block, and the 6 stores of 256 columns leave the residual plus the scaled product. -/
module

public import proofs.«01_k».proof.Proof.DownLowRun
public import Idealize.ShloMosaic.Lib.Pointwise.Index
public import Idealize.ShloMosaic.Lib.Pipeline.ValueKit.Tiles
public import Idealize.ShloMosaic.Lib.Pipeline.ValueKit.Geometry

@[expose] public section

set_option maxRecDepth 16384

noncomputable section

namespace Cert.DownLow.Hand

open Cert.DownLow.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The quantiser's chunk of 8 rows -/

/-- The codes of a chunk. -/
def qCodes (v : Vec F S8x8192 .f32) : Vec F S8x8192 .i8 := k0_pay20 v
/-- The row values of a chunk: the scale in lane 0, the zero point in the others. -/
def qAux (v : Vec F S8x8192 .f32) : Vec F S8x128 .f32 := k0_pay24 k0_pay21 (k0_pay22 v) (k0_pay23 v)
/-- The centred codes of a chunk. -/
def qAct (v : Vec F S8x8192 .f32) : Vec F S8x8192 .bf16 := k0_pay25 (k0_pay18 v) (k0_pay19 v)
/-- The scale of a chunk, in every lane. -/
def qScale (v : Vec F S8x8192 .f32) : Vec F S8x128 .f32 := k0_pay26 (k0_pay17 v)
/-- A tile of 256 columns: the residual plus the product of the activations with a column tile of the weight, scaled. -/
def tilePay (s : Vec F S256x128 .f32) (a : Vec F S256x8192 .bf16) (w : Vec F S8192x256 .bf16) (h : Vec F S256x256 .f32) : Vec F S256x256 .bf16 := k0_pay2 s a w h

theorem row_inb (r : Fin 32) : ∀ a, (![8 * r.val, 0] : Fin 2 → ℕ) a + S8x8192.size a ≤ S256x8192.size a := fun a => by
  match a with
  | 0 => show 8 * r.val + 8 ≤ 256; omega
  | 1 => show 0 + 8192 ≤ 8192; omega
theorem lane_inb (r : Fin 32) : ∀ a, (![8 * r.val, 0] : Fin 2 → ℕ) a + S8x128.size a ≤ S256x128.size a := fun a => by
  match a with
  | 0 => show 8 * r.val + 8 ≤ 256; omega
  | 1 => show 0 + 128 ≤ 128; omega
theorem wcol_inb (j : Fin 6) : ∀ a, (![0, 256 * j.val] : Fin 2 → ℕ) a + S8192x256.size a ≤ S8192x1536.size a := fun a => by
  match a with
  | 0 => show 0 + 8192 ≤ 8192; omega
  | 1 => show 256 * j.val + 256 ≤ 1536; omega
theorem col_inb (j : Fin 6) : ∀ a, (![0, 256 * j.val] : Fin 2 → ℕ) a + S256x256.size a ≤ S256x1536.size a := fun a => by
  match a with
  | 0 => show 0 + 256 ≤ 256; omega
  | 1 => show 256 * j.val + 256 ≤ 1536; omega

/-- Chunk `r`'s rows of a block of rows, of a block of lanes; column tile `j` of the weight, of a block of columns. -/
abbrev rowRect (r : Fin 32) : Rect S256x8192 := Rect.unit ![8 * r.val, 0] S8x8192.size (row_inb r)
abbrev laneRect (r : Fin 32) : Rect S256x128 := Rect.unit ![8 * r.val, 0] S8x128.size (lane_inb r)
abbrev wcolRect (j : Fin 6) : Rect S8192x1536 := Rect.unit ![0, 256 * j.val] S8192x256.size (wcol_inb j)
abbrev colRect (j : Fin 6) : Rect S256x1536 := Rect.unit ![0, 256 * j.val] S256x256.size (col_inb j)
abbrev allRect : Rect S256x8192 := Rect.unit ![0, 0] S256x8192.size inb_S256x8192_S256x8192_0_0
abbrev allLane : Rect S256x128 := Rect.unit ![0, 0] S256x128.size inb_S256x128_S256x128_0_0

/-- A load of a whole block through its view reads the block. -/
theorem whole_ld {sp : Space} {s : Shape} {e : EltTy} (a : Memref sig .tc sp s e) (h : a.IsWhole) (x : s.Idx → Elt F e) (r : Rect s) :
    View.readAt (Elt F) a.view r.toLoadRect (h.unread x) = View.ld x r := by
  frame_out

section
variable (arg1 : Memref sig .tc .vmem S256x8192 .f32) (harg1 : arg1.IsWhole) (x0 : Vec F S256x8192 .f32)

/-- Chunk `r` as the body loads it. -/
def chunk (r : Fin 32) : Vec F S8x8192 .f32 := View.readAt (Elt F) arg1.view (rowRect r).toLoadRect (harg1.unread x0)

/-- The stores of 32 chunks, last first. -/
def rowsL {e : EltTy} (g : Vec F S8x8192 .f32 → Vec F S8x8192 e) : List (View.Piece (Elt F) S256x8192 e) :=
  (List.finRange 32).reverse.map fun r => ⟨rowRect r, g (chunk arg1 harg1 x0 r)⟩
def lanesL {e : EltTy} (g : Vec F S8x8192 .f32 → Vec F S8x128 e) : List (View.Piece (Elt F) S256x128 e) :=
  (List.finRange 32).reverse.map fun r => ⟨laneRect r, g (chunk arg1 harg1 x0 r)⟩

/-- Row `y 0`'s chunk. -/
def chunkOf (n : ℕ) (h : n < 256) : Vec F S8x8192 .f32 := View.ld x0 (rowRect ⟨n / 8, by omega⟩)

/-- What the 32 stores leave: at row `y 0` what chunk `y 0 / 8` gives. -/
def rowsOf {e : EltTy} (g : Vec F S8x8192 .f32 → Vec F S8x8192 e) : Vec F S256x8192 e := fun y =>
  g (chunkOf x0 (y 0).val (y 0).isLt) (Idealize.ShloMosaic.ix2 (n0 := 8) (n1 := 8192) ⟨(y 0).val % 8, Nat.mod_lt _ (by decide)⟩ (y 1))
def lanesOf {e : EltTy} (g : Vec F S8x8192 .f32 → Vec F S8x128 e) : Vec F S256x128 e := fun y =>
  g (chunkOf x0 (y 0).val (y 0).isLt) (Idealize.ShloMosaic.ix2 (n0 := 8) (n1 := 128) ⟨(y 0).val % 8, Nat.mod_lt _ (by decide)⟩ (y 1))

theorem rows_piece {e : EltTy} (g : Vec F S8x8192 .f32 → Vec F S8x8192 e) (r : Fin 32) (x : S8x8192.Idx) :
    g (chunk arg1 harg1 x0 r) x = rowsOf x0 g ((rowRect r).emb x) := by
  have b : (x 0).val < 8 := (x 0).isLt
  have e0 : ((rowRect r).emb x 0).val = 8 * r.val + (x 0).val := ValueKit.rect_emb_unit_val (s := S256x8192) ![8 * r.val, 0] S8x8192.size (row_inb r) x 0
  have e1 : ((rowRect r).emb x 1).val = 0 + (x 1).val := ValueKit.rect_emb_unit_val (s := S256x8192) ![8 * r.val, 0] S8x8192.size (row_inb r) x 1
  have hx : x = Idealize.ShloMosaic.ix2 (n0 := 8) (n1 := 8192) (x 0) (x 1) := eq_ix2 x
  unfold rowsOf chunk chunkOf
  rw [whole_ld]
  generalize (rowRect r).emb x = y at *
  obtain rfl : r = ⟨(y 0).val / 8, by have := (y 0).isLt; exact Nat.div_lt_of_lt_mul this⟩ := Fin.ext (by show r.val = (y 0).val / 8; omega)
  conv_lhs => rw [hx]
  congr 2
  · exact Fin.ext (by show (x 0).val = (y 0).val % 8; omega)
  · exact Fin.ext (by omega)

theorem lanes_piece {e : EltTy} (g : Vec F S8x8192 .f32 → Vec F S8x128 e) (r : Fin 32) (x : S8x128.Idx) :
    g (chunk arg1 harg1 x0 r) x = lanesOf x0 g ((laneRect r).emb x) := by
  have b : (x 0).val < 8 := (x 0).isLt
  have e0 : ((laneRect r).emb x 0).val = 8 * r.val + (x 0).val := ValueKit.rect_emb_unit_val (s := S256x128) ![8 * r.val, 0] S8x128.size (lane_inb r) x 0
  have e1 : ((laneRect r).emb x 1).val = 0 + (x 1).val := ValueKit.rect_emb_unit_val (s := S256x128) ![8 * r.val, 0] S8x128.size (lane_inb r) x 1
  have hx : x = Idealize.ShloMosaic.ix2 (n0 := 8) (n1 := 128) (x 0) (x 1) := eq_ix2 x
  unfold lanesOf chunk chunkOf
  rw [whole_ld]
  generalize (laneRect r).emb x = y at *
  obtain rfl : r = ⟨(y 0).val / 8, by have := (y 0).isLt; exact Nat.div_lt_of_lt_mul this⟩ := Fin.ext (by show r.val = (y 0).val / 8; omega)
  conv_lhs => rw [hx]
  congr 2
  · exact Fin.ext (by show (x 0).val = (y 0).val % 8; omega)
  · exact Fin.ext (by omega)

/-- The stores leave `rowsOf`, whatever was there. -/
theorem rows_read {e : EltTy} (g : Vec F S8x8192 .f32 → Vec F S8x8192 e) {sp : Space} (v : View sig .tc sp S256x8192 e) (f : v.ty.shape.Idx → Elt F v.ty.elt) :
    v.read (Elt F) (v.writes (Elt F) f (rowsL arg1 harg1 x0 g)) = rowsOf x0 g := by
  funext y
  refine View.read_writes_apply_of_pieces _ _ (rowsOf x0 g) _ (fun p hp x => ?_) y ?_
  · obtain ⟨r, -, rfl⟩ := List.mem_map.mp hp
    exact rows_piece arg1 harg1 x0 g r x
  · have h : (y 0).val < 256 := (y 0).isLt
    refine ⟨_, List.mem_map.mpr ⟨⟨(y 0).val / 8, by omega⟩, List.mem_reverse.mpr (List.mem_finRange _), rfl⟩, ?_⟩
    show y ∈ (Rect.unit _ _ (row_inb _)).set
    rw [Rect.mem_set_unit]
    intro a
    match a with
    | 0 => exact ⟨by show 8 * ((y 0).val / 8) ≤ (y 0).val; omega, by show (y 0).val < 8 * ((y 0).val / 8) + 8; omega⟩
    | 1 => exact ⟨Nat.zero_le _, by show (y 1).val < 0 + 8192; have : (y 1).val < 8192 := (y 1).isLt; omega⟩

theorem lanes_read {e : EltTy} (g : Vec F S8x8192 .f32 → Vec F S8x128 e) {sp : Space} (v : View sig .tc sp S256x128 e) (f : v.ty.shape.Idx → Elt F v.ty.elt) :
    v.read (Elt F) (v.writes (Elt F) f (lanesL arg1 harg1 x0 g)) = lanesOf x0 g := by
  funext y
  refine View.read_writes_apply_of_pieces _ _ (lanesOf x0 g) _ (fun p hp x => ?_) y ?_
  · obtain ⟨r, -, rfl⟩ := List.mem_map.mp hp
    exact lanes_piece arg1 harg1 x0 g r x
  · have h : (y 0).val < 256 := (y 0).isLt
    refine ⟨_, List.mem_map.mpr ⟨⟨(y 0).val / 8, by omega⟩, List.mem_reverse.mpr (List.mem_finRange _), rfl⟩, ?_⟩
    show y ∈ (Rect.unit _ _ (lane_inb _)).set
    rw [Rect.mem_set_unit]
    intro a
    match a with
    | 0 => exact ⟨by show 8 * ((y 0).val / 8) ≤ (y 0).val; omega, by show (y 0).val < 8 * ((y 0).val / 8) + 8; omega⟩
    | 1 => exact ⟨Nat.zero_le _, by show (y 1).val < 0 + 128; have : (y 1).val < 128 := (y 1).isLt; omega⟩
end

/-! ## The product's column tiles -/

section
variable (arg2 : Memref sig .tc .vmem S256x1536 .f32) (harg2 : arg2.IsWhole) (arg8 : Memref sig .tc .vmem S8192x1536 .bf16) (harg8 : arg8.IsWhole)
  (arg9 : Memref sig .tc .vmem S256x8192 .bf16) (harg9 : arg9.IsWhole) (arg11 : Memref sig .tc .vmem S256x128 .f32) (harg11 : arg11.IsWhole)
  (h : Vec F S256x1536 .f32) (w : Vec F S8192x1536 .bf16) (a : Vec F S256x8192 .bf16) (s : Vec F S256x128 .f32)

/-- The stores of the 6 column tiles, last first. -/
def colsL : List (View.Piece (Elt F) S256x1536 .bf16) :=
  (List.finRange 6).reverse.map fun j => ⟨colRect j, tilePay (View.readAt (Elt F) arg11.view allLane.toLoadRect (harg11.unread s))
    (View.readAt (Elt F) arg9.view allRect.toLoadRect (harg9.unread a)) (View.readAt (Elt F) arg8.view (wcolRect j).toLoadRect (harg8.unread w))
    (View.readAt (Elt F) arg2.view (colRect j).toLoadRect (harg2.unread h))⟩

/-- What the 6 stores leave. -/
def colsOf : Vec F S256x1536 .bf16 := fun y =>
  tilePay (View.ld s allLane) (View.ld a allRect) (View.ld w (wcolRect ⟨(y 1).val / 256, Nat.div_lt_of_lt_mul (y 1).isLt⟩))
    (View.ld h (colRect ⟨(y 1).val / 256, Nat.div_lt_of_lt_mul (y 1).isLt⟩)) (Idealize.ShloMosaic.ix2 (n0 := 256) (n1 := 256) (y 0) ⟨(y 1).val % 256, Nat.mod_lt _ (by decide)⟩)

theorem cols_read {sp : Space} (v : View sig .tc sp S256x1536 .bf16) (f : v.ty.shape.Idx → Elt F v.ty.elt) :
    v.read (Elt F) (v.writes (Elt F) f (colsL arg2 harg2 arg8 harg8 arg9 harg9 arg11 harg11 h w a s)) = colsOf h w a s := by
  funext y
  refine View.read_writes_apply_of_pieces _ _ (colsOf h w a s) _ (fun p hp x => ?_) y ?_
  · obtain ⟨j, -, rfl⟩ := List.mem_map.mp hp
    have b : (x 1).val < 256 := (x 1).isLt
    have e0 : ((colRect j).emb x 0).val = 0 + (x 0).val := ValueKit.rect_emb_unit_val (s := S256x1536) ![0, 256 * j.val] S256x256.size (col_inb j) x 0
    have e1 : ((colRect j).emb x 1).val = 256 * j.val + (x 1).val := ValueKit.rect_emb_unit_val (s := S256x1536) ![0, 256 * j.val] S256x256.size (col_inb j) x 1
    have hx : x = Idealize.ShloMosaic.ix2 (n0 := 256) (n1 := 256) (x 0) (x 1) := eq_ix2 x
    dsimp only
    unfold colsOf
    rw [whole_ld, whole_ld, whole_ld, whole_ld]
    generalize (colRect j).emb x = y at *
    obtain rfl : j = ⟨(y 1).val / 256, Nat.div_lt_of_lt_mul (y 1).isLt⟩ := Fin.ext (by show j.val = (y 1).val / 256; omega)
    conv_lhs => rw [hx]
    congr 2
    · exact Fin.ext (by omega)
    · exact Fin.ext (by show (x 1).val = (y 1).val % 256; omega)
  · have hy : (y 1).val < 1536 := (y 1).isLt
    refine ⟨_, List.mem_map.mpr ⟨⟨(y 1).val / 256, by omega⟩, List.mem_reverse.mpr (List.mem_finRange _), rfl⟩, ?_⟩
    show y ∈ (Rect.unit _ _ (col_inb _)).set
    rw [Rect.mem_set_unit]
    intro a
    match a with
    | 0 => exact ⟨Nat.zero_le _, by show (y 0).val < 0 + 256; have : (y 0).val < 256 := (y 0).isLt; omega⟩
    | 1 => exact ⟨by show 256 * ((y 1).val / 256) ≤ (y 1).val; omega, by show (y 1).val < 256 * ((y 1).val / 256) + 256; omega⟩
end

/-! ## The runs' pieces are these -/

section
variable (c : Dev nD) (i : grid0.Coords) (arg1 : Memref sig .tc .vmem S256x8192 .f32) (harg1 : arg1.IsWhole) (arg2 : Memref sig .tc .vmem S256x1536 .f32) (harg2 : arg2.IsWhole) (arg3 : Memref sig .tc .vmem S256x1536 .i8) (harg3 : arg3.IsWhole) (arg4 : Memref sig .tc .vmem S8x1536 .f32) (harg4 : arg4.IsWhole) (arg5 : Memref sig .tc .vmem S256x8192 .i8) (harg5 : arg5.IsWhole) (arg6 : Memref sig .tc .vmem S256x128 .f32) (harg6 : arg6.IsWhole) (arg7 : Memref sig .tc .vmem S256x1536 .bf16) (harg7 : arg7.IsWhole) (arg8 : Memref sig .tc .vmem S8192x1536 .bf16) (harg8 : arg8.IsWhole) (arg9 : Memref sig .tc .vmem S256x8192 .bf16) (harg9 : arg9.IsWhole) (arg10 : Memref sig .tc .vmem S256x8192 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : cond0_1 i) (hc2 : ¬cond0_2 i) (hc3 : ¬cond0_3 i) (x0 : Vec F S256x8192 .f32) (x1 : Vec F S256x1536 .f32) (x2 : Vec F S256x1536 .i8) (x3 : Vec F S8x1536 .f32)
theorem run_B_5 : (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 ).1 = rowsL arg1 harg1 x0 qCodes := by sl_kernel_rfl
theorem run_B_6 : (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 ).2.1 = lanesL arg1 harg1 x0 qAux := by sl_kernel_rfl
theorem run_B_9 : (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 ).2.2.1 = rowsL arg1 harg1 x0 qAct := by sl_kernel_rfl
theorem run_B_11 : (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 ).2.2.2.1 = lanesL arg1 harg1 x0 qScale := by sl_kernel_rfl
end

section
variable (c : Dev nD) (i : grid0.Coords) (arg1 : Memref sig .tc .vmem S256x8192 .f32) (harg1 : arg1.IsWhole) (arg2 : Memref sig .tc .vmem S256x1536 .f32) (harg2 : arg2.IsWhole) (arg3 : Memref sig .tc .vmem S256x1536 .i8) (harg3 : arg3.IsWhole) (arg4 : Memref sig .tc .vmem S8x1536 .f32) (harg4 : arg4.IsWhole) (arg5 : Memref sig .tc .vmem S256x8192 .i8) (harg5 : arg5.IsWhole) (arg6 : Memref sig .tc .vmem S256x128 .f32) (harg6 : arg6.IsWhole) (arg7 : Memref sig .tc .vmem S256x1536 .bf16) (harg7 : arg7.IsWhole) (arg8 : Memref sig .tc .vmem S8192x1536 .bf16) (harg8 : arg8.IsWhole) (arg9 : Memref sig .tc .vmem S256x8192 .bf16) (harg9 : arg9.IsWhole) (arg10 : Memref sig .tc .vmem S256x8192 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : ¬cond0_1 i) (hc2 : cond0_2 i) (hc3 : ¬cond0_3 i) (x0 : Vec F S256x8192 .f32) (x1 : Vec F S256x1536 .f32) (x2 : Vec F S256x1536 .i8) (x3 : Vec F S8x1536 .f32) (y8 : Vec F S8192x1536 .bf16) (y9 : Vec F S256x8192 .bf16) (y11 : Vec F S256x128 .f32)
theorem run_C_5 : (kernelRun0_C c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 y8 y9 y11).1 = rowsL arg1 harg1 x0 qCodes := by sl_kernel_rfl
theorem run_C_6 : (kernelRun0_C c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 y8 y9 y11).2.1 = lanesL arg1 harg1 x0 qAux := by sl_kernel_rfl
theorem run_C_7 : (kernelRun0_C c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 y8 y9 y11).2.2.1 = colsL arg2 harg2 arg8 harg8 arg9 harg9 arg11 harg11 x1 y8 y9 y11 := by sl_kernel_rfl
theorem run_C_10 : (kernelRun0_C c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 y8 y9 y11).2.2.2.1 = rowsL arg1 harg1 x0 qAct := by sl_kernel_rfl
theorem run_C_12 : (kernelRun0_C c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 y8 y9 y11).2.2.2.2.1 = lanesL arg1 harg1 x0 qScale := by sl_kernel_rfl
end

section
variable (c : Dev nD) (i : grid0.Coords) (arg1 : Memref sig .tc .vmem S256x8192 .f32) (harg1 : arg1.IsWhole) (arg2 : Memref sig .tc .vmem S256x1536 .f32) (harg2 : arg2.IsWhole) (arg3 : Memref sig .tc .vmem S256x1536 .i8) (harg3 : arg3.IsWhole) (arg4 : Memref sig .tc .vmem S8x1536 .f32) (harg4 : arg4.IsWhole) (arg5 : Memref sig .tc .vmem S256x8192 .i8) (harg5 : arg5.IsWhole) (arg6 : Memref sig .tc .vmem S256x128 .f32) (harg6 : arg6.IsWhole) (arg7 : Memref sig .tc .vmem S256x1536 .bf16) (harg7 : arg7.IsWhole) (arg8 : Memref sig .tc .vmem S8192x1536 .bf16) (harg8 : arg8.IsWhole) (arg9 : Memref sig .tc .vmem S256x8192 .bf16) (harg9 : arg9.IsWhole) (arg10 : Memref sig .tc .vmem S256x8192 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : ¬cond0_1 i) (hc2 : ¬cond0_2 i) (hc3 : cond0_3 i) (x0 : Vec F S256x8192 .f32) (x1 : Vec F S256x1536 .f32) (x2 : Vec F S256x1536 .i8) (x3 : Vec F S8x1536 .f32) (y8 : Vec F S8192x1536 .bf16) (y10 : Vec F S256x8192 .bf16) (y12 : Vec F S256x128 .f32)
theorem run_D_5 : (kernelRun0_D c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 y8 y10 y12).1 = rowsL arg1 harg1 x0 qCodes := by sl_kernel_rfl
theorem run_D_6 : (kernelRun0_D c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 y8 y10 y12).2.1 = lanesL arg1 harg1 x0 qAux := by sl_kernel_rfl
theorem run_D_7 : (kernelRun0_D c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 y8 y10 y12).2.2.1 = colsL arg2 harg2 arg8 harg8 arg10 harg10 arg12 harg12 x1 y8 y10 y12 := by sl_kernel_rfl
theorem run_D_9 : (kernelRun0_D c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 y8 y10 y12).2.2.2.1 = rowsL arg1 harg1 x0 qAct := by sl_kernel_rfl
theorem run_D_11 : (kernelRun0_D c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 y8 y10 y12).2.2.2.2.1 = lanesL arg1 harg1 x0 qScale := by sl_kernel_rfl
end

end Cert.DownLow.Hand

end
-- ==== Proof.DownLowFrame.lean ====
/- The frame of `DownLow`: the weight scratch is filled one slice of rows per point; from then on each point quantises a tile of rows into
   one of two scratches while it multiplies the tile the other holds. -/
module

public import proofs.«01_k».proof.Proof.DownLowTile
public import Idealize.ShloMosaic.Lib.Claim

@[expose] public section

set_option maxRecDepth 16384

noncomputable section

namespace Cert.DownLow.Hand

open Cert.DownLow Cert.DownLow.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- While the weight is expanded nothing is stored into the outputs and no block is written back. -/
theorem idleAt0_4 : ∀ t : Fin cfg0.N, t.val < 32 → cfg0.idle 4 (grid0.coords t) = true := by decide +kernel
theorem noFlush0_4 : ∀ t : Fin cfg0.N, t.val < 32 → (cfg0.win 4).flush t = false := by decide +kernel
theorem liveAt0_4 : ∀ t : Fin cfg0.N, 32 ≤ t.val → cfg0.idle 4 (grid0.coords t) = false := by decide +kernel
theorem idleAt0_5 : ∀ t : Fin cfg0.N, t.val < 32 → cfg0.idle 5 (grid0.coords t) = true := by decide +kernel
theorem noFlush0_5 : ∀ t : Fin cfg0.N, t.val < 32 → (cfg0.win 5).flush t = false := by decide +kernel
theorem liveAt0_5 : ∀ t : Fin cfg0.N, 32 ≤ t.val → cfg0.idle 5 (grid0.coords t) = false := by decide +kernel
theorem idleAt0_6 : ∀ t : Fin cfg0.N, t.val ≤ 32 → cfg0.idle 6 (grid0.coords t) = true := by decide +kernel
theorem noFlush0_6 : ∀ t : Fin cfg0.N, t.val ≤ 32 → (cfg0.win 6).flush t = false := by decide +kernel
theorem liveAt0_6 : ∀ t : Fin cfg0.N, 32 < t.val → cfg0.idle 6 (grid0.coords t) = false := by decide +kernel

/-- Each window's current staging memref at point `t`, and its wholeness. -/
abbrev ms0_0 (t : Fin cfg0.N) : Memref sig .tc .vmem S256x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1536 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x8192 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1536 .bf16 := win0_6.stage (cfg0.slots t 6)
abbrev hs0_6 (t : Fin cfg0.N) : (ms0_6 t).IsWhole := hstage0_6 ((cfg0.slots t 6).cast nbuf0_6)
/-- The scratches. -/
abbrev scM0_0 : Memref sig .tc .vmem S8192x1536 .bf16 := Memref.whole cc0_scratch0
abbrev scM0_1 : Memref sig .tc .vmem S256x8192 .bf16 := Memref.whole cc0_scratch1
abbrev scM0_2 : Memref sig .tc .vmem S256x8192 .bf16 := Memref.whole cc0_scratch2
abbrev scM0_3 : Memref sig .tc .vmem S256x128 .f32 := Memref.whole cc0_scratch3
abbrev scM0_4 : Memref sig .tc .vmem S256x128 .f32 := Memref.whole cc0_scratch4
abbrev VS0_0 : View sig .tc .vmem S8192x1536 .bf16 := scM0_0.view

/-- The launch's invariant with the scratches as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- A place of the weight scratch lies in store `r` of point `i` iff its row does. -/
theorem mem_store (i : grid0.Coords) (r : Fin 8) (w : BitVec 32) (h : w = BitVec.ofNat 32 (32 * r.val))
    (inb : ∀ a, k0_off1 i w a + (![32, 1536] : Fin 2 → ℕ) a ≤ S8192x1536.size a) (y : S8192x1536.Idx) :
    y ∈ (Rect.unit (k0_off1 i w) ![32, 1536] inb : Rect S8192x1536).set
      ↔ 256 * (i 0).val + 32 * r.val ≤ (y 0).val ∧ (y 0).val < 256 * (i 0).val + 32 * r.val + 32 := by
  subst h
  rw [Rect.mem_set_unit, k0_off1_eq]
  have hy : (y 1).val < 1536 := (y 1).isLt
  constructor
  · intro h
    exact h 0
  · intro h a
    match a with
    | 0 => exact h
    | 1 => exact ⟨Nat.zero_le _, by show (y 1).val < 0 + 1536; omega⟩

section

variable (c : Dev nD) (i : grid0.Coords) (arg1 : Memref sig .tc .vmem S256x8192 .f32) (harg1 : arg1.IsWhole) (arg2 : Memref sig .tc .vmem S256x1536 .f32) (harg2 : arg2.IsWhole) (arg3 : Memref sig .tc .vmem S256x1536 .i8) (harg3 : arg3.IsWhole) (arg4 : Memref sig .tc .vmem S8x1536 .f32) (harg4 : arg4.IsWhole) (arg5 : Memref sig .tc .vmem S256x8192 .i8) (harg5 : arg5.IsWhole) (arg6 : Memref sig .tc .vmem S256x128 .f32) (harg6 : arg6.IsWhole) (arg7 : Memref sig .tc .vmem S256x1536 .bf16) (harg7 : arg7.IsWhole) (arg8 : Memref sig .tc .vmem S8192x1536 .bf16) (harg8 : arg8.IsWhole) (arg9 : Memref sig .tc .vmem S256x8192 .bf16) (harg9 : arg9.IsWhole) (arg10 : Memref sig .tc .vmem S256x8192 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : ¬cond0_1 i) (hc2 : ¬cond0_2 i) (hc3 : ¬cond0_3 i) (x0 : Vec F S256x8192 .f32) (x1 : Vec F S256x1536 .f32) (x2 : Vec F S256x1536 .i8) (x3 : Vec F S8x1536 .f32)

/-- The stores of point `i` cover its 256 rows of the weight scratch. -/
theorem stores_hit (y : S8192x1536.Idx) (h : (y 0).val / 256 = (i 0).val) :
    ∃ p ∈ (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3).1, y ∈ p.1.set := by
  unfold kernelRun0_A
  dsimp only
  simp only [List.mem_cons, List.not_mem_nil, or_false, exists_eq_or_imp, exists_eq_left]
  rw [mem_store i 7 224#32 rfl, mem_store i 6 192#32 rfl, mem_store i 5 160#32 rfl, mem_store i 4 128#32 rfl, mem_store i 3 96#32 rfl, mem_store i 2 64#32 rfl, mem_store i 1 32#32 rfl, mem_store i 0 0#32 rfl]
  simp only [Fin.isValue, Fin.val_zero, Fin.val_one, Fin.val_two, show (3 : Fin 8).val = 3 from rfl, show (4 : Fin 8).val = 4 from rfl, show (5 : Fin 8).val = 5 from rfl, show (6 : Fin 8).val = 6 from rfl, show (7 : Fin 8).val = 7 from rfl]
  omega

/-- The stores of point `i` miss every other row. -/
theorem stores_miss (y : S8192x1536.Idx) (h : (y 0).val / 256 ≠ (i 0).val) :
    ∀ p ∈ (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3).1, y ∉ p.1.set := by
  unfold kernelRun0_A
  dsimp only
  simp only [List.forall_mem_cons, List.not_mem_nil, false_imp_iff, implies_true, and_true]
  rw [mem_store i 7 224#32 rfl, mem_store i 6 192#32 rfl, mem_store i 5 160#32 rfl, mem_store i 4 128#32 rfl, mem_store i 3 96#32 rfl, mem_store i 2 64#32 rfl, mem_store i 1 32#32 rfl, mem_store i 0 0#32 rfl]
  simp only [Fin.isValue, Fin.val_zero, Fin.val_one, Fin.val_two, show (3 : Fin 8).val = 3 from rfl, show (4 : Fin 8).val = 4 from rfl, show (5 : Fin 8).val = 5 from rfl, show (6 : Fin 8).val = 6 from rfl, show (7 : Fin 8).val = 7 from rfl]
  omega

end

variable (m : (ℓ : Loc nD τ sig) → Buf (Elt F) ℓ) (ρ : Dev nD → PrngReg)

/-- The grid has one axis: a point's coordinate is its number. -/
theorem coords_val : ∀ t : Fin cfg0.N, (grid0.coords t 0).val = t.val :=
  (by decide +kernel : ∀ t : Fin grid0.N, (grid0.coords t 0).val = t.val)

/-- The weight scratch after a point `t` that expands a slice, from its contents `xs0` before the point. -/
def sA (c : Dev nD) (t : Fin cfg0.N) (h0 : t.val < 32) (xs0 : Vec F S8192x1536 .bf16) : Vec F S8192x1536 .bf16 :=
  VS0_0.read (Elt F) (VS0_0.writes (Elt F) ((show scM0_0.IsWhole from Memref.isWhole_whole _).unread xs0) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr (by omega)) (fun h => absurd ((hcond0_1 t).mp h) (by omega)) (fun h => absurd ((hcond0_2 t).mp h) (by omega)) (fun h => absurd ((hcond0_3 t).mp h) (by omega)) (iblk m c 0 t) (iblk m c 1 t) (iblk m c 2 t) (iblk m c 3 t)).1)

/-- The point that fills row `y 0` of the weight scratch. -/
def pt (y : S8192x1536.Idx) : Fin cfg0.N :=
  ⟨(y 0).val / 256, by have h : (y 0).val < 8192 := (y 0).isLt; rw [show cfg0.N = 81 from N_0]; omega⟩

theorem pt_lt (y : S8192x1536.Idx) : (pt y).val < 32 := by
  have h : (y 0).val < 8192 := (y 0).isLt
  show (y 0).val / 256 < 32
  omega

/-- The full weight scratch: at each place what the point that fills it leaves there. -/
def wt (c : Dev nD) : Vec F S8192x1536 .bf16 := fun y =>
  sA m c (pt y) (pt_lt y) (VS0_0.read (Elt F) VS0_0.junk) y

/-- A point leaves in its own rows what `wt` names, whatever the scratch held. -/
theorem sA_hit (c : Dev nD) (t : Fin cfg0.N) (h0 : t.val < 32) (xs0 : Vec F S8192x1536 .bf16) (y : S8192x1536.Idx)
    (hy : (y 0).val / 256 = t.val) : sA m c t h0 xs0 y = wt m c y := by
  obtain rfl : pt y = t := Fin.ext hy
  unfold wt sA
  exact View.read_writes_apply_eq _ _ _ _ y _ (stores_hit c _ _ _ _ _ _ _ _ _ _ _ _ _ _ _ _ _ _ _ _ _ _ _ _ _ _ _ _ _ _ _ _ _ y (hy.trans (coords_val _).symm))

/-- A point leaves every other row as it was. -/
theorem sA_miss (c : Dev nD) (t : Fin cfg0.N) (h0 : t.val < 32) (xs0 : Vec F S8192x1536 .bf16) (y : S8192x1536.Idx)
    (hy : (y 0).val / 256 ≠ t.val) : sA m c t h0 xs0 y = xs0 y := by
  unfold sA
  rw [View.read_writes_apply_of_forall_not_mem _ _ y _ (stores_miss c _ _ _ _ _ _ _ _ _ _ _ _ _ _ _ _ _ _ _ _ _ _ _ _ _ _ _ _ _ _ _ _ _ y
    (fun h => hy (h.trans (coords_val _)))), (Memref.isWhole_whole _).read_unread]

/-- The tile of rows point `t` quantises: its centred codes and scales, codes and row values. -/
def actv (c : Dev nD) (t : Fin cfg0.N) : Vec F S256x8192 .bf16 := rowsOf (iblk m c 0 t) qAct
def sclv (c : Dev nD) (t : Fin cfg0.N) : Vec F S256x128 .f32 := lanesOf (iblk m c 0 t) qScale
def codesv (c : Dev nD) (t : Fin cfg0.N) : Vec F S256x8192 .i8 := rowsOf (iblk m c 0 t) qCodes
def auxv (c : Dev nD) (t : Fin cfg0.N) : Vec F S256x128 .f32 := lanesOf (iblk m c 0 t) qAux

/-- The point before `t`. -/
def prev (t : Fin cfg0.N) : Fin cfg0.N := ⟨t.val - 1, lt_of_le_of_lt (Nat.sub_le _ _) t.isLt⟩

/-- The output block of point `t`: the residual plus the scaled product of the tile the point before quantised. -/
def outv (c : Dev nD) (t : Fin cfg0.N) : Vec F S256x1536 .bf16 := colsOf (iblk m c 1 t) (wt m c) (actv m c (prev t)) (sclv m c (prev t))

/-- What is held before position `n`: the rows of the weight scratch below `256 n`, and the tile the point before `n` quantised,
    in the first pair of scratches if that point is even and in the second if it is odd. -/
def Held (c : Dev nD) (n : ℕ) (d8 : Vec F S8192x1536 .bf16) (d9 d10 : Vec F S256x8192 .bf16) (d11 d12 : Vec F S256x128 .f32) : Prop :=
  (∀ y : S8192x1536.Idx, (y 0).val < 256 * n → d8 y = wt m c y)
    ∧ ∀ t : Fin cfg0.N, 32 ≤ t.val → t.val + 1 = n →
      (t.val % 2 = 0 → d9 = actv m c t ∧ d11 = sclv m c t) ∧ (t.val % 2 = 1 → d10 = actv m c t ∧ d12 = sclv m c t)

/-- The region invariant before position `n`: the scratches held as `Held` says, and the generator register some state. -/
def PhiS (c : Dev nD) (n : ℕ) (h : n ≤ cfg0.N) : sProp 𝕄 :=
  iprop(∃ (d8 : Vec F S8192x1536 .bf16) (d9 d10 : Vec F S256x8192 .bf16) (d11 d12 : Vec F S256x128 .f32), ⌜Held m c n d8 d9 d10 d11 d12⌝
    ∗ iprop(owns (c : Thread nD τ) scM0_0 fullShare d8 ∗ owns (c : Thread nD τ) scM0_1 fullShare d9 ∗ owns (c : Thread nD τ) scM0_2 fullShare d10 ∗ owns (c : Thread nD τ) scM0_3 fullShare d11 ∗ owns (c : Thread nD τ) scM0_4 fullShare d12) ∗ (∃ r, prngReg c r))

/-! ## The pipeline's proof data -/

/-- The proof data of the one pipeline: the arrays as the region finds them; after a point each input's buffer at its block and
    the outputs' at the tile's codes, row values and product; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesv m c t
    | ⟨5, _⟩ => auxv m c t
    | ⟨6, _⟩ => outv m c t
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = codesv m c t := by dsimp only [dats]
theorem after0_5 (c : Dev nD) (t : Fin cfg0.N) : (dats m 0 c).after 5 t = auxv m c t := by dsimp only [dats]
theorem after0_6 (c : Dev nD) (t : Fin cfg0.N) : (dats m 0 c).after 6 t = outv m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)

/-- What a window's buffer is left as, where the window is live and where it is idle and not written back. -/
theorem live_0 (c : Dev nD) (t : Fin cfg0.N) : (dats m 0 c).leavesExact 0 t = owns (c : Thread nD τ) (ms0_0 t) fullShare (iblk m c 0 t) := by
  unfold Dat.leavesExact; rw [liveAt0_0 t, after0_0]
theorem live_1 (c : Dev nD) (t : Fin cfg0.N) : (dats m 0 c).leavesExact 1 t = owns (c : Thread nD τ) (ms0_1 t) fullShare (iblk m c 1 t) := by
  unfold Dat.leavesExact; rw [liveAt0_1 t, after0_1]
theorem live_2 (c : Dev nD) (t : Fin cfg0.N) : (dats m 0 c).leavesExact 2 t = owns (c : Thread nD τ) (ms0_2 t) fullShare (iblk m c 2 t) := by
  unfold Dat.leavesExact; rw [liveAt0_2 t, after0_2]
theorem live_3 (c : Dev nD) (t : Fin cfg0.N) : (dats m 0 c).leavesExact 3 t = owns (c : Thread nD τ) (ms0_3 t) fullShare (iblk m c 3 t) := by
  unfold Dat.leavesExact; rw [liveAt0_3 t, after0_3]
theorem live_4 (c : Dev nD) (t : Fin cfg0.N) (h : 32 ≤ t.val) : (dats m 0 c).leavesExact 4 t = owns (c : Thread nD τ) (ms0_4 t) fullShare (codesv m c t) := by
  unfold Dat.leavesExact; rw [liveAt0_4 t h, after0_4]
theorem live_5 (c : Dev nD) (t : Fin cfg0.N) (h : 32 ≤ t.val) : (dats m 0 c).leavesExact 5 t = owns (c : Thread nD τ) (ms0_5 t) fullShare (auxv m c t) := by
  unfold Dat.leavesExact; rw [liveAt0_5 t h, after0_5]
theorem live_6 (c : Dev nD) (t : Fin cfg0.N) (h : 32 < t.val) : (dats m 0 c).leavesExact 6 t = owns (c : Thread nD τ) (ms0_6 t) fullShare (outv m c t) := by
  unfold Dat.leavesExact; rw [liveAt0_6 t h, after0_6]

set_option maxHeartbeats 1600000 in
/-- The body, case A: a point that expands a slice extends the rows held by one slice. -/
theorem sound_A (c : Dev nD) (t : Fin cfg0.N) (h0 : t.val < 32) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_castSucc m c t]
  unfold PhiS
  have hN : t.val < 81 := lt_of_lt_of_eq t.isLt (show cfg0.N = 81 from N_0)
  rw [live_0, live_1, live_2, live_3]
  rw [Dat.leavesExact_idle (dats m 0 c) 4 t (idleAt0_4 t (by omega)) (noFlush0_4 t (by omega))]
  rw [Dat.leavesExact_idle (dats m 0 c) 5 t (idleAt0_5 t (by omega)) (noFlush0_5 t (by omega))]
  rw [Dat.leavesExact_idle (dats m 0 c) 6 t (idleAt0_6 t (by omega)) (noFlush0_6 t (by omega))]
  iintro ⟨⟨%d8, %d9, %d10, %d11, %d12, %hd, ⟨H8, H9, H10, H11, H12⟩, Hg⟩, Ho, ⟨%e1, H1⟩, ⟨%e2, H2⟩, ⟨%e3, H3⟩, ⟨%e4, H4⟩, ⟨%e5, H5⟩, ⟨%e6, H6⟩, ⟨%e7, H7⟩⟩
  iapply ((kernelRun0_A c (grid0.coords t) _ _ _ _ _ _ _ _ _ _ _ _ _ _ _ _ _ _ _ _ _ _ _ _ ((hcond0_0 t).mpr (by omega)) (fun h => absurd ((hcond0_1 t).mp h) (by omega)) (fun h => absurd ((hcond0_2 t).mp h) (by omega)) (fun h => absurd ((hcond0_3 t).mp h) (by omega)) (iblk m c 0 t) (iblk m c 1 t) (iblk m c 2 t) (iblk m c 3 t)).2 _ _ _ _ _ _ _ _ Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, H8, H9, H10, H11, H12⟩
  isplitl [H8 H9 H10 H11 H12 Hg]
  · iexists (sA m c t h0 d8)
    iexists d9
    iexists d10
    iexists d11
    iexists d12
    isplitr
    · ipureintro
      refine ⟨fun y hy => ?_, fun t' h1 h2 => ?_⟩
      · by_cases h : (y 0).val / 256 = t.val
        · exact sA_hit m c t h0 d8 y h
        · rw [sA_miss m c t h0 d8 y h]
          exact hd.1 y (by omega)
      · exact absurd h2 (by omega)
    isplitl [H8 H9 H10 H11 H12]
    · isplitl [H8]
      · unfold owns; iexists _; isplitr
        swap; · iexact H8
        ipureintro; unfold sA; rfl
      isplitl [H9]
      · iexact H9
      isplitl [H10]
      · iexact H10
      isplitl [H11]
      · iexact H11
      iexact H12
    iexact Hg
  isplitl [Ho]; · iexact Ho
  isplitl [H1]
  · iexact H1
  isplitl [H2]
  · iexact H2
  isplitl [H3]
  · iexact H3
  isplitl [H4]
  · iexact H4
  isplitl [H5]
  · iexists _; iexact H5
  isplitl [H6]
  · iexists _; iexact H6
  iexists _; iexact H7

set_option maxHeartbeats 1600000 in
/-- The body, case B: the first point that quantises leaves its tile in the first scratches. -/
theorem sound_B (c : Dev nD) (t : Fin cfg0.N) (h0 : t.val = 32) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_castSucc m c t]
  unfold PhiS
  have hN : t.val < 81 := lt_of_lt_of_eq t.isLt (show cfg0.N = 81 from N_0)
  rw [live_0, live_1, live_2, live_3, live_4 m c t (by omega), live_5 m c t (by omega)]
  rw [Dat.leavesExact_idle (dats m 0 c) 6 t (idleAt0_6 t (by omega)) (noFlush0_6 t (by omega))]
  iintro ⟨⟨%d8, %d9, %d10, %d11, %d12, %hd, ⟨H8, H9, H10, H11, H12⟩, Hg⟩, Ho, ⟨%e1, H1⟩, ⟨%e2, H2⟩, ⟨%e3, H3⟩, ⟨%e4, H4⟩, ⟨%e5, H5⟩, ⟨%e6, H6⟩, ⟨%e7, H7⟩⟩
  iapply ((kernelRun0_B c (grid0.coords t) _ _ _ _ _ _ _ _ _ _ _ _ _ _ _ _ _ _ _ _ _ _ _ _ (fun h => absurd ((hcond0_0 t).mp h) (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t)).2.2.2.2 _ _ _ _ Set.univ _)
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  isplitl [H9]; · iexists _; iexact H9
  isplitl [H10]; · iexact H10
  isplitl [H11]; · iexists _; iexact H11
  isplitl [H12]; · iexact H12
  iintro ⟨H1, H2, H3, H4, ⟨%f5, H5⟩, ⟨%f6, H6⟩, H7, H8, ⟨%f9, H9⟩, H10, ⟨%f11, H11⟩, H12⟩
  isplitl [H8 H9 H10 H11 H12 Hg]
  · iexists d8
    iexists (actv m c t)
    iexists d10
    iexists (sclv m c t)
    iexists d12
    isplitr
    · ipureintro
      refine ⟨fun y hy => hd.1 y (by have h : (y 0).val < 8192 := (y 0).isLt; omega), fun t' h1 h2 => ?_⟩
      obtain rfl : t' = t := Fin.ext (by omega)
      exact ⟨fun _ => ⟨rfl, rfl⟩, fun h => absurd h (by omega)⟩
    isplitl [H8 H9 H10 H11 H12]
    · isplitl [H8]
      · iexact H8
      isplitl [H9]
      · unfold owns; iexists _; isplitr
        swap; · iexact H9
        ipureintro; rw [run_B_9]; exact rows_read _ _ _ _ _ _
      isplitl [H10]
      · iexact H10
      isplitl [H11]
      · unfold owns; iexists _; isplitr
        swap; · iexact H11
        ipureintro; rw [run_B_11]; exact lanes_read _ _ _ _ _ _
      iexact H12
    iexact Hg
  isplitl [Ho]; · iexact Ho
  isplitl [H1]
  · iexact H1
  isplitl [H2]
  · iexact H2
  isplitl [H3]
  · iexact H3
  isplitl [H4]
  · iexact H4
  isplitl [H5]
  · unfold owns; iexists _; isplitr
    swap; · iexact H5
    ipureintro; rw [run_B_5]; exact rows_read _ _ _ _ _ _
  isplitl [H6]
  · unfold owns; iexists _; isplitr
    swap; · iexact H6
    ipureintro; rw [run_B_6]; exact lanes_read _ _ _ _ _ _
  iexists _; iexact H7

set_option maxHeartbeats 1600000 in
/-- The body, case C: an odd point multiplies the tile in the first scratches and leaves its own in the second. -/
theorem sound_C (c : Dev nD) (t : Fin cfg0.N) (h0 : 32 < t.val) (hp : t.val % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_castSucc m c t]
  unfold PhiS
  have hN : t.val < 81 := lt_of_lt_of_eq t.isLt (show cfg0.N = 81 from N_0)
  rw [live_0, live_1, live_2, live_3, live_4 m c t (by omega), live_5 m c t (by omega), live_6 m c t (by omega)]
  iintro ⟨⟨%d8, %d9, %d10, %d11, %d12, %hd, ⟨H8, H9, H10, H11, H12⟩, Hg⟩, Ho, ⟨%e1, H1⟩, ⟨%e2, H2⟩, ⟨%e3, H3⟩, ⟨%e4, H4⟩, ⟨%e5, H5⟩, ⟨%e6, H6⟩, ⟨%e7, H7⟩⟩
  obtain rfl : d8 = wt m c := funext fun y => hd.1 y (by have h : (y 0).val < 8192 := (y 0).isLt; omega)
  obtain ⟨hd9, hd11⟩ := (hd.2 (prev t) (by show 32 ≤ t.val - 1; omega) (by show t.val - 1 + 1 = t.val; omega)).1 (by show (t.val - 1) % 2 = _; omega)
  subst hd9 hd11
  unfold outv
  iapply ((kernelRun0_C c (grid0.coords t) _ _ _ _ _ _ _ _ _ _ _ _ _ _ _ _ _ _ _ _ _ _ _ _ (fun h => absurd ((hcond0_0 t).mp h) (by omega)) (fun h => absurd ((hcond0_1 t).mp h) (by omega)) ((hcond0_2 t).mpr (by omega)) (fun h => absurd ((hcond0_3 t).mp h) (by omega)) (iblk m c 0 t) (iblk m c 1 t) (iblk m c 2 t) (iblk m c 3 t) _ _ _).2.2.2.2.2  Set.univ _)
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexact H8
  isplitl [H9]; · iexact H9
  isplitl [H10]; · iexists _; iexact H10
  isplitl [H11]; · iexact H11
  isplitl [H12]; · iexists _; iexact H12
  iintro ⟨H1, H2, H3, H4, ⟨%f5, H5⟩, ⟨%f6, H6⟩, ⟨%f7, H7⟩, H8, H9, ⟨%f10, H10⟩, H11, ⟨%f12, H12⟩⟩
  isplitl [H8 H9 H10 H11 H12 Hg]
  · iexists (wt m c)
    iexists (actv m c (prev t))
    iexists (actv m c t)
    iexists (sclv m c (prev t))
    iexists (sclv m c t)
    isplitr
    · ipureintro
      refine ⟨fun y hy => rfl, fun t' h1 h2 => ?_⟩
      obtain rfl : t' = t := Fin.ext (by omega)
      exact ⟨fun h => absurd h (by omega), fun _ => ⟨rfl, rfl⟩⟩
    isplitl [H8 H9 H10 H11 H12]
    · isplitl [H8]
      · iexact H8
      isplitl [H9]
      · iexact H9
      isplitl [H10]
      · unfold owns; iexists _; isplitr
        swap; · iexact H10
        ipureintro; rw [run_C_10]; exact rows_read _ _ _ _ _ _
      isplitl [H11]
      · iexact H11
      unfold owns; iexists _; isplitr
      swap; · iexact H12
      ipureintro; rw [run_C_12]; exact lanes_read _ _ _ _ _ _
    iexact Hg
  isplitl [Ho]; · iexact Ho
  isplitl [H1]
  · iexact H1
  isplitl [H2]
  · iexact H2
  isplitl [H3]
  · iexact H3
  isplitl [H4]
  · iexact H4
  isplitl [H5]
  · unfold owns; iexists _; isplitr
    swap; · iexact H5
    ipureintro; rw [run_C_5]; exact rows_read _ _ _ _ _ _
  isplitl [H6]
  · unfold owns; iexists _; isplitr
    swap; · iexact H6
    ipureintro; rw [run_C_6]; exact lanes_read _ _ _ _ _ _
  unfold owns; iexists _; isplitr
  swap; · iexact H7
  ipureintro; rw [run_C_7]; exact cols_read _ _ _ _ _ _ _ _ _ _ _ _ _ _

set_option maxHeartbeats 1600000 in
/-- The body, case D: an even point multiplies the tile in the second scratches and leaves its own in the first. -/
theorem sound_D (c : Dev nD) (t : Fin cfg0.N) (h0 : 32 < t.val) (hp : t.val % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_castSucc m c t]
  unfold PhiS
  have hN : t.val < 81 := lt_of_lt_of_eq t.isLt (show cfg0.N = 81 from N_0)
  rw [live_0, live_1, live_2, live_3, live_4 m c t (by omega), live_5 m c t (by omega), live_6 m c t (by omega)]
  iintro ⟨⟨%d8, %d9, %d10, %d11, %d12, %hd, ⟨H8, H9, H10, H11, H12⟩, Hg⟩, Ho, ⟨%e1, H1⟩, ⟨%e2, H2⟩, ⟨%e3, H3⟩, ⟨%e4, H4⟩, ⟨%e5, H5⟩, ⟨%e6, H6⟩, ⟨%e7, H7⟩⟩
  obtain rfl : d8 = wt m c := funext fun y => hd.1 y (by have h : (y 0).val < 8192 := (y 0).isLt; omega)
  obtain ⟨hd9, hd11⟩ := (hd.2 (prev t) (by show 32 ≤ t.val - 1; omega) (by show t.val - 1 + 1 = t.val; omega)).2 (by show (t.val - 1) % 2 = _; omega)
  subst hd9 hd11
  unfold outv
  iapply ((kernelRun0_D c (grid0.coords t) _ _ _ _ _ _ _ _ _ _ _ _ _ _ _ _ _ _ _ _ _ _ _ _ (fun h => absurd ((hcond0_0 t).mp h) (by omega)) (fun h => absurd ((hcond0_1 t).mp h) (by omega)) (fun h => absurd ((hcond0_2 t).mp h) (by omega)) ((hcond0_3 t).mpr (by omega)) (iblk m c 0 t) (iblk m c 1 t) (iblk m c 2 t) (iblk m c 3 t) _ _ _).2.2.2.2.2  Set.univ _)
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexact H8
  isplitl [H9]; · iexists _; iexact H9
  isplitl [H10]; · iexact H10
  isplitl [H11]; · iexists _; iexact H11
  isplitl [H12]; · iexact H12
  iintro ⟨H1, H2, H3, H4, ⟨%f5, H5⟩, ⟨%f6, H6⟩, ⟨%f7, H7⟩, H8, ⟨%f9, H9⟩, H10, ⟨%f11, H11⟩, H12⟩
  isplitl [H8 H9 H10 H11 H12 Hg]
  · iexists (wt m c)
    iexists (actv m c t)
    iexists (actv m c (prev t))
    iexists (sclv m c t)
    iexists (sclv m c (prev t))
    isplitr
    · ipureintro
      refine ⟨fun y hy => rfl, fun t' h1 h2 => ?_⟩
      obtain rfl : t' = t := Fin.ext (by omega)
      exact ⟨fun _ => ⟨rfl, rfl⟩, fun h => absurd h (by omega)⟩
    isplitl [H8 H9 H10 H11 H12]
    · isplitl [H8]
      · iexact H8
      isplitl [H9]
      · unfold owns; iexists _; isplitr
        swap; · iexact H9
        ipureintro; rw [run_D_9]; exact rows_read _ _ _ _ _ _
      isplitl [H10]
      · iexact H10
      isplitl [H11]
      · unfold owns; iexists _; isplitr
        swap; · iexact H11
        ipureintro; rw [run_D_11]; exact lanes_read _ _ _ _ _ _
      iexact H12
    iexact Hg
  isplitl [Ho]; · iexact Ho
  isplitl [H1]
  · iexact H1
  isplitl [H2]
  · iexact H2
  isplitl [H3]
  · iexact H3
  isplitl [H4]
  · iexact H4
  isplitl [H5]
  · unfold owns; iexists _; isplitr
    swap; · iexact H5
    ipureintro; rw [run_D_5]; exact rows_read _ _ _ _ _ _
  isplitl [H6]
  · unfold owns; iexists _; isplitr
    swap; · iexact H6
    ipureintro; rw [run_D_6]; exact lanes_read _ _ _ _ _ _
  unfold owns; iexists _; isplitr
  swap; · iexact H7
  ipureintro; rw [run_D_7]; exact cols_read _ _ _ _ _ _ _ _ _ _ _ _ _ _

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val < 32
  · exact sound_A m c t h0
  · by_cases h1 : t.val = 32
    · exact sound_B m c t h1
    · by_cases h2 : t.val % 2 = 1
      · exact sound_C m c t (by omega) h2
      · exact sound_D m c t (by omega) (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, at whatever the scratches hold. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%d8, H8⟩, ⟨%d9, H9⟩, ⟨%d10, H10⟩, ⟨%d11, H11⟩, ⟨%d12, H12⟩⟩, Hg⟩
  iexists d8
  iexists d9
  iexists d10
  iexists d11
  iexists d12
  isplitr
  · ipureintro
    exact ⟨fun y hy => absurd hy (by omega), fun t h1 h2 => absurd h2 (by omega)⟩
  isplitl [H8 H9 H10 H11 H12]
  · isplitl [H8]; · iexact H8
    isplitl [H9]; · iexact H9
    isplitl [H10]; · iexact H10
    isplitl [H11]; · iexact H11
    iexact H12
  iexact Hg

/-- After the last point the invariant gives the scratches back: what they hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  unfold PhiS
  iintro ⟨%d8, %d9, %d10, %d11, %d12, -, ⟨H8, H9, H10, H11, H12⟩, Hg⟩
  isplitl [H8 H9 H10 H11 H12]
  · isplitl [H8]; · iexists _; iexact H8
    isplitl [H9]; · iexists _; iexact H9
    isplitl [H10]; · iexists _; iexact H10
    isplitl [H11]; · iexists _; iexact H11
    iexists _; iexact H12
  iexact Hg

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame at any `F`: every execution terminates, the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.DownLow.Hand

end
-- ==== Proof.DownLowIdealRun.lean ====
/- The body of `DownLowIdeal` run in each of the four cases of its grid: a point that expands a slice of the weight (A), the first point
   that quantises (B), and the points that quantise one tile of rows and multiply the one before (C, D, by parity). Each run
   names the pieces that the case's stores leave (found by `sl_exec`). -/
module

public import proofs.«01_k».proof.Proof.Gen.DownLowIdeal.Frame
public import proofs.«01_k».proof.Proof.Gen.DownLowIdeal.Skeleton

@[expose] public section

set_option maxRecDepth 16384

noncomputable section

namespace Cert.DownLowIdeal.Hand

open Cert.DownLowIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point expands a slice of the weight. -/
abbrev cond0_0 (i : grid0.Coords) : Prop := k0_cond1 i = 1#1
theorem hcond0_0 : ∀ t : Fin cfg0.N, cond0_0 (grid0.coords t) ↔ t.val < 32 :=
  (by decide +kernel : ∀ t : Fin grid0.N, cond0_0 (grid0.coords t) ↔ t.val < 32)

/-- The first point that quantises. -/
abbrev cond0_1 (i : grid0.Coords) : Prop := k0_cond2 i = 1#1
theorem hcond0_1 : ∀ t : Fin cfg0.N, cond0_1 (grid0.coords t) ↔ t.val = 32 :=
  (by decide +kernel : ∀ t : Fin grid0.N, cond0_1 (grid0.coords t) ↔ t.val = 32)

/-- A later point, with the second activation scratch written. -/
abbrev cond0_2 (i : grid0.Coords) : Prop := k0_cond3 i = 1#1
theorem hcond0_2 : ∀ t : Fin cfg0.N, cond0_2 (grid0.coords t) ↔ 32 < t.val ∧ t.val % 2 = 1 :=
  (by decide +kernel : ∀ t : Fin grid0.N, cond0_2 (grid0.coords t) ↔ 32 < t.val ∧ t.val % 2 = 1)

/-- A later point, with the first activation scratch written. -/
abbrev cond0_3 (i : grid0.Coords) : Prop := k0_cond4 i = 1#1
theorem hcond0_3 : ∀ t : Fin cfg0.N, cond0_3 (grid0.coords t) ↔ 32 < t.val ∧ t.val % 2 = 0 :=
  (by decide +kernel : ∀ t : Fin grid0.N, cond0_3 (grid0.coords t) ↔ 32 < t.val ∧ t.val % 2 = 0)

set_option maxHeartbeats 16000000 in
/-- The run in case A: the pieces the body's stores leave in the buffers it writes, WITH the proof that it runs from the other
    buffers at given contents and the written ones at anything to the continuation holding the others as they were and the
    written ones with their pieces. -/
noncomputable def kernelRun0_A (c : Dev nD) (i : grid0.Coords) (arg1 : Memref sig .tc .vmem S256x8192 .f32) (harg1 : arg1.IsWhole) (arg2 : Memref sig .tc .vmem S256x1536 .f32) (harg2 : arg2.IsWhole) (arg3 : Memref sig .tc .vmem S256x1536 .i8) (harg3 : arg3.IsWhole) (arg4 : Memref sig .tc .vmem S8x1536 .f32) (harg4 : arg4.IsWhole) (arg5 : Memref sig .tc .vmem S256x8192 .i8) (harg5 : arg5.IsWhole) (arg6 : Memref sig .tc .vmem S256x128 .f32) (harg6 : arg6.IsWhole) (arg7 : Memref sig .tc .vmem S256x1536 .bf16) (harg7 : arg7.IsWhole) (arg8 : Memref sig .tc .vmem S8192x1536 .bf16) (harg8 : arg8.IsWhole) (arg9 : Memref sig .tc .vmem S256x8192 .bf16) (harg9 : arg9.IsWhole) (arg10 : Memref sig .tc .vmem S256x8192 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : ¬cond0_1 i) (hc2 : ¬cond0_2 i) (hc3 : ¬cond0_3 i)
    (x0 : Vec F S256x8192 .f32) (x1 : Vec F S256x1536 .f32) (x2 : Vec F S256x1536 .i8) (x3 : Vec F S8x1536 .f32)  :
    { L8 : List (View.Piece (Elt F) S8192x1536 .bf16) //
      ∀ (z5 : Vec F S256x8192 .i8) (z6 : Vec F S256x128 .f32) (z7 : Vec F S256x1536 .bf16) (y8 : Vec F S8192x1536 .bf16) (z9 : Vec F S256x8192 .bf16) (z10 : Vec F S256x8192 .bf16) (z11 : Vec F S256x128 .f32) (z12 : Vec F S256x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare z5 ∗ owns (c : Thread nD τ) arg6 fullShare z6 ∗ owns (c : Thread nD τ) arg7 fullShare z7 ∗ owns (c : Thread nD τ) arg8 fullShare y8 ∗ owns (c : Thread nD τ) arg9 fullShare z9 ∗ owns (c : Thread nD τ) arg10 fullShare z10 ∗ owns (c : Thread nD τ) arg11 fullShare z11 ∗ owns (c : Thread nD τ) arg12 fullShare z12
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare z5 ∗ owns (c : Thread nD τ) arg6 fullShare z6 ∗ owns (c : Thread nD τ) arg7 fullShare z7 ∗ (arg8.view.loc (c : Thread nD τ) ↦[arg8.view.set]{fullShare} arg8.view.writes (Elt F) (harg8.unread y8) L8) ∗ owns (c : Thread nD τ) arg9 fullShare z9 ∗ owns (c : Thread nD τ) arg10 fullShare z10 ∗ owns (c : Thread nD τ) arg11 fullShare z11 ∗ owns (c : Thread nD τ) arg12 fullShare z12) -∗ K ⟨⟩))
          ⊢ wp frame (wpE (defs₀ (F := F)) Variants.none c none) E (cc0_down_low i arg1 harg1 arg2 harg2 arg3 harg3 arg4 harg4 arg5 harg5 arg6 harg6 arg7 harg7 arg8 harg8 arg9 harg9 arg10 harg10 arg11 harg11 arg12 harg12) K } := by
  refine ⟨?_, fun z5 z6 z7 y8 z9 z10 z11 z12 E K => ?run⟩
  case run =>
    simp only [cc0_down_low_eq_skeleton]; unfold cc0_down_low_skel
    simp only [k0_part141_eq_skeleton, k0_part1_eq_skeleton, k0_part2_eq_skeleton, k0_part3_eq_skeleton, k0_part4_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg12.eq_unread hf12; obtain rfl := harg8.eq_unread hf8
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; isplitr; · ipureintro; exact harg12.read_unread _
    iexact H12

set_option maxHeartbeats 16000000 in
/-- The run in case B: the pieces the body's stores leave in the buffers it writes, WITH the proof that it runs from the other
    buffers at given contents and the written ones at anything to the continuation holding the others as they were and the
    written ones with their pieces. -/
noncomputable def kernelRun0_B (c : Dev nD) (i : grid0.Coords) (arg1 : Memref sig .tc .vmem S256x8192 .f32) (harg1 : arg1.IsWhole) (arg2 : Memref sig .tc .vmem S256x1536 .f32) (harg2 : arg2.IsWhole) (arg3 : Memref sig .tc .vmem S256x1536 .i8) (harg3 : arg3.IsWhole) (arg4 : Memref sig .tc .vmem S8x1536 .f32) (harg4 : arg4.IsWhole) (arg5 : Memref sig .tc .vmem S256x8192 .i8) (harg5 : arg5.IsWhole) (arg6 : Memref sig .tc .vmem S256x128 .f32) (harg6 : arg6.IsWhole) (arg7 : Memref sig .tc .vmem S256x1536 .bf16) (harg7 : arg7.IsWhole) (arg8 : Memref sig .tc .vmem S8192x1536 .bf16) (harg8 : arg8.IsWhole) (arg9 : Memref sig .tc .vmem S256x8192 .bf16) (harg9 : arg9.IsWhole) (arg10 : Memref sig .tc .vmem S256x8192 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : cond0_1 i) (hc2 : ¬cond0_2 i) (hc3 : ¬cond0_3 i)
    (x0 : Vec F S256x8192 .f32) (x1 : Vec F S256x1536 .f32) (x2 : Vec F S256x1536 .i8) (x3 : Vec F S8x1536 .f32)  :
    Σ' (L5 : List (View.Piece (Elt F) S256x8192 .i8)), Σ' (L6 : List (View.Piece (Elt F) S256x128 .f32)), Σ' (L9 : List (View.Piece (Elt F) S256x8192 .bf16)), { L11 : List (View.Piece (Elt F) S256x128 .f32) //
      ∀ (z7 : Vec F S256x1536 .bf16) (z8 : Vec F S8192x1536 .bf16) (z10 : Vec F S256x8192 .bf16) (z12 : Vec F S256x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare z7 ∗ owns (c : Thread nD τ) arg8 fullShare z8 ∗ (∃ d, owns (c : Thread nD τ) arg9 fullShare d) ∗ owns (c : Thread nD τ) arg10 fullShare z10 ∗ (∃ d, owns (c : Thread nD τ) arg11 fullShare d) ∗ owns (c : Thread nD τ) arg12 fullShare z12
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ owns (c : Thread nD τ) arg7 fullShare z7 ∗ owns (c : Thread nD τ) arg8 fullShare z8 ∗ (∃ f, arg9.view.loc (c : Thread nD τ) ↦[arg9.view.set]{fullShare} arg9.view.writes (Elt F) f L9) ∗ owns (c : Thread nD τ) arg10 fullShare z10 ∗ (∃ f, arg11.view.loc (c : Thread nD τ) ↦[arg11.view.set]{fullShare} arg11.view.writes (Elt F) f L11) ∗ owns (c : Thread nD τ) arg12 fullShare z12) -∗ K ⟨⟩))
          ⊢ wp frame (wpE (defs₀ (F := F)) Variants.none c none) E (cc0_down_low i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun z7 z8 z10 z12 E K => ?run⟩
  case run =>
    simp only [cc0_down_low_eq_skeleton]; unfold cc0_down_low_skel
    simp only [k0_part141_eq_skeleton, k0_part48_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part46_eq_skeleton, k0_part47_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%d9, %f9, -, H9⟩, ⟨%f10, %hf10, H10⟩, ⟨%d11, %f11, -, H11⟩, ⟨%f12, %hf12, H12⟩, Hk⟩
    obtain rfl := harg1.eq_unread hf1; obtain rfl := harg2.eq_unread hf2; obtain rfl := harg3.eq_unread hf3; obtain rfl := harg4.eq_unread hf4; obtain rfl := harg7.eq_unread hf7; obtain rfl := harg8.eq_unread hf8; obtain rfl := harg10.eq_unread hf10; obtain rfl := harg12.eq_unread hf12
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]
    · iexists _; isplitr; · ipureintro; exact harg10.read_unread _
      iexact H10
    isplitl [H11]; · iexists _; iexact H11
    iexists _; isplitr; · ipureintro; exact harg12.read_unread _
    iexact H12

set_option maxHeartbeats 16000000 in
/-- The run in case C: the pieces the body's stores leave in the buffers it writes, WITH the proof that it runs from the other
    buffers at given contents and the written ones at anything to the continuation holding the others as they were and the
    written ones with their pieces. -/
noncomputable def kernelRun0_C (c : Dev nD) (i : grid0.Coords) (arg1 : Memref sig .tc .vmem S256x8192 .f32) (harg1 : arg1.IsWhole) (arg2 : Memref sig .tc .vmem S256x1536 .f32) (harg2 : arg2.IsWhole) (arg3 : Memref sig .tc .vmem S256x1536 .i8) (harg3 : arg3.IsWhole) (arg4 : Memref sig .tc .vmem S8x1536 .f32) (harg4 : arg4.IsWhole) (arg5 : Memref sig .tc .vmem S256x8192 .i8) (harg5 : arg5.IsWhole) (arg6 : Memref sig .tc .vmem S256x128 .f32) (harg6 : arg6.IsWhole) (arg7 : Memref sig .tc .vmem S256x1536 .bf16) (harg7 : arg7.IsWhole) (arg8 : Memref sig .tc .vmem S8192x1536 .bf16) (harg8 : arg8.IsWhole) (arg9 : Memref sig .tc .vmem S256x8192 .bf16) (harg9 : arg9.IsWhole) (arg10 : Memref sig .tc .vmem S256x8192 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : ¬cond0_1 i) (hc2 : cond0_2 i) (hc3 : ¬cond0_3 i)
    (x0 : Vec F S256x8192 .f32) (x1 : Vec F S256x1536 .f32) (x2 : Vec F S256x1536 .i8) (x3 : Vec F S8x1536 .f32) (y8 : Vec F S8192x1536 .bf16) (y9 : Vec F S256x8192 .bf16) (y11 : Vec F S256x128 .f32) :
    Σ' (L5 : List (View.Piece (Elt F) S256x8192 .i8)), Σ' (L6 : List (View.Piece (Elt F) S256x128 .f32)), Σ' (L7 : List (View.Piece (Elt F) S256x1536 .bf16)), Σ' (L10 : List (View.Piece (Elt F) S256x8192 .bf16)), { L12 : List (View.Piece (Elt F) S256x128 .f32) //
      ∀  (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare y8 ∗ owns (c : Thread nD τ) arg9 fullShare y9 ∗ (∃ d, owns (c : Thread nD τ) arg10 fullShare d) ∗ owns (c : Thread nD τ) arg11 fullShare y11 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ owns (c : Thread nD τ) arg8 fullShare y8 ∗ owns (c : Thread nD τ) arg9 fullShare y9 ∗ (∃ f, arg10.view.loc (c : Thread nD τ) ↦[arg10.view.set]{fullShare} arg10.view.writes (Elt F) f L10) ∗ owns (c : Thread nD τ) arg11 fullShare y11 ∗ (∃ f, arg12.view.loc (c : Thread nD τ) ↦[arg12.view.set]{fullShare} arg12.view.writes (Elt F) f L12)) -∗ K ⟨⟩))
          ⊢ wp frame (wpE (defs₀ (F := F)) Variants.none c none) E (cc0_down_low i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun  E K => ?run⟩
  case run =>
    simp only [cc0_down_low_eq_skeleton]; unfold cc0_down_low_skel
    simp only [k0_part141_eq_skeleton, k0_part94_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part90_eq_skeleton, k0_part91_eq_skeleton, k0_part92_eq_skeleton, k0_part93_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, ⟨%d10, %f10, -, H10⟩, ⟨%f11, %hf11, H11⟩, ⟨%d12, %f12, -, H12⟩, Hk⟩
    obtain rfl := harg1.eq_unread hf1; obtain rfl := harg2.eq_unread hf2; obtain rfl := harg3.eq_unread hf3; obtain rfl := harg4.eq_unread hf4; obtain rfl := harg8.eq_unread hf8; obtain rfl := harg9.eq_unread hf9; obtain rfl := harg11.eq_unread hf11
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]
    · iexists _; isplitr; · ipureintro; exact harg11.read_unread _
      iexact H11
    iexists _; iexact H12

set_option maxHeartbeats 16000000 in
/-- The run in case D: the pieces the body's stores leave in the buffers it writes, WITH the proof that it runs from the other
    buffers at given contents and the written ones at anything to the continuation holding the others as they were and the
    written ones with their pieces. -/
noncomputable def kernelRun0_D (c : Dev nD) (i : grid0.Coords) (arg1 : Memref sig .tc .vmem S256x8192 .f32) (harg1 : arg1.IsWhole) (arg2 : Memref sig .tc .vmem S256x1536 .f32) (harg2 : arg2.IsWhole) (arg3 : Memref sig .tc .vmem S256x1536 .i8) (harg3 : arg3.IsWhole) (arg4 : Memref sig .tc .vmem S8x1536 .f32) (harg4 : arg4.IsWhole) (arg5 : Memref sig .tc .vmem S256x8192 .i8) (harg5 : arg5.IsWhole) (arg6 : Memref sig .tc .vmem S256x128 .f32) (harg6 : arg6.IsWhole) (arg7 : Memref sig .tc .vmem S256x1536 .bf16) (harg7 : arg7.IsWhole) (arg8 : Memref sig .tc .vmem S8192x1536 .bf16) (harg8 : arg8.IsWhole) (arg9 : Memref sig .tc .vmem S256x8192 .bf16) (harg9 : arg9.IsWhole) (arg10 : Memref sig .tc .vmem S256x8192 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : ¬cond0_1 i) (hc2 : ¬cond0_2 i) (hc3 : cond0_3 i)
    (x0 : Vec F S256x8192 .f32) (x1 : Vec F S256x1536 .f32) (x2 : Vec F S256x1536 .i8) (x3 : Vec F S8x1536 .f32) (y8 : Vec F S8192x1536 .bf16) (y10 : Vec F S256x8192 .bf16) (y12 : Vec F S256x128 .f32) :
    Σ' (L5 : List (View.Piece (Elt F) S256x8192 .i8)), Σ' (L6 : List (View.Piece (Elt F) S256x128 .f32)), Σ' (L7 : List (View.Piece (Elt F) S256x1536 .bf16)), Σ' (L9 : List (View.Piece (Elt F) S256x8192 .bf16)), { L11 : List (View.Piece (Elt F) S256x128 .f32) //
      ∀  (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare y8 ∗ (∃ d, owns (c : Thread nD τ) arg9 fullShare d) ∗ owns (c : Thread nD τ) arg10 fullShare y10 ∗ (∃ d, owns (c : Thread nD τ) arg11 fullShare d) ∗ owns (c : Thread nD τ) arg12 fullShare y12
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ owns (c : Thread nD τ) arg8 fullShare y8 ∗ (∃ f, arg9.view.loc (c : Thread nD τ) ↦[arg9.view.set]{fullShare} arg9.view.writes (Elt F) f L9) ∗ owns (c : Thread nD τ) arg10 fullShare y10 ∗ (∃ f, arg11.view.loc (c : Thread nD τ) ↦[arg11.view.set]{fullShare} arg11.view.writes (Elt F) f L11) ∗ owns (c : Thread nD τ) arg12 fullShare y12) -∗ K ⟨⟩))
          ⊢ wp frame (wpE (defs₀ (F := F)) Variants.none c none) E (cc0_down_low i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun  E K => ?run⟩
  case run =>
    simp only [cc0_down_low_eq_skeleton]; unfold cc0_down_low_skel
    simp only [k0_part140_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part136_eq_skeleton, k0_part137_eq_skeleton, k0_part138_eq_skeleton, k0_part139_eq_skeleton, k0_part141_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%d9, %f9, -, H9⟩, ⟨%f10, %hf10, H10⟩, ⟨%d11, %f11, -, H11⟩, ⟨%f12, %hf12, H12⟩, Hk⟩
    obtain rfl := harg1.eq_unread hf1; obtain rfl := harg2.eq_unread hf2; obtain rfl := harg3.eq_unread hf3; obtain rfl := harg4.eq_unread hf4; obtain rfl := harg8.eq_unread hf8; obtain rfl := harg10.eq_unread hf10; obtain rfl := harg12.eq_unread hf12
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]
    · iexists _; isplitr; · ipureintro; exact harg8.read_unread _
      iexact H8
    isplitl [H9]; · iexists _; iexact H9
    isplitl [H10]
    · iexists _; isplitr; · ipureintro; exact harg10.read_unread _
      iexact H10
    isplitl [H11]; · iexists _; iexact H11
    iexists _; isplitr; · ipureintro; exact harg12.read_unread _
    iexact H12

end Cert.DownLowIdeal.Hand

end
-- ==== Proof.DownLowIdealTile.lean ====
/- What the stores of `DownLowIdeal`'s body leave: the quantiser's 32 stores of 8 rows each leave in a buffer one function of the rows'
   block, and the 6 stores of 256 columns leave the residual plus the scaled product. -/
module

public import proofs.«01_k».proof.Proof.DownLowIdealRun
public import Idealize.ShloMosaic.Lib.Pointwise.Index
public import Idealize.ShloMosaic.Lib.Pipeline.ValueKit.Tiles
public import Idealize.ShloMosaic.Lib.Pipeline.ValueKit.Geometry

@[expose] public section

set_option maxRecDepth 16384

noncomputable section

namespace Cert.DownLowIdeal.Hand

open Cert.DownLowIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The quantiser's chunk of 8 rows -/

/-- The codes of a chunk. -/
def qCodes (v : Vec F S8x8192 .f32) : Vec F S8x8192 .i8 := k0_pay20 v
/-- The row values of a chunk: the scale in lane 0, the zero point in the others. -/
def qAux (v : Vec F S8x8192 .f32) : Vec F S8x128 .f32 := k0_pay24 k0_pay21 (k0_pay22 v) (k0_pay23 v)
/-- The centred codes of a chunk. -/
def qAct (v : Vec F S8x8192 .f32) : Vec F S8x8192 .bf16 := k0_pay25 (k0_pay18 v) (k0_pay19 v)
/-- The scale of a chunk, in every lane. -/
def qScale (v : Vec F S8x8192 .f32) : Vec F S8x128 .f32 := k0_pay26 (k0_pay17 v)
/-- A tile of 256 columns: the residual plus the product of the activations with a column tile of the weight, scaled. -/
def tilePay (s : Vec F S256x128 .f32) (a : Vec F S256x8192 .bf16) (w : Vec F S8192x256 .bf16) (h : Vec F S256x256 .f32) : Vec F S256x256 .bf16 := k0_pay2 s a w h

theorem row_inb (r : Fin 32) : ∀ a, (![8 * r.val, 0] : Fin 2 → ℕ) a + S8x8192.size a ≤ S256x8192.size a := fun a => by
  match a with
  | 0 => show 8 * r.val + 8 ≤ 256; omega
  | 1 => show 0 + 8192 ≤ 8192; omega
theorem lane_inb (r : Fin 32) : ∀ a, (![8 * r.val, 0] : Fin 2 → ℕ) a + S8x128.size a ≤ S256x128.size a := fun a => by
  match a with
  | 0 => show 8 * r.val + 8 ≤ 256; omega
  | 1 => show 0 + 128 ≤ 128; omega
theorem wcol_inb (j : Fin 6) : ∀ a, (![0, 256 * j.val] : Fin 2 → ℕ) a + S8192x256.size a ≤ S8192x1536.size a := fun a => by
  match a with
  | 0 => show 0 + 8192 ≤ 8192; omega
  | 1 => show 256 * j.val + 256 ≤ 1536; omega
theorem col_inb (j : Fin 6) : ∀ a, (![0, 256 * j.val] : Fin 2 → ℕ) a + S256x256.size a ≤ S256x1536.size a := fun a => by
  match a with
  | 0 => show 0 + 256 ≤ 256; omega
  | 1 => show 256 * j.val + 256 ≤ 1536; omega

/-- Chunk `r`'s rows of a block of rows, of a block of lanes; column tile `j` of the weight, of a block of columns. -/
abbrev rowRect (r : Fin 32) : Rect S256x8192 := Rect.unit ![8 * r.val, 0] S8x8192.size (row_inb r)
abbrev laneRect (r : Fin 32) : Rect S256x128 := Rect.unit ![8 * r.val, 0] S8x128.size (lane_inb r)
abbrev wcolRect (j : Fin 6) : Rect S8192x1536 := Rect.unit ![0, 256 * j.val] S8192x256.size (wcol_inb j)
abbrev colRect (j : Fin 6) : Rect S256x1536 := Rect.unit ![0, 256 * j.val] S256x256.size (col_inb j)
abbrev allRect : Rect S256x8192 := Rect.unit ![0, 0] S256x8192.size inb_S256x8192_S256x8192_0_0
abbrev allLane : Rect S256x128 := Rect.unit ![0, 0] S256x128.size inb_S256x128_S256x128_0_0

/-- A load of a whole block through its view reads the block. -/
theorem whole_ld {sp : Space} {s : Shape} {e : EltTy} (a : Memref sig .tc sp s e) (h : a.IsWhole) (x : s.Idx → Elt F e) (r : Rect s) :
    View.readAt (Elt F) a.view r.toLoadRect (h.unread x) = View.ld x r := by
  frame_out

section
variable (arg1 : Memref sig .tc .vmem S256x8192 .f32) (harg1 : arg1.IsWhole) (x0 : Vec F S256x8192 .f32)

/-- Chunk `r` as the body loads it. -/
def chunk (r : Fin 32) : Vec F S8x8192 .f32 := View.readAt (Elt F) arg1.view (rowRect r).toLoadRect (harg1.unread x0)

/-- The stores of 32 chunks, last first. -/
def rowsL {e : EltTy} (g : Vec F S8x8192 .f32 → Vec F S8x8192 e) : List (View.Piece (Elt F) S256x8192 e) :=
  (List.finRange 32).reverse.map fun r => ⟨rowRect r, g (chunk arg1 harg1 x0 r)⟩
def lanesL {e : EltTy} (g : Vec F S8x8192 .f32 → Vec F S8x128 e) : List (View.Piece (Elt F) S256x128 e) :=
  (List.finRange 32).reverse.map fun r => ⟨laneRect r, g (chunk arg1 harg1 x0 r)⟩

/-- Row `y 0`'s chunk. -/
def chunkOf (n : ℕ) (h : n < 256) : Vec F S8x8192 .f32 := View.ld x0 (rowRect ⟨n / 8, by omega⟩)

/-- What the 32 stores leave: at row `y 0` what chunk `y 0 / 8` gives. -/
def rowsOf {e : EltTy} (g : Vec F S8x8192 .f32 → Vec F S8x8192 e) : Vec F S256x8192 e := fun y =>
  g (chunkOf x0 (y 0).val (y 0).isLt) (Idealize.ShloMosaic.ix2 (n0 := 8) (n1 := 8192) ⟨(y 0).val % 8, Nat.mod_lt _ (by decide)⟩ (y 1))
def lanesOf {e : EltTy} (g : Vec F S8x8192 .f32 → Vec F S8x128 e) : Vec F S256x128 e := fun y =>
  g (chunkOf x0 (y 0).val (y 0).isLt) (Idealize.ShloMosaic.ix2 (n0 := 8) (n1 := 128) ⟨(y 0).val % 8, Nat.mod_lt _ (by decide)⟩ (y 1))

theorem rows_piece {e : EltTy} (g : Vec F S8x8192 .f32 → Vec F S8x8192 e) (r : Fin 32) (x : S8x8192.Idx) :
    g (chunk arg1 harg1 x0 r) x = rowsOf x0 g ((rowRect r).emb x) := by
  have b : (x 0).val < 8 := (x 0).isLt
  have e0 : ((rowRect r).emb x 0).val = 8 * r.val + (x 0).val := ValueKit.rect_emb_unit_val (s := S256x8192) ![8 * r.val, 0] S8x8192.size (row_inb r) x 0
  have e1 : ((rowRect r).emb x 1).val = 0 + (x 1).val := ValueKit.rect_emb_unit_val (s := S256x8192) ![8 * r.val, 0] S8x8192.size (row_inb r) x 1
  have hx : x = Idealize.ShloMosaic.ix2 (n0 := 8) (n1 := 8192) (x 0) (x 1) := eq_ix2 x
  unfold rowsOf chunk chunkOf
  rw [whole_ld]
  generalize (rowRect r).emb x = y at *
  obtain rfl : r = ⟨(y 0).val / 8, by have := (y 0).isLt; exact Nat.div_lt_of_lt_mul this⟩ := Fin.ext (by show r.val = (y 0).val / 8; omega)
  conv_lhs => rw [hx]
  congr 2
  · exact Fin.ext (by show (x 0).val = (y 0).val % 8; omega)
  · exact Fin.ext (by omega)

theorem lanes_piece {e : EltTy} (g : Vec F S8x8192 .f32 → Vec F S8x128 e) (r : Fin 32) (x : S8x128.Idx) :
    g (chunk arg1 harg1 x0 r) x = lanesOf x0 g ((laneRect r).emb x) := by
  have b : (x 0).val < 8 := (x 0).isLt
  have e0 : ((laneRect r).emb x 0).val = 8 * r.val + (x 0).val := ValueKit.rect_emb_unit_val (s := S256x128) ![8 * r.val, 0] S8x128.size (lane_inb r) x 0
  have e1 : ((laneRect r).emb x 1).val = 0 + (x 1).val := ValueKit.rect_emb_unit_val (s := S256x128) ![8 * r.val, 0] S8x128.size (lane_inb r) x 1
  have hx : x = Idealize.ShloMosaic.ix2 (n0 := 8) (n1 := 128) (x 0) (x 1) := eq_ix2 x
  unfold lanesOf chunk chunkOf
  rw [whole_ld]
  generalize (laneRect r).emb x = y at *
  obtain rfl : r = ⟨(y 0).val / 8, by have := (y 0).isLt; exact Nat.div_lt_of_lt_mul this⟩ := Fin.ext (by show r.val = (y 0).val / 8; omega)
  conv_lhs => rw [hx]
  congr 2
  · exact Fin.ext (by show (x 0).val = (y 0).val % 8; omega)
  · exact Fin.ext (by omega)

/-- The stores leave `rowsOf`, whatever was there. -/
theorem rows_read {e : EltTy} (g : Vec F S8x8192 .f32 → Vec F S8x8192 e) {sp : Space} (v : View sig .tc sp S256x8192 e) (f : v.ty.shape.Idx → Elt F v.ty.elt) :
    v.read (Elt F) (v.writes (Elt F) f (rowsL arg1 harg1 x0 g)) = rowsOf x0 g := by
  funext y
  refine View.read_writes_apply_of_pieces _ _ (rowsOf x0 g) _ (fun p hp x => ?_) y ?_
  · obtain ⟨r, -, rfl⟩ := List.mem_map.mp hp
    exact rows_piece arg1 harg1 x0 g r x
  · have h : (y 0).val < 256 := (y 0).isLt
    refine ⟨_, List.mem_map.mpr ⟨⟨(y 0).val / 8, by omega⟩, List.mem_reverse.mpr (List.mem_finRange _), rfl⟩, ?_⟩
    show y ∈ (Rect.unit _ _ (row_inb _)).set
    rw [Rect.mem_set_unit]
    intro a
    match a with
    | 0 => exact ⟨by show 8 * ((y 0).val / 8) ≤ (y 0).val; omega, by show (y 0).val < 8 * ((y 0).val / 8) + 8; omega⟩
    | 1 => exact ⟨Nat.zero_le _, by show (y 1).val < 0 + 8192; have : (y 1).val < 8192 := (y 1).isLt; omega⟩

theorem lanes_read {e : EltTy} (g : Vec F S8x8192 .f32 → Vec F S8x128 e) {sp : Space} (v : View sig .tc sp S256x128 e) (f : v.ty.shape.Idx → Elt F v.ty.elt) :
    v.read (Elt F) (v.writes (Elt F) f (lanesL arg1 harg1 x0 g)) = lanesOf x0 g := by
  funext y
  refine View.read_writes_apply_of_pieces _ _ (lanesOf x0 g) _ (fun p hp x => ?_) y ?_
  · obtain ⟨r, -, rfl⟩ := List.mem_map.mp hp
    exact lanes_piece arg1 harg1 x0 g r x
  · have h : (y 0).val < 256 := (y 0).isLt
    refine ⟨_, List.mem_map.mpr ⟨⟨(y 0).val / 8, by omega⟩, List.mem_reverse.mpr (List.mem_finRange _), rfl⟩, ?_⟩
    show y ∈ (Rect.unit _ _ (lane_inb _)).set
    rw [Rect.mem_set_unit]
    intro a
    match a with
    | 0 => exact ⟨by show 8 * ((y 0).val / 8) ≤ (y 0).val; omega, by show (y 0).val < 8 * ((y 0).val / 8) + 8; omega⟩
    | 1 => exact ⟨Nat.zero_le _, by show (y 1).val < 0 + 128; have : (y 1).val < 128 := (y 1).isLt; omega⟩
end

/-! ## The product's column tiles -/

section
variable (arg2 : Memref sig .tc .vmem S256x1536 .f32) (harg2 : arg2.IsWhole) (arg8 : Memref sig .tc .vmem S8192x1536 .bf16) (harg8 : arg8.IsWhole)
  (arg9 : Memref sig .tc .vmem S256x8192 .bf16) (harg9 : arg9.IsWhole) (arg11 : Memref sig .tc .vmem S256x128 .f32) (harg11 : arg11.IsWhole)
  (h : Vec F S256x1536 .f32) (w : Vec F S8192x1536 .bf16) (a : Vec F S256x8192 .bf16) (s : Vec F S256x128 .f32)

/-- The stores of the 6 column tiles, last first. -/
def colsL : List (View.Piece (Elt F) S256x1536 .bf16) :=
  (List.finRange 6).reverse.map fun j => ⟨colRect j, tilePay (View.readAt (Elt F) arg11.view allLane.toLoadRect (harg11.unread s))
    (View.readAt (Elt F) arg9.view allRect.toLoadRect (harg9.unread a)) (View.readAt (Elt F) arg8.view (wcolRect j).toLoadRect (harg8.unread w))
    (View.readAt (Elt F) arg2.view (colRect j).toLoadRect (harg2.unread h))⟩

/-- What the 6 stores leave. -/
def colsOf : Vec F S256x1536 .bf16 := fun y =>
  tilePay (View.ld s allLane) (View.ld a allRect) (View.ld w (wcolRect ⟨(y 1).val / 256, Nat.div_lt_of_lt_mul (y 1).isLt⟩))
    (View.ld h (colRect ⟨(y 1).val / 256, Nat.div_lt_of_lt_mul (y 1).isLt⟩)) (Idealize.ShloMosaic.ix2 (n0 := 256) (n1 := 256) (y 0) ⟨(y 1).val % 256, Nat.mod_lt _ (by decide)⟩)

theorem cols_read {sp : Space} (v : View sig .tc sp S256x1536 .bf16) (f : v.ty.shape.Idx → Elt F v.ty.elt) :
    v.read (Elt F) (v.writes (Elt F) f (colsL arg2 harg2 arg8 harg8 arg9 harg9 arg11 harg11 h w a s)) = colsOf h w a s := by
  funext y
  refine View.read_writes_apply_of_pieces _ _ (colsOf h w a s) _ (fun p hp x => ?_) y ?_
  · obtain ⟨j, -, rfl⟩ := List.mem_map.mp hp
    have b : (x 1).val < 256 := (x 1).isLt
    have e0 : ((colRect j).emb x 0).val = 0 + (x 0).val := ValueKit.rect_emb_unit_val (s := S256x1536) ![0, 256 * j.val] S256x256.size (col_inb j) x 0
    have e1 : ((colRect j).emb x 1).val = 256 * j.val + (x 1).val := ValueKit.rect_emb_unit_val (s := S256x1536) ![0, 256 * j.val] S256x256.size (col_inb j) x 1
    have hx : x = Idealize.ShloMosaic.ix2 (n0 := 256) (n1 := 256) (x 0) (x 1) := eq_ix2 x
    dsimp only
    unfold colsOf
    rw [whole_ld, whole_ld, whole_ld, whole_ld]
    generalize (colRect j).emb x = y at *
    obtain rfl : j = ⟨(y 1).val / 256, Nat.div_lt_of_lt_mul (y 1).isLt⟩ := Fin.ext (by show j.val = (y 1).val / 256; omega)
    conv_lhs => rw [hx]
    congr 2
    · exact Fin.ext (by omega)
    · exact Fin.ext (by show (x 1).val = (y 1).val % 256; omega)
  · have hy : (y 1).val < 1536 := (y 1).isLt
    refine ⟨_, List.mem_map.mpr ⟨⟨(y 1).val / 256, by omega⟩, List.mem_reverse.mpr (List.mem_finRange _), rfl⟩, ?_⟩
    show y ∈ (Rect.unit _ _ (col_inb _)).set
    rw [Rect.mem_set_unit]
    intro a
    match a with
    | 0 => exact ⟨Nat.zero_le _, by show (y 0).val < 0 + 256; have : (y 0).val < 256 := (y 0).isLt; omega⟩
    | 1 => exact ⟨by show 256 * ((y 1).val / 256) ≤ (y 1).val; omega, by show (y 1).val < 256 * ((y 1).val / 256) + 256; omega⟩
end

/-! ## The runs' pieces are these -/

section
variable (c : Dev nD) (i : grid0.Coords) (arg1 : Memref sig .tc .vmem S256x8192 .f32) (harg1 : arg1.IsWhole) (arg2 : Memref sig .tc .vmem S256x1536 .f32) (harg2 : arg2.IsWhole) (arg3 : Memref sig .tc .vmem S256x1536 .i8) (harg3 : arg3.IsWhole) (arg4 : Memref sig .tc .vmem S8x1536 .f32) (harg4 : arg4.IsWhole) (arg5 : Memref sig .tc .vmem S256x8192 .i8) (harg5 : arg5.IsWhole) (arg6 : Memref sig .tc .vmem S256x128 .f32) (harg6 : arg6.IsWhole) (arg7 : Memref sig .tc .vmem S256x1536 .bf16) (harg7 : arg7.IsWhole) (arg8 : Memref sig .tc .vmem S8192x1536 .bf16) (harg8 : arg8.IsWhole) (arg9 : Memref sig .tc .vmem S256x8192 .bf16) (harg9 : arg9.IsWhole) (arg10 : Memref sig .tc .vmem S256x8192 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : cond0_1 i) (hc2 : ¬cond0_2 i) (hc3 : ¬cond0_3 i) (x0 : Vec F S256x8192 .f32) (x1 : Vec F S256x1536 .f32) (x2 : Vec F S256x1536 .i8) (x3 : Vec F S8x1536 .f32)
theorem run_B_5 : (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 ).1 = rowsL arg1 harg1 x0 qCodes := by sl_kernel_rfl
theorem run_B_6 : (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 ).2.1 = lanesL arg1 harg1 x0 qAux := by sl_kernel_rfl
theorem run_B_9 : (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 ).2.2.1 = rowsL arg1 harg1 x0 qAct := by sl_kernel_rfl
theorem run_B_11 : (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 ).2.2.2.1 = lanesL arg1 harg1 x0 qScale := by sl_kernel_rfl
end

section
variable (c : Dev nD) (i : grid0.Coords) (arg1 : Memref sig .tc .vmem S256x8192 .f32) (harg1 : arg1.IsWhole) (arg2 : Memref sig .tc .vmem S256x1536 .f32) (harg2 : arg2.IsWhole) (arg3 : Memref sig .tc .vmem S256x1536 .i8) (harg3 : arg3.IsWhole) (arg4 : Memref sig .tc .vmem S8x1536 .f32) (harg4 : arg4.IsWhole) (arg5 : Memref sig .tc .vmem S256x8192 .i8) (harg5 : arg5.IsWhole) (arg6 : Memref sig .tc .vmem S256x128 .f32) (harg6 : arg6.IsWhole) (arg7 : Memref sig .tc .vmem S256x1536 .bf16) (harg7 : arg7.IsWhole) (arg8 : Memref sig .tc .vmem S8192x1536 .bf16) (harg8 : arg8.IsWhole) (arg9 : Memref sig .tc .vmem S256x8192 .bf16) (harg9 : arg9.IsWhole) (arg10 : Memref sig .tc .vmem S256x8192 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : ¬cond0_1 i) (hc2 : cond0_2 i) (hc3 : ¬cond0_3 i) (x0 : Vec F S256x8192 .f32) (x1 : Vec F S256x1536 .f32) (x2 : Vec F S256x1536 .i8) (x3 : Vec F S8x1536 .f32) (y8 : Vec F S8192x1536 .bf16) (y9 : Vec F S256x8192 .bf16) (y11 : Vec F S256x128 .f32)
theorem run_C_5 : (kernelRun0_C c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 y8 y9 y11).1 = rowsL arg1 harg1 x0 qCodes := by sl_kernel_rfl
theorem run_C_6 : (kernelRun0_C c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 y8 y9 y11).2.1 = lanesL arg1 harg1 x0 qAux := by sl_kernel_rfl
theorem run_C_7 : (kernelRun0_C c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 y8 y9 y11).2.2.1 = colsL arg2 harg2 arg8 harg8 arg9 harg9 arg11 harg11 x1 y8 y9 y11 := by sl_kernel_rfl
theorem run_C_10 : (kernelRun0_C c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 y8 y9 y11).2.2.2.1 = rowsL arg1 harg1 x0 qAct := by sl_kernel_rfl
theorem run_C_12 : (kernelRun0_C c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 y8 y9 y11).2.2.2.2.1 = lanesL arg1 harg1 x0 qScale := by sl_kernel_rfl
end

section
variable (c : Dev nD) (i : grid0.Coords) (arg1 : Memref sig .tc .vmem S256x8192 .f32) (harg1 : arg1.IsWhole) (arg2 : Memref sig .tc .vmem S256x1536 .f32) (harg2 : arg2.IsWhole) (arg3 : Memref sig .tc .vmem S256x1536 .i8) (harg3 : arg3.IsWhole) (arg4 : Memref sig .tc .vmem S8x1536 .f32) (harg4 : arg4.IsWhole) (arg5 : Memref sig .tc .vmem S256x8192 .i8) (harg5 : arg5.IsWhole) (arg6 : Memref sig .tc .vmem S256x128 .f32) (harg6 : arg6.IsWhole) (arg7 : Memref sig .tc .vmem S256x1536 .bf16) (harg7 : arg7.IsWhole) (arg8 : Memref sig .tc .vmem S8192x1536 .bf16) (harg8 : arg8.IsWhole) (arg9 : Memref sig .tc .vmem S256x8192 .bf16) (harg9 : arg9.IsWhole) (arg10 : Memref sig .tc .vmem S256x8192 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : ¬cond0_1 i) (hc2 : ¬cond0_2 i) (hc3 : cond0_3 i) (x0 : Vec F S256x8192 .f32) (x1 : Vec F S256x1536 .f32) (x2 : Vec F S256x1536 .i8) (x3 : Vec F S8x1536 .f32) (y8 : Vec F S8192x1536 .bf16) (y10 : Vec F S256x8192 .bf16) (y12 : Vec F S256x128 .f32)
theorem run_D_5 : (kernelRun0_D c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 y8 y10 y12).1 = rowsL arg1 harg1 x0 qCodes := by sl_kernel_rfl
theorem run_D_6 : (kernelRun0_D c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 y8 y10 y12).2.1 = lanesL arg1 harg1 x0 qAux := by sl_kernel_rfl
theorem run_D_7 : (kernelRun0_D c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 y8 y10 y12).2.2.1 = colsL arg2 harg2 arg8 harg8 arg10 harg10 arg12 harg12 x1 y8 y10 y12 := by sl_kernel_rfl
theorem run_D_9 : (kernelRun0_D c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 y8 y10 y12).2.2.2.1 = rowsL arg1 harg1 x0 qAct := by sl_kernel_rfl
theorem run_D_11 : (kernelRun0_D c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 y8 y10 y12).2.2.2.2.1 = lanesL arg1 harg1 x0 qScale := by sl_kernel_rfl
end

end Cert.DownLowIdeal.Hand

end
-- ==== Proof.DownLowIdealFrame.lean ====
/- The frame of `DownLowIdeal`: the weight scratch is filled one slice of rows per point; from then on each point quantises a tile of rows into
   one of two scratches while it multiplies the tile the other holds. -/
module

public import proofs.«01_k».proof.Proof.DownLowIdealTile
public import Idealize.ShloMosaic.Lib.Claim

@[expose] public section

set_option maxRecDepth 16384

noncomputable section

namespace Cert.DownLowIdeal.Hand

open Cert.DownLowIdeal Cert.DownLowIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- While the weight is expanded nothing is stored into the outputs and no block is written back. -/
theorem idleAt0_4 : ∀ t : Fin cfg0.N, t.val < 32 → cfg0.idle 4 (grid0.coords t) = true := by decide +kernel
theorem noFlush0_4 : ∀ t : Fin cfg0.N, t.val < 32 → (cfg0.win 4).flush t = false := by decide +kernel
theorem liveAt0_4 : ∀ t : Fin cfg0.N, 32 ≤ t.val → cfg0.idle 4 (grid0.coords t) = false := by decide +kernel
theorem idleAt0_5 : ∀ t : Fin cfg0.N, t.val < 32 → cfg0.idle 5 (grid0.coords t) = true := by decide +kernel
theorem noFlush0_5 : ∀ t : Fin cfg0.N, t.val < 32 → (cfg0.win 5).flush t = false := by decide +kernel
theorem liveAt0_5 : ∀ t : Fin cfg0.N, 32 ≤ t.val → cfg0.idle 5 (grid0.coords t) = false := by decide +kernel
theorem idleAt0_6 : ∀ t : Fin cfg0.N, t.val ≤ 32 → cfg0.idle 6 (grid0.coords t) = true := by decide +kernel
theorem noFlush0_6 : ∀ t : Fin cfg0.N, t.val ≤ 32 → (cfg0.win 6).flush t = false := by decide +kernel
theorem liveAt0_6 : ∀ t : Fin cfg0.N, 32 < t.val → cfg0.idle 6 (grid0.coords t) = false := by decide +kernel

/-- Each window's current staging memref at point `t`, and its wholeness. -/
abbrev ms0_0 (t : Fin cfg0.N) : Memref sig .tc .vmem S256x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1536 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x8192 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1536 .bf16 := win0_6.stage (cfg0.slots t 6)
abbrev hs0_6 (t : Fin cfg0.N) : (ms0_6 t).IsWhole := hstage0_6 ((cfg0.slots t 6).cast nbuf0_6)
/-- The scratches. -/
abbrev scM0_0 : Memref sig .tc .vmem S8192x1536 .bf16 := Memref.whole cc0_scratch0
abbrev scM0_1 : Memref sig .tc .vmem S256x8192 .bf16 := Memref.whole cc0_scratch1
abbrev scM0_2 : Memref sig .tc .vmem S256x8192 .bf16 := Memref.whole cc0_scratch2
abbrev scM0_3 : Memref sig .tc .vmem S256x128 .f32 := Memref.whole cc0_scratch3
abbrev scM0_4 : Memref sig .tc .vmem S256x128 .f32 := Memref.whole cc0_scratch4
abbrev VS0_0 : View sig .tc .vmem S8192x1536 .bf16 := scM0_0.view

/-- The launch's invariant with the scratches as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- A place of the weight scratch lies in store `r` of point `i` iff its row does. -/
theorem mem_store (i : grid0.Coords) (r : Fin 8) (w : BitVec 32) (h : w = BitVec.ofNat 32 (32 * r.val))
    (inb : ∀ a, k0_off1 i w a + (![32, 1536] : Fin 2 → ℕ) a ≤ S8192x1536.size a) (y : S8192x1536.Idx) :
    y ∈ (Rect.unit (k0_off1 i w) ![32, 1536] inb : Rect S8192x1536).set
      ↔ 256 * (i 0).val + 32 * r.val ≤ (y 0).val ∧ (y 0).val < 256 * (i 0).val + 32 * r.val + 32 := by
  subst h
  rw [Rect.mem_set_unit, k0_off1_eq]
  have hy : (y 1).val < 1536 := (y 1).isLt
  constructor
  · intro h
    exact h 0
  · intro h a
    match a with
    | 0 => exact h
    | 1 => exact ⟨Nat.zero_le _, by show (y 1).val < 0 + 1536; omega⟩

section

variable (c : Dev nD) (i : grid0.Coords) (arg1 : Memref sig .tc .vmem S256x8192 .f32) (harg1 : arg1.IsWhole) (arg2 : Memref sig .tc .vmem S256x1536 .f32) (harg2 : arg2.IsWhole) (arg3 : Memref sig .tc .vmem S256x1536 .i8) (harg3 : arg3.IsWhole) (arg4 : Memref sig .tc .vmem S8x1536 .f32) (harg4 : arg4.IsWhole) (arg5 : Memref sig .tc .vmem S256x8192 .i8) (harg5 : arg5.IsWhole) (arg6 : Memref sig .tc .vmem S256x128 .f32) (harg6 : arg6.IsWhole) (arg7 : Memref sig .tc .vmem S256x1536 .bf16) (harg7 : arg7.IsWhole) (arg8 : Memref sig .tc .vmem S8192x1536 .bf16) (harg8 : arg8.IsWhole) (arg9 : Memref sig .tc .vmem S256x8192 .bf16) (harg9 : arg9.IsWhole) (arg10 : Memref sig .tc .vmem S256x8192 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : ¬cond0_1 i) (hc2 : ¬cond0_2 i) (hc3 : ¬cond0_3 i) (x0 : Vec F S256x8192 .f32) (x1 : Vec F S256x1536 .f32) (x2 : Vec F S256x1536 .i8) (x3 : Vec F S8x1536 .f32)

/-- The stores of point `i` cover its 256 rows of the weight scratch. -/
theorem stores_hit (y : S8192x1536.Idx) (h : (y 0).val / 256 = (i 0).val) :
    ∃ p ∈ (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3).1, y ∈ p.1.set := by
  unfold kernelRun0_A
  dsimp only
  simp only [List.mem_cons, List.not_mem_nil, or_false, exists_eq_or_imp, exists_eq_left]
  rw [mem_store i 7 224#32 rfl, mem_store i 6 192#32 rfl, mem_store i 5 160#32 rfl, mem_store i 4 128#32 rfl, mem_store i 3 96#32 rfl, mem_store i 2 64#32 rfl, mem_store i 1 32#32 rfl, mem_store i 0 0#32 rfl]
  simp only [Fin.isValue, Fin.val_zero, Fin.val_one, Fin.val_two, show (3 : Fin 8).val = 3 from rfl, show (4 : Fin 8).val = 4 from rfl, show (5 : Fin 8).val = 5 from rfl, show (6 : Fin 8).val = 6 from rfl, show (7 : Fin 8).val = 7 from rfl]
  omega

/-- The stores of point `i` miss every other row. -/
theorem stores_miss (y : S8192x1536.Idx) (h : (y 0).val / 256 ≠ (i 0).val) :
    ∀ p ∈ (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3).1, y ∉ p.1.set := by
  unfold kernelRun0_A
  dsimp only
  simp only [List.forall_mem_cons, List.not_mem_nil, false_imp_iff, implies_true, and_true]
  rw [mem_store i 7 224#32 rfl, mem_store i 6 192#32 rfl, mem_store i 5 160#32 rfl, mem_store i 4 128#32 rfl, mem_store i 3 96#32 rfl, mem_store i 2 64#32 rfl, mem_store i 1 32#32 rfl, mem_store i 0 0#32 rfl]
  simp only [Fin.isValue, Fin.val_zero, Fin.val_one, Fin.val_two, show (3 : Fin 8).val = 3 from rfl, show (4 : Fin 8).val = 4 from rfl, show (5 : Fin 8).val = 5 from rfl, show (6 : Fin 8).val = 6 from rfl, show (7 : Fin 8).val = 7 from rfl]
  omega

end

variable (m : (ℓ : Loc nD τ sig) → Buf (Elt F) ℓ) (ρ : Dev nD → PrngReg)

/-- The grid has one axis: a point's coordinate is its number. -/
theorem coords_val : ∀ t : Fin cfg0.N, (grid0.coords t 0).val = t.val :=
  (by decide +kernel : ∀ t : Fin grid0.N, (grid0.coords t 0).val = t.val)

/-- The weight scratch after a point `t` that expands a slice, from its contents `xs0` before the point. -/
def sA (c : Dev nD) (t : Fin cfg0.N) (h0 : t.val < 32) (xs0 : Vec F S8192x1536 .bf16) : Vec F S8192x1536 .bf16 :=
  VS0_0.read (Elt F) (VS0_0.writes (Elt F) ((show scM0_0.IsWhole from Memref.isWhole_whole _).unread xs0) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr (by omega)) (fun h => absurd ((hcond0_1 t).mp h) (by omega)) (fun h => absurd ((hcond0_2 t).mp h) (by omega)) (fun h => absurd ((hcond0_3 t).mp h) (by omega)) (iblk m c 0 t) (iblk m c 1 t) (iblk m c 2 t) (iblk m c 3 t)).1)

/-- The point that fills row `y 0` of the weight scratch. -/
def pt (y : S8192x1536.Idx) : Fin cfg0.N :=
  ⟨(y 0).val / 256, by have h : (y 0).val < 8192 := (y 0).isLt; rw [show cfg0.N = 81 from N_0]; omega⟩

theorem pt_lt (y : S8192x1536.Idx) : (pt y).val < 32 := by
  have h : (y 0).val < 8192 := (y 0).isLt
  show (y 0).val / 256 < 32
  omega

/-- The full weight scratch: at each place what the point that fills it leaves there. -/
def wt (c : Dev nD) : Vec F S8192x1536 .bf16 := fun y =>
  sA m c (pt y) (pt_lt y) (VS0_0.read (Elt F) VS0_0.junk) y

/-- A point leaves in its own rows what `wt` names, whatever the scratch held. -/
theorem sA_hit (c : Dev nD) (t : Fin cfg0.N) (h0 : t.val < 32) (xs0 : Vec F S8192x1536 .bf16) (y : S8192x1536.Idx)
    (hy : (y 0).val / 256 = t.val) : sA m c t h0 xs0 y = wt m c y := by
  obtain rfl : pt y = t := Fin.ext hy
  unfold wt sA
  exact View.read_writes_apply_eq _ _ _ _ y _ (stores_hit c _ _ _ _ _ _ _ _ _ _ _ _ _ _ _ _ _ _ _ _ _ _ _ _ _ _ _ _ _ _ _ _ _ y (hy.trans (coords_val _).symm))

/-- A point leaves every other row as it was. -/
theorem sA_miss (c : Dev nD) (t : Fin cfg0.N) (h0 : t.val < 32) (xs0 : Vec F S8192x1536 .bf16) (y : S8192x1536.Idx)
    (hy : (y 0).val / 256 ≠ t.val) : sA m c t h0 xs0 y = xs0 y := by
  unfold sA
  rw [View.read_writes_apply_of_forall_not_mem _ _ y _ (stores_miss c _ _ _ _ _ _ _ _ _ _ _ _ _ _ _ _ _ _ _ _ _ _ _ _ _ _ _ _ _ _ _ _ _ y
    (fun h => hy (h.trans (coords_val _)))), (Memref.isWhole_whole _).read_unread]

/-- The tile of rows point `t` quantises: its centred codes and scales, codes and row values. -/
def actv (c : Dev nD) (t : Fin cfg0.N) : Vec F S256x8192 .bf16 := rowsOf (iblk m c 0 t) qAct
def sclv (c : Dev nD) (t : Fin cfg0.N) : Vec F S256x128 .f32 := lanesOf (iblk m c 0 t) qScale
def codesv (c : Dev nD) (t : Fin cfg0.N) : Vec F S256x8192 .i8 := rowsOf (iblk m c 0 t) qCodes
def auxv (c : Dev nD) (t : Fin cfg0.N) : Vec F S256x128 .f32 := lanesOf (iblk m c 0 t) qAux

/-- The point before `t`. -/
def prev (t : Fin cfg0.N) : Fin cfg0.N := ⟨t.val - 1, lt_of_le_of_lt (Nat.sub_le _ _) t.isLt⟩

/-- The output block of point `t`: the residual plus the scaled product of the tile the point before quantised. -/
def outv (c : Dev nD) (t : Fin cfg0.N) : Vec F S256x1536 .bf16 := colsOf (iblk m c 1 t) (wt m c) (actv m c (prev t)) (sclv m c (prev t))

/-- What is held before position `n`: the rows of the weight scratch below `256 n`, and the tile the point before `n` quantised,
    in the first pair of scratches if that point is even and in the second if it is odd. -/
def Held (c : Dev nD) (n : ℕ) (d8 : Vec F S8192x1536 .bf16) (d9 d10 : Vec F S256x8192 .bf16) (d11 d12 : Vec F S256x128 .f32) : Prop :=
  (∀ y : S8192x1536.Idx, (y 0).val < 256 * n → d8 y = wt m c y)
    ∧ ∀ t : Fin cfg0.N, 32 ≤ t.val → t.val + 1 = n →
      (t.val % 2 = 0 → d9 = actv m c t ∧ d11 = sclv m c t) ∧ (t.val % 2 = 1 → d10 = actv m c t ∧ d12 = sclv m c t)

/-- The region invariant before position `n`: the scratches held as `Held` says, and the generator register some state. -/
def PhiS (c : Dev nD) (n : ℕ) (h : n ≤ cfg0.N) : sProp 𝕄 :=
  iprop(∃ (d8 : Vec F S8192x1536 .bf16) (d9 d10 : Vec F S256x8192 .bf16) (d11 d12 : Vec F S256x128 .f32), ⌜Held m c n d8 d9 d10 d11 d12⌝
    ∗ iprop(owns (c : Thread nD τ) scM0_0 fullShare d8 ∗ owns (c : Thread nD τ) scM0_1 fullShare d9 ∗ owns (c : Thread nD τ) scM0_2 fullShare d10 ∗ owns (c : Thread nD τ) scM0_3 fullShare d11 ∗ owns (c : Thread nD τ) scM0_4 fullShare d12) ∗ (∃ r, prngReg c r))

/-! ## The pipeline's proof data -/

/-- The proof data of the one pipeline: the arrays as the region finds them; after a point each input's buffer at its block and
    the outputs' at the tile's codes, row values and product; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesv m c t
    | ⟨5, _⟩ => auxv m c t
    | ⟨6, _⟩ => outv m c t
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = codesv m c t := by dsimp only [dats]
theorem after0_5 (c : Dev nD) (t : Fin cfg0.N) : (dats m 0 c).after 5 t = auxv m c t := by dsimp only [dats]
theorem after0_6 (c : Dev nD) (t : Fin cfg0.N) : (dats m 0 c).after 6 t = outv m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)

/-- What a window's buffer is left as, where the window is live and where it is idle and not written back. -/
theorem live_0 (c : Dev nD) (t : Fin cfg0.N) : (dats m 0 c).leavesExact 0 t = owns (c : Thread nD τ) (ms0_0 t) fullShare (iblk m c 0 t) := by
  unfold Dat.leavesExact; rw [liveAt0_0 t, after0_0]
theorem live_1 (c : Dev nD) (t : Fin cfg0.N) : (dats m 0 c).leavesExact 1 t = owns (c : Thread nD τ) (ms0_1 t) fullShare (iblk m c 1 t) := by
  unfold Dat.leavesExact; rw [liveAt0_1 t, after0_1]
theorem live_2 (c : Dev nD) (t : Fin cfg0.N) : (dats m 0 c).leavesExact 2 t = owns (c : Thread nD τ) (ms0_2 t) fullShare (iblk m c 2 t) := by
  unfold Dat.leavesExact; rw [liveAt0_2 t, after0_2]
theorem live_3 (c : Dev nD) (t : Fin cfg0.N) : (dats m 0 c).leavesExact 3 t = owns (c : Thread nD τ) (ms0_3 t) fullShare (iblk m c 3 t) := by
  unfold Dat.leavesExact; rw [liveAt0_3 t, after0_3]
theorem live_4 (c : Dev nD) (t : Fin cfg0.N) (h : 32 ≤ t.val) : (dats m 0 c).leavesExact 4 t = owns (c : Thread nD τ) (ms0_4 t) fullShare (codesv m c t) := by
  unfold Dat.leavesExact; rw [liveAt0_4 t h, after0_4]
theorem live_5 (c : Dev nD) (t : Fin cfg0.N) (h : 32 ≤ t.val) : (dats m 0 c).leavesExact 5 t = owns (c : Thread nD τ) (ms0_5 t) fullShare (auxv m c t) := by
  unfold Dat.leavesExact; rw [liveAt0_5 t h, after0_5]
theorem live_6 (c : Dev nD) (t : Fin cfg0.N) (h : 32 < t.val) : (dats m 0 c).leavesExact 6 t = owns (c : Thread nD τ) (ms0_6 t) fullShare (outv m c t) := by
  unfold Dat.leavesExact; rw [liveAt0_6 t h, after0_6]

set_option maxHeartbeats 1600000 in
/-- The body, case A: a point that expands a slice extends the rows held by one slice. -/
theorem sound_A (c : Dev nD) (t : Fin cfg0.N) (h0 : t.val < 32) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_castSucc m c t]
  unfold PhiS
  have hN : t.val < 81 := lt_of_lt_of_eq t.isLt (show cfg0.N = 81 from N_0)
  rw [live_0, live_1, live_2, live_3]
  rw [Dat.leavesExact_idle (dats m 0 c) 4 t (idleAt0_4 t (by omega)) (noFlush0_4 t (by omega))]
  rw [Dat.leavesExact_idle (dats m 0 c) 5 t (idleAt0_5 t (by omega)) (noFlush0_5 t (by omega))]
  rw [Dat.leavesExact_idle (dats m 0 c) 6 t (idleAt0_6 t (by omega)) (noFlush0_6 t (by omega))]
  iintro ⟨⟨%d8, %d9, %d10, %d11, %d12, %hd, ⟨H8, H9, H10, H11, H12⟩, Hg⟩, Ho, ⟨%e1, H1⟩, ⟨%e2, H2⟩, ⟨%e3, H3⟩, ⟨%e4, H4⟩, ⟨%e5, H5⟩, ⟨%e6, H6⟩, ⟨%e7, H7⟩⟩
  iapply ((kernelRun0_A c (grid0.coords t) _ _ _ _ _ _ _ _ _ _ _ _ _ _ _ _ _ _ _ _ _ _ _ _ ((hcond0_0 t).mpr (by omega)) (fun h => absurd ((hcond0_1 t).mp h) (by omega)) (fun h => absurd ((hcond0_2 t).mp h) (by omega)) (fun h => absurd ((hcond0_3 t).mp h) (by omega)) (iblk m c 0 t) (iblk m c 1 t) (iblk m c 2 t) (iblk m c 3 t)).2 _ _ _ _ _ _ _ _ Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, H8, H9, H10, H11, H12⟩
  isplitl [H8 H9 H10 H11 H12 Hg]
  · iexists (sA m c t h0 d8)
    iexists d9
    iexists d10
    iexists d11
    iexists d12
    isplitr
    · ipureintro
      refine ⟨fun y hy => ?_, fun t' h1 h2 => ?_⟩
      · by_cases h : (y 0).val / 256 = t.val
        · exact sA_hit m c t h0 d8 y h
        · rw [sA_miss m c t h0 d8 y h]
          exact hd.1 y (by omega)
      · exact absurd h2 (by omega)
    isplitl [H8 H9 H10 H11 H12]
    · isplitl [H8]
      · unfold owns; iexists _; isplitr
        swap; · iexact H8
        ipureintro; unfold sA; rfl
      isplitl [H9]
      · iexact H9
      isplitl [H10]
      · iexact H10
      isplitl [H11]
      · iexact H11
      iexact H12
    iexact Hg
  isplitl [Ho]; · iexact Ho
  isplitl [H1]
  · iexact H1
  isplitl [H2]
  · iexact H2
  isplitl [H3]
  · iexact H3
  isplitl [H4]
  · iexact H4
  isplitl [H5]
  · iexists _; iexact H5
  isplitl [H6]
  · iexists _; iexact H6
  iexists _; iexact H7

set_option maxHeartbeats 1600000 in
/-- The body, case B: the first point that quantises leaves its tile in the first scratches. -/
theorem sound_B (c : Dev nD) (t : Fin cfg0.N) (h0 : t.val = 32) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_castSucc m c t]
  unfold PhiS
  have hN : t.val < 81 := lt_of_lt_of_eq t.isLt (show cfg0.N = 81 from N_0)
  rw [live_0, live_1, live_2, live_3, live_4 m c t (by omega), live_5 m c t (by omega)]
  rw [Dat.leavesExact_idle (dats m 0 c) 6 t (idleAt0_6 t (by omega)) (noFlush0_6 t (by omega))]
  iintro ⟨⟨%d8, %d9, %d10, %d11, %d12, %hd, ⟨H8, H9, H10, H11, H12⟩, Hg⟩, Ho, ⟨%e1, H1⟩, ⟨%e2, H2⟩, ⟨%e3, H3⟩, ⟨%e4, H4⟩, ⟨%e5, H5⟩, ⟨%e6, H6⟩, ⟨%e7, H7⟩⟩
  iapply ((kernelRun0_B c (grid0.coords t) _ _ _ _ _ _ _ _ _ _ _ _ _ _ _ _ _ _ _ _ _ _ _ _ (fun h => absurd ((hcond0_0 t).mp h) (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t)).2.2.2.2 _ _ _ _ Set.univ _)
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  isplitl [H9]; · iexists _; iexact H9
  isplitl [H10]; · iexact H10
  isplitl [H11]; · iexists _; iexact H11
  isplitl [H12]; · iexact H12
  iintro ⟨H1, H2, H3, H4, ⟨%f5, H5⟩, ⟨%f6, H6⟩, H7, H8, ⟨%f9, H9⟩, H10, ⟨%f11, H11⟩, H12⟩
  isplitl [H8 H9 H10 H11 H12 Hg]
  · iexists d8
    iexists (actv m c t)
    iexists d10
    iexists (sclv m c t)
    iexists d12
    isplitr
    · ipureintro
      refine ⟨fun y hy => hd.1 y (by have h : (y 0).val < 8192 := (y 0).isLt; omega), fun t' h1 h2 => ?_⟩
      obtain rfl : t' = t := Fin.ext (by omega)
      exact ⟨fun _ => ⟨rfl, rfl⟩, fun h => absurd h (by omega)⟩
    isplitl [H8 H9 H10 H11 H12]
    · isplitl [H8]
      · iexact H8
      isplitl [H9]
      · unfold owns; iexists _; isplitr
        swap; · iexact H9
        ipureintro; rw [run_B_9]; exact rows_read _ _ _ _ _ _
      isplitl [H10]
      · iexact H10
      isplitl [H11]
      · unfold owns; iexists _; isplitr
        swap; · iexact H11
        ipureintro; rw [run_B_11]; exact lanes_read _ _ _ _ _ _
      iexact H12
    iexact Hg
  isplitl [Ho]; · iexact Ho
  isplitl [H1]
  · iexact H1
  isplitl [H2]
  · iexact H2
  isplitl [H3]
  · iexact H3
  isplitl [H4]
  · iexact H4
  isplitl [H5]
  · unfold owns; iexists _; isplitr
    swap; · iexact H5
    ipureintro; rw [run_B_5]; exact rows_read _ _ _ _ _ _
  isplitl [H6]
  · unfold owns; iexists _; isplitr
    swap; · iexact H6
    ipureintro; rw [run_B_6]; exact lanes_read _ _ _ _ _ _
  iexists _; iexact H7

set_option maxHeartbeats 1600000 in
/-- The body, case C: an odd point multiplies the tile in the first scratches and leaves its own in the second. -/
theorem sound_C (c : Dev nD) (t : Fin cfg0.N) (h0 : 32 < t.val) (hp : t.val % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_castSucc m c t]
  unfold PhiS
  have hN : t.val < 81 := lt_of_lt_of_eq t.isLt (show cfg0.N = 81 from N_0)
  rw [live_0, live_1, live_2, live_3, live_4 m c t (by omega), live_5 m c t (by omega), live_6 m c t (by omega)]
  iintro ⟨⟨%d8, %d9, %d10, %d11, %d12, %hd, ⟨H8, H9, H10, H11, H12⟩, Hg⟩, Ho, ⟨%e1, H1⟩, ⟨%e2, H2⟩, ⟨%e3, H3⟩, ⟨%e4, H4⟩, ⟨%e5, H5⟩, ⟨%e6, H6⟩, ⟨%e7, H7⟩⟩
  obtain rfl : d8 = wt m c := funext fun y => hd.1 y (by have h : (y 0).val < 8192 := (y 0).isLt; omega)
  obtain ⟨hd9, hd11⟩ := (hd.2 (prev t) (by show 32 ≤ t.val - 1; omega) (by show t.val - 1 + 1 = t.val; omega)).1 (by show (t.val - 1) % 2 = _; omega)
  subst hd9 hd11
  unfold outv
  iapply ((kernelRun0_C c (grid0.coords t) _ _ _ _ _ _ _ _ _ _ _ _ _ _ _ _ _ _ _ _ _ _ _ _ (fun h => absurd ((hcond0_0 t).mp h) (by omega)) (fun h => absurd ((hcond0_1 t).mp h) (by omega)) ((hcond0_2 t).mpr (by omega)) (fun h => absurd ((hcond0_3 t).mp h) (by omega)) (iblk m c 0 t) (iblk m c 1 t) (iblk m c 2 t) (iblk m c 3 t) _ _ _).2.2.2.2.2  Set.univ _)
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexact H8
  isplitl [H9]; · iexact H9
  isplitl [H10]; · iexists _; iexact H10
  isplitl [H11]; · iexact H11
  isplitl [H12]; · iexists _; iexact H12
  iintro ⟨H1, H2, H3, H4, ⟨%f5, H5⟩, ⟨%f6, H6⟩, ⟨%f7, H7⟩, H8, H9, ⟨%f10, H10⟩, H11, ⟨%f12, H12⟩⟩
  isplitl [H8 H9 H10 H11 H12 Hg]
  · iexists (wt m c)
    iexists (actv m c (prev t))
    iexists (actv m c t)
    iexists (sclv m c (prev t))
    iexists (sclv m c t)
    isplitr
    · ipureintro
      refine ⟨fun y hy => rfl, fun t' h1 h2 => ?_⟩
      obtain rfl : t' = t := Fin.ext (by omega)
      exact ⟨fun h => absurd h (by omega), fun _ => ⟨rfl, rfl⟩⟩
    isplitl [H8 H9 H10 H11 H12]
    · isplitl [H8]
      · iexact H8
      isplitl [H9]
      · iexact H9
      isplitl [H10]
      · unfold owns; iexists _; isplitr
        swap; · iexact H10
        ipureintro; rw [run_C_10]; exact rows_read _ _ _ _ _ _
      isplitl [H11]
      · iexact H11
      unfold owns; iexists _; isplitr
      swap; · iexact H12
      ipureintro; rw [run_C_12]; exact lanes_read _ _ _ _ _ _
    iexact Hg
  isplitl [Ho]; · iexact Ho
  isplitl [H1]
  · iexact H1
  isplitl [H2]
  · iexact H2
  isplitl [H3]
  · iexact H3
  isplitl [H4]
  · iexact H4
  isplitl [H5]
  · unfold owns; iexists _; isplitr
    swap; · iexact H5
    ipureintro; rw [run_C_5]; exact rows_read _ _ _ _ _ _
  isplitl [H6]
  · unfold owns; iexists _; isplitr
    swap; · iexact H6
    ipureintro; rw [run_C_6]; exact lanes_read _ _ _ _ _ _
  unfold owns; iexists _; isplitr
  swap; · iexact H7
  ipureintro; rw [run_C_7]; exact cols_read _ _ _ _ _ _ _ _ _ _ _ _ _ _

set_option maxHeartbeats 1600000 in
/-- The body, case D: an even point multiplies the tile in the second scratches and leaves its own in the first. -/
theorem sound_D (c : Dev nD) (t : Fin cfg0.N) (h0 : 32 < t.val) (hp : t.val % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_castSucc m c t]
  unfold PhiS
  have hN : t.val < 81 := lt_of_lt_of_eq t.isLt (show cfg0.N = 81 from N_0)
  rw [live_0, live_1, live_2, live_3, live_4 m c t (by omega), live_5 m c t (by omega), live_6 m c t (by omega)]
  iintro ⟨⟨%d8, %d9, %d10, %d11, %d12, %hd, ⟨H8, H9, H10, H11, H12⟩, Hg⟩, Ho, ⟨%e1, H1⟩, ⟨%e2, H2⟩, ⟨%e3, H3⟩, ⟨%e4, H4⟩, ⟨%e5, H5⟩, ⟨%e6, H6⟩, ⟨%e7, H7⟩⟩
  obtain rfl : d8 = wt m c := funext fun y => hd.1 y (by have h : (y 0).val < 8192 := (y 0).isLt; omega)
  obtain ⟨hd9, hd11⟩ := (hd.2 (prev t) (by show 32 ≤ t.val - 1; omega) (by show t.val - 1 + 1 = t.val; omega)).2 (by show (t.val - 1) % 2 = _; omega)
  subst hd9 hd11
  unfold outv
  iapply ((kernelRun0_D c (grid0.coords t) _ _ _ _ _ _ _ _ _ _ _ _ _ _ _ _ _ _ _ _ _ _ _ _ (fun h => absurd ((hcond0_0 t).mp h) (by omega)) (fun h => absurd ((hcond0_1 t).mp h) (by omega)) (fun h => absurd ((hcond0_2 t).mp h) (by omega)) ((hcond0_3 t).mpr (by omega)) (iblk m c 0 t) (iblk m c 1 t) (iblk m c 2 t) (iblk m c 3 t) _ _ _).2.2.2.2.2  Set.univ _)
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexact H8
  isplitl [H9]; · iexists _; iexact H9
  isplitl [H10]; · iexact H10
  isplitl [H11]; · iexists _; iexact H11
  isplitl [H12]; · iexact H12
  iintro ⟨H1, H2, H3, H4, ⟨%f5, H5⟩, ⟨%f6, H6⟩, ⟨%f7, H7⟩, H8, ⟨%f9, H9⟩, H10, ⟨%f11, H11⟩, H12⟩
  isplitl [H8 H9 H10 H11 H12 Hg]
  · iexists (wt m c)
    iexists (actv m c t)
    iexists (actv m c (prev t))
    iexists (sclv m c t)
    iexists (sclv m c (prev t))
    isplitr
    · ipureintro
      refine ⟨fun y hy => rfl, fun t' h1 h2 => ?_⟩
      obtain rfl : t' = t := Fin.ext (by omega)
      exact ⟨fun _ => ⟨rfl, rfl⟩, fun h => absurd h (by omega)⟩
    isplitl [H8 H9 H10 H11 H12]
    · isplitl [H8]
      · iexact H8
      isplitl [H9]
      · unfold owns; iexists _; isplitr
        swap; · iexact H9
        ipureintro; rw [run_D_9]; exact rows_read _ _ _ _ _ _
      isplitl [H10]
      · iexact H10
      isplitl [H11]
      · unfold owns; iexists _; isplitr
        swap; · iexact H11
        ipureintro; rw [run_D_11]; exact lanes_read _ _ _ _ _ _
      iexact H12
    iexact Hg
  isplitl [Ho]; · iexact Ho
  isplitl [H1]
  · iexact H1
  isplitl [H2]
  · iexact H2
  isplitl [H3]
  · iexact H3
  isplitl [H4]
  · iexact H4
  isplitl [H5]
  · unfold owns; iexists _; isplitr
    swap; · iexact H5
    ipureintro; rw [run_D_5]; exact rows_read _ _ _ _ _ _
  isplitl [H6]
  · unfold owns; iexists _; isplitr
    swap; · iexact H6
    ipureintro; rw [run_D_6]; exact lanes_read _ _ _ _ _ _
  unfold owns; iexists _; isplitr
  swap; · iexact H7
  ipureintro; rw [run_D_7]; exact cols_read _ _ _ _ _ _ _ _ _ _ _ _ _ _

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val < 32
  · exact sound_A m c t h0
  · by_cases h1 : t.val = 32
    · exact sound_B m c t h1
    · by_cases h2 : t.val % 2 = 1
      · exact sound_C m c t (by omega) h2
      · exact sound_D m c t (by omega) (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, at whatever the scratches hold. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%d8, H8⟩, ⟨%d9, H9⟩, ⟨%d10, H10⟩, ⟨%d11, H11⟩, ⟨%d12, H12⟩⟩, Hg⟩
  iexists d8
  iexists d9
  iexists d10
  iexists d11
  iexists d12
  isplitr
  · ipureintro
    exact ⟨fun y hy => absurd hy (by omega), fun t h1 h2 => absurd h2 (by omega)⟩
  isplitl [H8 H9 H10 H11 H12]
  · isplitl [H8]; · iexact H8
    isplitl [H9]; · iexact H9
    isplitl [H10]; · iexact H10
    isplitl [H11]; · iexact H11
    iexact H12
  iexact Hg

/-- After the last point the invariant gives the scratches back: what they hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  unfold PhiS
  iintro ⟨%d8, %d9, %d10, %d11, %d12, -, ⟨H8, H9, H10, H11, H12⟩, Hg⟩
  isplitl [H8 H9 H10 H11 H12]
  · isplitl [H8]; · iexists _; iexact H8
    isplitl [H9]; · iexists _; iexact H9
    isplitl [H10]; · iexists _; iexact H10
    isplitl [H11]; · iexists _; iexact H11
    iexists _; iexact H12
  iexact Hg

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame at any `F`: every execution terminates, the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.DownLowIdeal.Hand

end
-- ==== Proof.DownLowQuant.lean ====
/- The quantiser of one row of 8192 values, and what makes its integer steps exact: a rounded value is a whole number or infinite,
   so what is clipped to [-128, 127] is a whole number of that range, and the conversions to integers keep it. -/
module

public import Idealize.ShloMosaic.Lib.Claim
public import Idealize.ShloMosaic.PureOps.Ideal

@[expose] public section

set_option maxRecDepth 16384

noncomputable section

namespace Cert.Quant

open Idealize.ShloMosaic

/-- A whole number or an infinity. -/
def Whole (x : EReal) : Prop := x = ⊥ ∨ x = ⊤ ∨ ∃ n : ℤ, x = ((n : ℝ) : EReal)

/-- The constant -128. -/
def lim0 : EReal := Ideal.ofBits .f32 0xC3000000#32

/-- The constant 127. -/
def lim1 : EReal := Ideal.ofBits .f32 0x42FE0000#32

/-- The constant's value. -/
theorem lim0_eq : lim0 = (((-128 : ℤ) : ℝ) : EReal) := by
  unfold lim0
  have e1 : ((0xC3000000#32).extractLsb' (8 + 23) 1 == 1#1) = true := by decide
  have e2 : ((0xC3000000#32).extractLsb' 23 8).toNat = 134 := by decide
  have e3 : ((0xC3000000#32).extractLsb' 0 23).toNat = 0 := by decide
  rw [Ideal.ofBits, Ideal.ieee, e1, e2, e3]
  norm_num

/-- The constant's value. -/
theorem lim1_eq : lim1 = (((127 : ℤ) : ℝ) : EReal) := by
  unfold lim1
  have e1 : ((0x42FE0000#32).extractLsb' (8 + 23) 1 == 1#1) = false := by decide
  have e2 : ((0x42FE0000#32).extractLsb' 23 8).toNat = 133 := by decide
  have e3 : ((0x42FE0000#32).extractLsb' 0 23).toNat = 8257536 := by decide
  rw [Ideal.ofBits, Ideal.ieee, e1, e2, e3]
  norm_num

/-- A rounded value is whole. -/
theorem whole_round (x : EReal) : Whole (Ideal.liftRound Ideal.roundHalfEven x) := by
  induction x with
  | bot => exact .inl rfl
  | top => exact .inr (.inl rfl)
  | coe r => exact .inr (.inr ⟨Ideal.roundHalfEven r, rfl⟩)

/-- A sum of whole values is whole. -/
theorem Whole.add {x y : EReal} (hx : Whole x) (hy : Whole y) : Whole (x + y) := by
  rcases hx with rfl | rfl | ⟨a, rfl⟩ <;> rcases hy with rfl | rfl | ⟨b, rfl⟩
  · exact .inl (by simp)
  · exact .inl (by simp)
  · exact .inl (by simp)
  · exact .inl (by simp)
  · exact .inr (.inl (by simp))
  · exact .inr (.inl (by simp))
  · exact .inl (by simp)
  · exact .inr (.inl (by simp))
  · exact .inr (.inr ⟨a + b, by push_cast; rfl⟩)

/-- A whole value's negative is whole. -/
theorem Whole.neg {x : EReal} (hx : Whole x) : Whole (-x) := by
  rcases hx with rfl | rfl | ⟨a, rfl⟩
  · exact .inr (.inl (by simp))
  · exact .inl (by simp)
  · exact .inr (.inr ⟨-a, by push_cast; rfl⟩)

/-- A difference of whole values is whole. -/
theorem Whole.sub {x y : EReal} (hx : Whole x) (hy : Whole y) : Whole (x - y) := by
  rw [sub_eq_add_neg]
  exact hx.add hy.neg

/-- A whole number of a range. -/
def Byte (x : EReal) : Prop := ∃ n : ℤ, -128 ≤ n ∧ n ≤ 127 ∧ x = ((n : ℝ) : EReal)

/-- Clipping to [-128, 127]. -/
def clip (x : EReal) : EReal := min lim1 (max lim0 x)

/-- A whole value clipped to the range is a whole number of it. -/
theorem clip_byte {x : EReal} (h : Whole x) : Byte (clip x) := by
  unfold clip
  rw [lim0_eq, lim1_eq]
  rcases h with rfl | rfl | ⟨n, rfl⟩
  · exact ⟨-128, by omega, by omega, by rw [max_eq_left bot_le, min_eq_right]; exact_mod_cast (by norm_num : (-128 : ℤ) ≤ 127)⟩
  · exact ⟨127, by omega, by omega, by rw [max_eq_right le_top, min_eq_left le_top]⟩
  · refine ⟨min 127 (max (-128) n), by omega, by omega, ?_⟩
    push_cast
    rfl

/-- The conversion to a whole number of the range's integer, at the widths of at least 8 bits. -/
theorem fptosi_eq (w : ℕ) (h : 8 ≤ w) (n : ℤ) (h0 : -128 ≤ n) (h1 : n ≤ 127) : Ideal.fptosi w ((n : ℝ) : EReal) = BitVec.ofInt w n := by
  have e : (128 : ℤ) ≤ ((2 ^ (w - 1) : ℕ) : ℤ) := by
    exact_mod_cast (Nat.pow_le_pow_right (by norm_num) (by omega : 7 ≤ w - 1) : 2 ^ 7 ≤ 2 ^ (w - 1))
  rw [Ideal.fptosi]
  refine congrArg _ ?_
  show max _ (min _ (if (0 : ℝ) ≤ (n : ℝ) then ⌊(n : ℝ)⌋ else ⌈(n : ℝ)⌉)) = n
  rw [Int.floor_intCast, Int.ceil_intCast, ite_self]
  omega

/-- A whole number of the range goes through a 32-bit integer unchanged. -/
theorem int_32 {x : EReal} (h : Byte x) : ((((Ideal.fptosi 32 x : BitVec 32).toInt : ℤ) : ℝ) : EReal) = x := by
  obtain ⟨n, h0, h1, rfl⟩ := h
  rw [fptosi_eq 32 (by norm_num) n h0 h1, BitVec.toInt_ofInt, Int.bmod_eq_of_le (by norm_num; omega) (by norm_num; omega)]

/-- The 32-bit integer of a whole number of the range cut to 8 bits is its 8-bit integer. -/
theorem int_8 {x : EReal} (h : Byte x) : (Ideal.fptosi 32 x : BitVec 32).truncate 8 = Ideal.fptosi 8 x := by
  obtain ⟨n, h0, h1, rfl⟩ := h
  rw [fptosi_eq 32 (by norm_num) n h0 h1, fptosi_eq 8 (by norm_num) n h0 h1]
  apply BitVec.eq_of_toNat_eq
  simp only [BitVec.truncate_eq_setWidth, BitVec.toNat_setWidth, BitVec.toNat_ofInt]
  omega

/-- The difference of two whole numbers of the range may be taken of their 32-bit integers. -/
theorem int_sub {x y : EReal} (hx : Byte x) (hy : Byte y) :
    ((((Ideal.fptosi 32 x - Ideal.fptosi 32 y : BitVec 32).toInt : ℤ) : ℝ) : EReal) = x - y := by
  obtain ⟨a, a0, a1, rfl⟩ := hx
  obtain ⟨b, b0, b1, rfl⟩ := hy
  rw [fptosi_eq 32 (by norm_num) a a0 a1, fptosi_eq 32 (by norm_num) b b0 b1, BitVec.toInt_sub, BitVec.toInt_ofInt, BitVec.toInt_ofInt,
    Int.bmod_eq_of_le (n := a) (by norm_num; omega) (by norm_num; omega), Int.bmod_eq_of_le (n := b) (by norm_num; omega) (by norm_num; omega),
    Int.bmod_eq_of_le (by norm_num; omega) (by norm_num; omega)]
  push_cast
  rfl

/-- A row of values. -/
abbrev Row := Fin 8192 → EReal

/-- The row's least value, at most 0. -/
def low (v : Row) : EReal := min (Finset.fold min (Ideal.ofBits .f32 0x7F800000#32) v Finset.univ) 0

/-- The row's span: its greatest value, at least 0, less the least. -/
def span (v : Row) : EReal := max (Finset.fold max (Ideal.ofBits .f32 0xFF800000#32) v Finset.univ) 0 - low v

/-- The row's scale: its span in 255 steps, 1 of a row of zeros. -/
def scale (v : Row) : EReal := if span v = 0 then 1 else Ideal.div (span v) (Ideal.ofBits .f32 0x437F0000#32)

/-- The row's zero point. -/
def zero (v : Row) : EReal := clip (lim0 - Ideal.liftRound Ideal.roundHalfEven (Ideal.div (low v) (scale v)))

/-- The row's code of its `k`th value. -/
def code (v : Row) (k : Fin 8192) : EReal := clip (Ideal.liftRound Ideal.roundHalfEven (Ideal.div (v k) (scale v)) + zero v)

/-- The zero point is a whole number of the range. -/
theorem zero_byte (v : Row) : Byte (zero v) :=
  clip_byte (Whole.sub (.inr (.inr ⟨-128, lim0_eq⟩)) (whole_round _))

/-- So is a code. -/
theorem code_byte (v : Row) (k : Fin 8192) : Byte (code v k) := by
  refine clip_byte ((whole_round _).add ?_)
  obtain ⟨n, -, -, e⟩ := zero_byte v
  exact .inr (.inr ⟨n, e⟩)

end Cert.Quant
-- ==== Proof.DownLowBlock.lean ====
/- A grid point of `down_low`: a point of the first phase leaves its 256 rows of the dequantised weight; the quantiser's stores hold
   the codes, row values, centred codes and scales of their rows; a store of 256 columns the residual plus the scaled product. -/
module

public import proofs.«01_k».proof.Proof.DownLowIdealFrame
public import proofs.«01_k».proof.Proof.DownLowQuant
public import proofs.«01_k».proof.Proof.GateUpBlock

@[expose] public section

set_option maxRecDepth 16384

noncomputable section

namespace Cert.DownLowVal

open Idealize.ShloMosaic Idealize.ShloMosaic.TcCoe Idealize.SL.Sem
open Cert.DownLowIdeal Cert.DownLowIdeal.Gen Cert.DownLowIdeal.Hand
open Cert.GateUpVal (cov_ld act_ld)

/-! ## The quantiser -/

theorem bits_eq (b : BitVec 32) : (Scalar.ofBits .f32 b : Ideal .f32) = Ideal.ofBits .f32 b := rfl
theorem lim0_fold : Ideal.ofBits .f32 0xC3000000#32 = Quant.lim0 := by rw [Quant.lim0]
theorem lim1_fold : Ideal.ofBits .f32 0x42FE0000#32 = Quant.lim1 := by rw [Quant.lim1]

/-- Row `p` of a chunk. -/
abbrev rowOf (v : Vec Ideal S8x8192 .f32) (p : Fin 8) : Quant.Row := fun k => v (ix2 p k)

theorem low_at (v : Vec Ideal S8x8192 .f32) (p : Fin 8) : k0_pay16 v (ix2 p 0) = Quant.low (rowOf v p) := by
  unfold Quant.low
  pointwise! [k0_pay16]

theorem scale_at (v : Vec Ideal S8x8192 .f32) (p : Fin 8) : k0_pay17 v (ix2 p 0) = Quant.scale (rowOf v p) := by
  unfold Quant.scale Quant.span
  rw [← low_at]
  pointwise! [k0_pay17]

theorem zero_at (v : Vec Ideal S8x8192 .f32) (p : Fin 8) : k0_pay18 v (ix2 p 0) = Quant.zero (rowOf v p) := by
  unfold Quant.zero Quant.clip
  rw [← low_at, ← scale_at]
  unfold k0_pay18
  rw [bits_eq, bits_eq, lim0_fold, lim1_fold]
  generalize Quant.lim0 = a
  generalize Quant.lim1 = b
  pointwise! []

theorem code_at (v : Vec Ideal S8x8192 .f32) (p : Fin 8) (l : Fin 8192) : k0_pay19 v (ix2 p l) = Quant.code (rowOf v p) l := by
  unfold Quant.code Quant.clip
  rw [← zero_at, ← scale_at]
  unfold k0_pay19
  rw [bits_eq, bits_eq, lim0_fold, lim1_fold]
  generalize Quant.lim0 = a
  generalize Quant.lim1 = b
  pointwise! []

/-- The codes of a chunk at an index. -/
theorem qCodes_at (v : Vec Ideal S8x8192 .f32) (p : Fin 8) (l : Fin 8192) : qCodes v (ix2 p l) = Ideal.fptosi 8 (Quant.code (rowOf v p) l) := by
  rw [← code_at, qCodes, k0_pay20]
  generalize k0_pay19 v = x
  pointwise! []

/-- The centred codes of a chunk at an index. -/
theorem qAct_at (v : Vec Ideal S8x8192 .f32) (p : Fin 8) (l : Fin 8192) :
    qAct v (ix2 p l) = Quant.code (rowOf v p) l - Quant.zero (rowOf v p) := by
  rw [← code_at, ← zero_at, qAct]
  generalize k0_pay19 v = x
  generalize k0_pay18 v = y
  pointwise! [k0_pay25]

/-- The scale of a chunk at an index. -/
theorem qScale_at (v : Vec Ideal S8x8192 .f32) (p : Fin 8) (l : Fin 128) : qScale v (ix2 p l) = Quant.scale (rowOf v p) := by
  rw [← scale_at, qScale]
  generalize k0_pay17 v = x
  pointwise! [k0_pay26]

/-- The row values of a chunk at an index: the scale in lane 0, the zero point in the others. -/
theorem qAux_at (v : Vec Ideal S8x8192 .f32) (p : Fin 8) (l : Fin 128) :
    qAux v (ix2 p l) = if (l : ℕ) = 0 then Quant.scale (rowOf v p) else Quant.zero (rowOf v p) := by
  rw [← scale_at, ← zero_at, qAux, k0_pay22, k0_pay23]
  generalize k0_pay17 v = x
  generalize k0_pay18 v = y
  have e : (IntOp.cmpi .eq (BitVec.ofNat 32 (l : ℕ)) 0#32) = BitVec.ofBool (decide ((l : ℕ) = 0)) := by
    revert l; decide +kernel
  pointwise! [k0_pay24, k0_pay21]
  rw [e]
  by_cases h : (l : ℕ) = 0
  · rw [if_pos h, decide_eq_true h]; rfl
  · rw [if_neg h, decide_eq_false h]; rfl

/-- Row `p` of a block of rows. -/
abbrev rowIn (x0 : Vec Ideal S256x8192 .f32) (p : Fin 256) : Quant.Row := fun k => x0 (ix2 p k)

theorem chunk_row (x0 : Vec Ideal S256x8192 .f32) (p : Fin 256) :
    rowOf (chunkOf x0 p.val p.isLt) ⟨p.val % 8, Nat.mod_lt _ (by decide)⟩ = rowIn x0 p := by
  funext k
  exact View.ld_unit_apply_of x0 _ _ (row_inb _) _ _ fun a => by match a with
    | ⟨0, _⟩ => show p.val = 8 * (p.val / 8) + p.val % 8; omega
    | ⟨1, _⟩ => exact (Nat.zero_add _).symm

theorem codes_at (x0 : Vec Ideal S256x8192 .f32) (p : Fin 256) (l : Fin 8192) :
    rowsOf x0 qCodes (ix2 p l) = Ideal.fptosi 8 (Quant.code (rowIn x0 p) l) :=
  (qCodes_at (chunkOf x0 p.val p.isLt) ⟨p.val % 8, Nat.mod_lt _ (by decide)⟩ l).trans (by rw [chunk_row])

theorem act_at (x0 : Vec Ideal S256x8192 .f32) (p : Fin 256) (l : Fin 8192) :
    rowsOf x0 qAct (ix2 p l) = Quant.code (rowIn x0 p) l - Quant.zero (rowIn x0 p) :=
  (qAct_at (chunkOf x0 p.val p.isLt) ⟨p.val % 8, Nat.mod_lt _ (by decide)⟩ l).trans (by rw [chunk_row])

theorem scl_at (x0 : Vec Ideal S256x8192 .f32) (p : Fin 256) (l : Fin 128) :
    lanesOf x0 qScale (ix2 p l) = Quant.scale (rowIn x0 p) :=
  (qScale_at (chunkOf x0 p.val p.isLt) ⟨p.val % 8, Nat.mod_lt _ (by decide)⟩ l).trans (by rw [chunk_row])

theorem aux_at (x0 : Vec Ideal S256x8192 .f32) (p : Fin 256) (l : Fin 128) :
    lanesOf x0 qAux (ix2 p l) = if (l : ℕ) = 0 then Quant.scale (rowIn x0 p) else Quant.zero (rowIn x0 p) :=
  (qAux_at (chunkOf x0 p.val p.isLt) ⟨p.val % 8, Nat.mod_lt _ (by decide)⟩ l).trans (by rw [chunk_row])

/-! ## The product -/

theorem tilePay_at (s : Vec Ideal S256x128 .f32) (a : Vec Ideal S256x8192 .bf16) (w : Vec Ideal S8192x256 .bf16) (h : Vec Ideal S256x256 .f32) (p : Fin 256) (l : Fin 256) :
    tilePay s a w h (ix2 p l) = h (ix2 p l) + (∑ k : Fin 8192, a (ix2 p k) * w (ix2 k l)) * s (ix2 p ⟨(l : ℕ) % 128, Nat.mod_lt _ (by decide)⟩) := by
  by_cases hl : (l : ℕ) < 128
  · have e : (⟨(l : ℕ) % 128, Nat.mod_lt _ (by decide)⟩ : Fin 128) = ⟨(l : ℕ), hl⟩ := Fin.ext (Nat.mod_eq_of_lt hl)
    rw [e]
    pointwise! [tilePay, k0_pay2]
    rw [dif_pos hl]
  · have e : (⟨(l : ℕ) % 128, Nat.mod_lt _ (by decide)⟩ : Fin 128) = ⟨(l : ℕ) - 128, by omega⟩ := Fin.ext (by show (l : ℕ) % 128 = (l : ℕ) - 128; omega)
    rw [e]
    pointwise! [tilePay, k0_pay2]
    rw [dif_neg hl]

/-- A block of the result at an index, of scales that are the same in every lane. -/
theorem cols_at (h : Vec Ideal S256x1536 .f32) (w : Vec Ideal S8192x1536 .bf16) (a : Vec Ideal S256x8192 .bf16) (s : Vec Ideal S256x128 .f32) (p : Fin 256) (l : Fin 1536)
    (z : EReal) (hz : ∀ k : Fin 128, s (ix2 p k) = z) :
    colsOf h w a s (ix2 p l) = h (ix2 p l) + (∑ k : Fin 8192, a (ix2 p k) * w (ix2 k l)) * z := by
  have e : colsOf h w a s (ix2 p l) = tilePay (View.ld s allLane) (View.ld a allRect) (View.ld w (wcolRect ⟨(l : ℕ) / 256, by omega⟩)) (View.ld h (colRect ⟨(l : ℕ) / 256, by omega⟩))
      (ix2 p ⟨(l : ℕ) % 256, Nat.mod_lt _ (by decide)⟩) := rfl
  rw [e, tilePay_at]
  have hs : ∀ k : Fin 128, View.ld s allLane (ix2 p k) = z := fun k => (View.ld_unit_apply_of s _ _ _ _ (ix2 p k) fun a => by match a with
    | ⟨0, _⟩ => exact (Nat.zero_add _).symm
    | ⟨1, _⟩ => exact (Nat.zero_add _).symm).trans (hz k)
  have ha : ∀ k : Fin 8192, View.ld a allRect (ix2 p k) = a (ix2 p k) := fun k => View.ld_unit_apply_of a _ _ _ _ (ix2 p k) fun b => by match b with
    | ⟨0, _⟩ => exact (Nat.zero_add _).symm
    | ⟨1, _⟩ => exact (Nat.zero_add _).symm
  have hw : ∀ k : Fin 8192, View.ld w (wcolRect ⟨(l : ℕ) / 256, by omega⟩) (ix2 k ⟨(l : ℕ) % 256, Nat.mod_lt _ (by decide)⟩) = w (ix2 k l) := fun k =>
    View.ld_unit_apply_of w _ _ (wcol_inb _) _ (ix2 k l) fun b => by match b with
    | ⟨0, _⟩ => exact (Nat.zero_add _).symm
    | ⟨1, _⟩ => show (l : ℕ) = 256 * ((l : ℕ) / 256) + (l : ℕ) % 256; omega
  have hh : View.ld h (colRect ⟨(l : ℕ) / 256, by omega⟩) (ix2 p ⟨(l : ℕ) % 256, Nat.mod_lt _ (by decide)⟩) = h (ix2 p l) :=
    View.ld_unit_apply_of h _ _ (col_inb _) _ (ix2 p l) fun b => by match b with
    | ⟨0, _⟩ => exact (Nat.zero_add _).symm
    | ⟨1, _⟩ => show (l : ℕ) = 256 * ((l : ℕ) / 256) + (l : ℕ) % 256; omega
  rw [hs, hh]
  simp only [ha, hw]

/-! ## The weight -/

/-- What a group's store of the weight holds. -/
def wPay (s : Vec Ideal S1x1536 .f32) (q : Vec Ideal S32x1536 .i8) : Vec Ideal S32x1536 .bf16 := k0_pay3 q s

/-- A group's store at an index: the signed low nibble times the group's scale. -/
theorem wPay_at (s : Vec Ideal S1x1536 .f32) (q : Vec Ideal S32x1536 .i8) (p : Fin 32) (l : Fin 1536) :
    wPay s q (ix2 p l) = Int4.low (q (ix2 p l)) * s (ix2 0 l) := by
  have hw := Int4.low_word q bitcasts_S32x1536_w8_S8x1536_w32 bitcasts_S8x1536_w32_S32x1536_w8 p l (by omega)
  pointwise [wPay, k0_pay3]
  rw [← Int4.low_eq]
  exact congrArg (fun b : BitVec 8 => ((((b.toInt : ℝ) : EReal) - Ideal.ofBits .bf16 0x4100#16) * s (ix2 0 l))) hw

/-! The eight stores' payloads are this one, cut differently by the printer. -/
theorem w3_eq (s : Vec Ideal S1x1536 .f32) (q : Vec Ideal S32x1536 .i8) : k0_pay3 q s = wPay s q := rfl
theorem w5_eq (s : Vec Ideal S1x1536 .f32) (q : Vec Ideal S32x1536 .i8) : k0_pay5 (k0_pay4 q s) = wPay s q := rfl
theorem w6_eq (s : Vec Ideal S1x1536 .f32) (q : Vec Ideal S32x1536 .i8) : k0_pay6 q s = wPay s q := rfl
theorem w9_eq (s : Vec Ideal S1x1536 .f32) (q : Vec Ideal S32x1536 .i8) : k0_pay9 (k0_pay7 q) (k0_pay8 s) = wPay s q := rfl
theorem w10_eq (s : Vec Ideal S1x1536 .f32) (q : Vec Ideal S32x1536 .i8) : k0_pay10 q s = wPay s q := rfl
theorem w12_eq (s : Vec Ideal S1x1536 .f32) (q : Vec Ideal S32x1536 .i8) : k0_pay12 (k0_pay11 q) s = wPay s q := rfl
theorem w13_eq (s : Vec Ideal S1x1536 .f32) (q : Vec Ideal S32x1536 .i8) : k0_pay13 q s = wPay s q := rfl
theorem w938_eq (s : Vec Ideal S1x1536 .f32) (q : Vec Ideal S32x1536 .i8) : k0_pay938 (k0_pay14 q) k0_pay15 s = wPay s q := rfl

/-- The rows of point `i`'s slice: the weight at row `y 0` of the scratch, from the row `y 0 - 256 i` of the point's block. -/
def slice (i : ℕ) (x2 : Vec Ideal S256x1536 .i8) (x3 : Vec Ideal S8x1536 .f32) : Vec Ideal S8192x1536 .bf16 := fun y =>
  Int4.low (x2 (ix2 ⟨(y 0 : ℕ) % 256, Nat.mod_lt _ (by decide)⟩ ⟨y 1, (y 1).isLt⟩))
    * x3 (ix2 ⟨(y 0 : ℕ) % 256 / 32, by have := Nat.mod_lt (y 0 : ℕ) (show 256 > 0 by decide); omega⟩ ⟨y 1, (y 1).isLt⟩)

/-- Store `r` of point `i` agrees with the slice wherever it lies. -/
theorem w_tile (i : grid0.Coords) (r : Fin 8) (x2 : Vec Ideal S256x1536 .i8) (x3 : Vec Ideal S8x1536 .f32) (w : BitVec 32)
    (hw : w = BitVec.ofNat 32 (32 * r.val)) (o o' : ℕ) (ho : o = r.val) (ho' : o' = 32 * r.val) (y : S8192x1536.Idx)
    (hs : ∀ a, (![o, 0] : Fin 2 → ℕ) a + S1x1536.size a ≤ S8x1536.size a) (hq : ∀ a, (![o', 0] : Fin 2 → ℕ) a + S32x1536.size a ≤ S256x1536.size a) :
    View.TileAt y (k0_off1 i w) ![32, 1536]
      (wPay (View.ld x3 (Rect.unit (s := S8x1536) ![o, 0] S1x1536.size hs)) (View.ld x2 (Rect.unit (s := S256x1536) ![o', 0] S32x1536.size hq)))
      (slice (i 0).val x2 x3 y) := by
  intro x hx
  subst hw ho ho'
  have y0 := hx 0
  have y1 := hx 1
  rw [k0_off1_eq] at y0 y1
  simp only [Matrix.cons_val_zero, Matrix.cons_val_one] at y0 y1
  have b0 : (x 0 : ℕ) < 32 := (x 0).isLt
  have b1 : (x 1 : ℕ) < 1536 := (x 1).isLt
  have ex : x = ix2 (n0 := 32) (n1 := 1536) ⟨x 0, b0⟩ ⟨x 1, b1⟩ := eq_ix2 x
  rw [ex, wPay_at, slice]
  refine Ideal.mul_congr (congrArg Int4.low (View.ld_unit_apply_of x2 _ _ hq _ _ fun a => ?_)) (View.ld_unit_apply_of x3 _ _ hs _ _ fun a => ?_)
  · match a with
    | ⟨0, _⟩ => show (y 0 : ℕ) % 256 = 32 * r.val + (x 0 : ℕ); omega
    | ⟨1, _⟩ => exact y1
  · match a with
    | ⟨0, _⟩ => show (y 0 : ℕ) % 256 / 32 = r.val + 0; omega
    | ⟨1, _⟩ => exact y1

/-- What a point of the first phase leaves in its own rows of the scratch. -/
theorem filled (c : Dev nD) (i : grid0.Coords) (arg1 : Memref sig .tc .vmem S256x8192 .f32) (harg1 : arg1.IsWhole) (arg2 : Memref sig .tc .vmem S256x1536 .f32) (harg2 : arg2.IsWhole) (arg3 : Memref sig .tc .vmem S256x1536 .i8) (harg3 : arg3.IsWhole) (arg4 : Memref sig .tc .vmem S8x1536 .f32) (harg4 : arg4.IsWhole) (arg5 : Memref sig .tc .vmem S256x8192 .i8) (harg5 : arg5.IsWhole) (arg6 : Memref sig .tc .vmem S256x128 .f32) (harg6 : arg6.IsWhole) (arg7 : Memref sig .tc .vmem S256x1536 .bf16) (harg7 : arg7.IsWhole) (arg8 : Memref sig .tc .vmem S8192x1536 .bf16) (harg8 : arg8.IsWhole) (arg9 : Memref sig .tc .vmem S256x8192 .bf16) (harg9 : arg9.IsWhole) (arg10 : Memref sig .tc .vmem S256x8192 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : ¬cond0_1 i) (hc2 : ¬cond0_2 i) (hc3 : ¬cond0_3 i)
    (x0 : Vec Ideal S256x8192 .f32) (x1 : Vec Ideal S256x1536 .f32) (x2 : Vec Ideal S256x1536 .i8) (x3 : Vec Ideal S8x1536 .f32) (xs0 : Vec Ideal S8192x1536 .bf16) (y : S8192x1536.Idx) (hy : (y 0).val / 256 = (i 0).val) :
    VS0_0.read (Elt Ideal) (VS0_0.writes (Elt Ideal) ((show scM0_0.IsWhole from Memref.isWhole_whole _).unread xs0) (kernelRun0_A (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3).1) y = slice (i 0).val x2 x3 y := by
  have hcov := stores_hit (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 y hy
  rw [View.read_writes_apply_eq _ _ VS0_0 VS0_0.junk y _ hcov, View.read_writes_junk_eq_canon]
  refine View.canon_eq_of_allAt _ _ _ hcov ?_
  clear hcov
  unfold kernelRun0_A
  dsimp only
  unfold kernelRun0_A.sl.r kernelRun0_A.sl.r_1 kernelRun0_A.sl.r_2 kernelRun0_A.sl.r_3 kernelRun0_A.sl.r_4 kernelRun0_A.sl.r_5
  dsimp only
  simp only [act_ld]
  rw [w938_eq, w13_eq, w12_eq, w10_eq, w9_eq, w6_eq, w5_eq, w3_eq]
  refine View.allAt_cons_unit _ _ _ _ _ (w_tile i 7 x2 x3 224#32 rfl 7 224 rfl rfl y _ _) ?_
  refine View.allAt_cons_unit _ _ _ _ _ (w_tile i 6 x2 x3 192#32 rfl 6 192 rfl rfl y _ _) ?_
  refine View.allAt_cons_unit _ _ _ _ _ (w_tile i 5 x2 x3 160#32 rfl 5 160 rfl rfl y _ _) ?_
  refine View.allAt_cons_unit _ _ _ _ _ (w_tile i 4 x2 x3 128#32 rfl 4 128 rfl rfl y _ _) ?_
  refine View.allAt_cons_unit _ _ _ _ _ (w_tile i 3 x2 x3 96#32 rfl 3 96 rfl rfl y _ _) ?_
  refine View.allAt_cons_unit _ _ _ _ _ (w_tile i 2 x2 x3 64#32 rfl 2 64 rfl rfl y _ _) ?_
  refine View.allAt_cons_unit _ _ _ _ _ (w_tile i 1 x2 x3 32#32 rfl 1 32 rfl rfl y _ _) ?_
  refine View.allAt_cons_unit _ _ _ _ _ (w_tile i 0 x2 x3 0#32 rfl 0 0 rfl rfl y _ _) ?_
  exact View.allAt_nil _ _

end Cert.DownLowVal
-- ==== Proof.DownLowRef.lean ====
/- The reference of `down_low` at an index: the codes and row values of the quantised activations, and the residual plus the product
   of the centred codes with the signed low nibbles times their groups' scales in the left half of the third result. -/
module

public import proofs.«01_k».proof.Proof.Gen.DownLowRefIdeal.Run
public import proofs.«01_k».proof.Proof.DownLowQuant
public import proofs.«01_k».proof.Proof.GateUpRef

@[expose] public section

set_option maxRecDepth 16384

noncomputable section

namespace Cert.DownLowRefVal

open Idealize.ShloMosaic Idealize.ShloMosaic.TcCoe Idealize.SL.Sem
open Cert.DownLowRefIdeal Cert.DownLowRefIdeal.Gen

/-- Row `r` of the activations. -/
abbrev rowIn (x : Vec Ideal S12288x8192 .f32) (r : Fin 12288) : Quant.Row := fun k => x (ix2 r k)

/-- The row values at row `r`: the scale in lane 0, the zero point in the others. -/
def auxAt (x : Vec Ideal S12288x8192 .f32) (r : Fin 12288) (l : Fin 128) : EReal :=
  if (l : ℕ) = 0 then Quant.scale (rowIn x r) else Quant.zero (rowIn x r)

/-- The residual plus the scaled product at row `r`, column `l` of the left half. -/
def downLow (x : Vec Ideal S12288x8192 .f32) (h1 : Vec Ideal S12288x3072 .f32) (wq : Vec Ideal S8192x1536 .i8) (ws : Vec Ideal S256x3072 .f32)
    (r : Fin 12288) (l : Fin 1536) : EReal :=
  h1 (ix2 r ⟨(l : ℕ), by omega⟩) + (∑ k : Fin 8192, (Quant.code (rowIn x r) k - Quant.zero (rowIn x r))
    * (Int4.low (wq (ix2 k l)) * ws (ix2 ⟨(k : ℕ) / 32, by omega⟩ ⟨(l : ℕ), by omega⟩))) * Quant.scale (rowIn x r)

/-! ## The reference's terms -/

/-- The rows' least values. -/
def lowV (x : FVec Ideal S12288x8192 .f32) : FVec Ideal S12288 .f32 :=
  (minimumf (Host.reduce FloatOps.minimumf x (constant S_ .f32 0x7F800000#32) reducesTo_S12288x8192_S12288_d1 h_S_) (broadcastInDim S12288 ![] bcast_S_S12288 (constant S_ .f32 0x00000000#32)))

/-- The rows' spans. -/
def spanV (x : FVec Ideal S12288x8192 .f32) : FVec Ideal S12288 .f32 :=
  (subf (maximumf (Host.reduce FloatOps.maximumf x (constant S_ .f32 0xFF800000#32) reducesTo_S12288x8192_S12288_d1 h_S_) (broadcastInDim S12288 ![] bcast_S_S12288 (constant S_ .f32 0x00000000#32))) (lowV x))

/-- The rows' scales. -/
def scaleV (x : FVec Ideal S12288x8192 .f32) : FVec Ideal S12288 .f32 :=
  (select (cmpf .oeq (spanV x) (broadcastInDim S12288 ![] bcast_S_S12288 (constant S_ .f32 0x00000000#32))) (broadcastInDim S12288 ![] bcast_S_S12288 (id (constant S_ .f32 0x3F800000#32))) (Host.divf (spanV x) (broadcastInDim S12288 ![] bcast_S_S12288 (constant S_ .f32 0x437F0000#32))))

/-- The rows' zero points, before they are made integers. -/
def zeroV (x : FVec Ideal S12288x8192 .f32) : FVec Ideal S12288 .f32 :=
  (minimumf (broadcastInDim S12288 ![] bcast_S_S12288 (id (constant S_ .f32 0x42FE0000#32))) (maximumf (broadcastInDim S12288 ![] bcast_S_S12288 (id (constant S_ .f32 0xC3000000#32))) (subf (broadcastInDim S12288 ![] bcast_S_S12288 (constant S_ .f32 0xC3000000#32)) (Host.roundeven (Host.divf (lowV x) (scaleV x))))))

/-- The zero points as integers. -/
def zeroI (x : FVec Ideal S12288x8192 .f32) : IVec S12288 32 := fptosi 32 (zeroV x)

/-- The codes, before they are made integers. -/
def codeV (x : FVec Ideal S12288x8192 .f32) : FVec Ideal S12288x8192 .f32 :=
  (minimumf (broadcastInDim S12288x8192 ![] bcast_S_S12288x8192 (id (constant S_ .f32 0x42FE0000#32))) (maximumf (broadcastInDim S12288x8192 ![] bcast_S_S12288x8192 (id (constant S_ .f32 0xC3000000#32))) (addf (Host.roundeven (Host.divf x (broadcastInDim S12288x8192 ![0, 1] bcast_S12288x1_S12288x8192_0_1 (broadcastInDim S12288x1 ![0] bcast_S12288_S12288x1_0 (scaleV x))))) (broadcastInDim S12288x8192 ![0, 1] bcast_S12288x1_S12288x8192_0_1 (sitofp .f32 (broadcastInDim S12288x1 ![0] bcast_S12288_S12288x1_0 (zeroI x)))))))

/-- The codes as integers. -/
def codeI (x : FVec Ideal S12288x8192 .f32) : IVec S12288x8192 32 := fptosi 32 (codeV x)

/-- The first result: the codes in 8 bits. -/
def resCodes (x : FVec Ideal S12288x8192 .f32) : IVec S12288x8192 8 := trunci 8 (codeI x) natLt_8_32

/-- The second result: the row values. -/
def resAux (x : FVec Ideal S12288x8192 .f32) : FVec Ideal S12288x128 .f32 :=
  concatenate S12288x128 1 [⟨S12288x1, (broadcastInDim S12288x1 ![0] bcast_S12288_S12288x1_0 (scaleV x))⟩, ⟨S12288x127, (shapeCast _ (broadcastInDim S12288x1x127 ![0, 1] bcast_S12288x1_S12288x1x127_0_1 (broadcastInDim S12288x1 ![0] bcast_S12288_S12288x1_0 (sitofp .f32 (zeroI x)))) shapeCasts_S12288x1x127_S12288x127)⟩] concatenates_S12288x1_S12288x127_S12288x128_d1

/-- The left half of the third result. -/
def left (x : FVec Ideal S12288x8192 .f32) (h1 : FVec Ideal S12288x3072 .f32) (wq : IVec S8192x1536 8) (ws : FVec Ideal S256x3072 .f32) : FVec Ideal S12288x1536 .bf16 :=
  (truncf .bf16 (addf (extractStridedSlice S12288x1536 ![0, 0] h1 slices_S12288x3072_S12288x1536_0_0) (mulf (Host.dotGeneral dot_S12288x8192_S8192x1536_S12288x1536_1_0_0_1_n_n none (sitofp .bf16 (subi (codeI x) (broadcastInDim S12288x8192 ![0, 1] bcast_S12288x1_S12288x8192_0_1 (broadcastInDim S12288x1 ![0] bcast_S12288_S12288x1_0 (zeroI x))))) (mulf (sitofp .bf16 (select (cmpi .sge (andi (extui 32 wq natLt_8_32) (broadcastInDim S8192x1536 ![] bcast_S_S8192x1536 (constantI S_ 32 15#32))) (broadcastInDim S8192x1536 ![] bcast_S_S8192x1536 (constantI S_ 32 8#32))) (subi (andi (extui 32 wq natLt_8_32) (broadcastInDim S8192x1536 ![] bcast_S_S8192x1536 (constantI S_ 32 15#32))) (broadcastInDim S8192x1536 ![] bcast_S_S8192x1536 (constantI S_ 32 16#32))) (andi (extui 32 wq natLt_8_32) (broadcastInDim S8192x1536 ![] bcast_S_S8192x1536 (constantI S_ 32 15#32))))) (truncf .bf16 (shapeCast _ (broadcastInDim S256x32x1536 ![0, 2] bcast_S256x1536_S256x32x1536_0_2 (extractStridedSlice S256x1536 ![0, 0] ws slices_S256x3072_S256x1536_0_0)) shapeCasts_S256x32x1536_S8192x1536) bitsLt_bf16_f32))) (broadcastInDim S12288x1536 ![0, 1] bcast_S12288x1_S12288x1536_0_1 (broadcastInDim S12288x1 ![0] bcast_S12288_S12288x1_0 (scaleV x))))) bitsLt_bf16_f32)

/-- The third result. -/
def resOut (x : FVec Ideal S12288x8192 .f32) (h1 : FVec Ideal S12288x3072 .f32) (wq : IVec S8192x1536 8) (ws : FVec Ideal S256x3072 .f32) : FVec Ideal S12288x3072 .bf16 :=
  concatenate S12288x3072 1 [⟨S12288x1536, left x h1 wq ws⟩, ⟨S12288x1536, (broadcastInDim S12288x1536 ![] bcast_S_S12288x1536 (constant S_ .bf16 0x0000#16))⟩] concatenates_S12288x1536_S12288x1536_S12288x3072_d1

/-- The run's third result is `resOut` of the arguments. -/
theorem out_eq (m : (ℓ : Loc nD τ sig) → Buf (Elt Ideal) ℓ) (c : Dev nD) :
    Cert.DownLowRefIdeal.Value.res_main_v61 m c = resOut (m ((c.tc : Thread nD τ).loc main_arg0)) (m ((c.tc : Thread nD τ).loc main_arg1)) (m ((c.tc : Thread nD τ).loc main_arg2)) (m ((c.tc : Thread nD τ).loc main_arg3)) := by
  unfold Cert.DownLowRefIdeal.Value.res_main_v61 resOut left codeI codeV zeroI zeroV scaleV spanV lowV
  rfl

/-- The run, with its results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v59) = resCodes (m ((c.tc : Thread nD τ).loc main_arg0))
      ∧ r.2.mem ((c.tc : Thread nD τ).loc main_v33) = resAux (m ((c.tc : Thread nD τ).loc main_arg0))
      ∧ r.2.mem ((c.tc : Thread nD τ).loc main_v61) = resOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold resCodes resAux codeI codeV zeroI zeroV scaleV spanV lowV
  simp only [← out_eq]
  exact Cert.DownLowRefIdeal.Value.run m ρ

/-! ## The terms at an index -/

theorem const_at (b : BitVec 32) (i : S_.Idx) : (constant S_ .f32 b : FVec Ideal S_ .f32) i = Ideal.ofBits .f32 b := rfl
theorem lim0_at (i : S_.Idx) : (constant S_ .f32 0xC3000000#32 : FVec Ideal S_ .f32) i = Quant.lim0 := by
  rw [Quant.lim0, const_at]
theorem lim1_at (i : S_.Idx) : (constant S_ .f32 0x42FE0000#32 : FVec Ideal S_ .f32) i = Quant.lim1 := by
  rw [Quant.lim1, const_at]
theorem nil_at (i : S_.Idx) : (constant S_ .f32 0x00000000#32 : FVec Ideal S_ .f32) i = 0 := by
  rw [const_at, Ideal.ofBits_zero_f32]
theorem one_at (i : S_.Idx) : (constant S_ .f32 0x3F800000#32 : FVec Ideal S_ .f32) i = 1 := by
  rw [const_at, Ideal.ofBits_one_f32]

/-- The least of a row's values, in a `stablehlo.reduce`. -/
theorem least_at (x : FVec Ideal S12288x8192 .f32) (r : Fin 12288) :
    (Host.reduce FloatOps.minimumf x (constant S_ .f32 0x7F800000#32) reducesTo_S12288x8192_S12288_d1 h_S_) (ix1 r)
      = Finset.fold min (Ideal.ofBits .f32 0x7F800000#32) (fun k : Fin 8192 => x (ix2 r k)) Finset.univ := by
  pointwise []

/-- The greatest of a row's values. -/
theorem greatest_at (x : FVec Ideal S12288x8192 .f32) (r : Fin 12288) :
    (Host.reduce FloatOps.maximumf x (constant S_ .f32 0xFF800000#32) reducesTo_S12288x8192_S12288_d1 h_S_) (ix1 r)
      = Finset.fold max (Ideal.ofBits .f32 0xFF800000#32) (fun k : Fin 8192 => x (ix2 r k)) Finset.univ := by
  pointwise []

theorem low_of (y : FVec Ideal S12288 .f32) (n : FVec Ideal S_ .f32) (hn : ∀ i, n i = 0) (r : Fin 12288) :
    minimumf y (broadcastInDim S12288 ![] bcast_S_S12288 n) (ix1 r) = min (y (ix1 r)) 0 := by
  pointwise [hn]

theorem lowV_at (x : FVec Ideal S12288x8192 .f32) (r : Fin 12288) : lowV x (ix1 r) = Quant.low (rowIn x r) := by
  unfold Quant.low lowV
  rw [← least_at]
  exact low_of _ _ nil_at r

theorem span_of (y z : FVec Ideal S12288 .f32) (n : FVec Ideal S_ .f32) (hn : ∀ i, n i = 0) (r : Fin 12288) :
    subf (maximumf y (broadcastInDim S12288 ![] bcast_S_S12288 n)) z (ix1 r) = max (y (ix1 r)) 0 - z (ix1 r) := by
  pointwise [hn]

theorem spanV_at (x : FVec Ideal S12288x8192 .f32) (r : Fin 12288) : spanV x (ix1 r) = Quant.span (rowIn x r) := by
  unfold Quant.span spanV
  rw [← lowV_at, ← greatest_at]
  exact span_of _ _ _ nil_at r

theorem scale_of (y : FVec Ideal S12288 .f32) (n o d : FVec Ideal S_ .f32) (e : EReal) (hn : ∀ i, n i = 0) (ho : ∀ i, o i = 1) (hd : ∀ i, d i = e) (r : Fin 12288) :
    (select (cmpf .oeq y (broadcastInDim S12288 ![] bcast_S_S12288 n)) (broadcastInDim S12288 ![] bcast_S_S12288 (id o)) (Host.divf y (broadcastInDim S12288 ![] bcast_S_S12288 d)) : FVec Ideal S12288 .f32) (ix1 r)
      = if y (ix1 r) = 0 then 1 else Ideal.div (y (ix1 r)) e := by
  pointwise [hn, ho, hd, id_eq]

theorem scaleV_at (x : FVec Ideal S12288x8192 .f32) (r : Fin 12288) : scaleV x (ix1 r) = Quant.scale (rowIn x r) := by
  unfold Quant.scale scaleV
  rw [← spanV_at]
  exact scale_of _ _ _ _ _ nil_at one_at (const_at _) r

theorem zero_of (y z : FVec Ideal S12288 .f32) (a b : FVec Ideal S_ .f32) (u v : EReal) (h0 : ∀ i, a i = u) (h1 : ∀ i, b i = v) (r : Fin 12288) :
    minimumf (broadcastInDim S12288 ![] bcast_S_S12288 (id b)) (maximumf (broadcastInDim S12288 ![] bcast_S_S12288 (id a)) (subf (broadcastInDim S12288 ![] bcast_S_S12288 a) (Host.roundeven (Host.divf y z)))) (ix1 r)
      = min v (max u (u - Ideal.liftRound Ideal.roundHalfEven (Ideal.div (y (ix1 r)) (z (ix1 r))))) := by
  pointwise [h0, h1, id_eq]

theorem zeroV_at (x : FVec Ideal S12288x8192 .f32) (r : Fin 12288) : zeroV x (ix1 r) = Quant.zero (rowIn x r) := by
  unfold Quant.zero Quant.clip zeroV
  rw [← lowV_at, ← scaleV_at]
  exact zero_of _ _ _ _ _ _ lim0_at lim1_at r

theorem zeroI_at (x : FVec Ideal S12288x8192 .f32) (r : Fin 12288) : zeroI x (ix1 r) = Ideal.fptosi 32 (Quant.zero (rowIn x r)) := by
  rw [← zeroV_at, zeroI]
  generalize zeroV x = y
  pointwise []
  rfl

theorem zero_int (x : FVec Ideal S12288x8192 .f32) (r : Fin 12288) : (FloatOps.sitofp .f32 (zeroI x (ix1 r)) : Ideal .f32) = Quant.zero (rowIn x r) := by
  rw [zeroI_at]
  exact Quant.int_32 (Quant.zero_byte _)

theorem code_of (x : FVec Ideal S12288x8192 .f32) (y : IVec S12288 32) (z : FVec Ideal S12288 .f32) (a b : FVec Ideal S_ .f32) (u v : EReal) (h0 : ∀ i, a i = u) (h1 : ∀ i, b i = v)
    (r : Fin 12288) (k : Fin 8192) :
    minimumf (broadcastInDim S12288x8192 ![] bcast_S_S12288x8192 (id b)) (maximumf (broadcastInDim S12288x8192 ![] bcast_S_S12288x8192 (id a)) (addf (Host.roundeven (Host.divf x (broadcastInDim S12288x8192 ![0, 1] bcast_S12288x1_S12288x8192_0_1 (broadcastInDim S12288x1 ![0] bcast_S12288_S12288x1_0 z)))) (broadcastInDim S12288x8192 ![0, 1] bcast_S12288x1_S12288x8192_0_1 (sitofp .f32 (broadcastInDim S12288x1 ![0] bcast_S12288_S12288x1_0 y))))) (ix2 r k)
      = min v (max u (Ideal.liftRound Ideal.roundHalfEven (Ideal.div (x (ix2 r k)) (z (ix1 r))) + FloatOps.sitofp (F := Ideal) .f32 (y (ix1 r)))) := by
  pointwise [h0, h1, id_eq]

theorem codeV_at (x : FVec Ideal S12288x8192 .f32) (r : Fin 12288) (k : Fin 8192) : codeV x (ix2 r k) = Quant.code (rowIn x r) k := by
  unfold Quant.code Quant.clip codeV
  rw [← scaleV_at, ← zero_int]
  exact code_of _ _ _ _ _ _ _ lim0_at lim1_at r k

theorem codeI_at (x : FVec Ideal S12288x8192 .f32) (r : Fin 12288) (k : Fin 8192) : codeI x (ix2 r k) = Ideal.fptosi 32 (Quant.code (rowIn x r) k) := by
  rw [← codeV_at, codeI]
  generalize codeV x = y
  pointwise []
  rfl

/-- The first result at an index. -/
theorem resCodes_at (x : FVec Ideal S12288x8192 .f32) (r : Fin 12288) (k : Fin 8192) : resCodes x (ix2 r k) = Ideal.fptosi 8 (Quant.code (rowIn x r) k) := by
  rw [← Quant.int_8 (Quant.code_byte _ _), ← codeI_at, resCodes]
  generalize codeI x = y
  pointwise []

/-- The second result at an index. -/
theorem resAux_at (x : FVec Ideal S12288x8192 .f32) (r : Fin 12288) (l : Fin 128) : resAux x (ix2 r l) = auxAt x r l := by
  unfold auxAt
  rw [← scaleV_at, ← zero_int, resAux]
  generalize scaleV x = y
  generalize zeroI x = z
  by_cases h : (l : ℕ) = 0
  · rw [if_pos h]
    obtain rfl : l = 0 := Fin.ext h
    pointwise []
  · rw [if_neg h]
    pointwise []
    rw [dif_neg (by omega)]

/-- The left half of the third result at an index. -/
theorem left_at (x : FVec Ideal S12288x8192 .f32) (h1 : FVec Ideal S12288x3072 .f32) (wq : IVec S8192x1536 8) (ws : FVec Ideal S256x3072 .f32) (r : Fin 12288) (l : Fin 1536) :
    left x h1 wq ws (ix2 r l) = downLow x h1 wq ws r l := by
  unfold downLow
  have hd : ∀ k : Fin 8192, (FloatOps.sitofp .bf16 (IntOp.subi (codeI x (ix2 r k)) (zeroI x (ix1 r))) : Ideal .bf16) = Quant.code (rowIn x r) k - Quant.zero (rowIn x r) := fun k => by
    rw [codeI_at, zeroI_at]
    exact Quant.int_sub (Quant.code_byte _ _) (Quant.zero_byte _)
  have hs := scaleV_at x r
  rw [left]
  generalize codeI x = y at *
  generalize zeroI x = z at *
  generalize scaleV x = s at *
  simp only [← hd, ← hs]
  pointwise []
  simp only [GateUpRefVal.ref_low]

/-- The third result's left half at an index. -/
theorem resOut_at (x : FVec Ideal S12288x8192 .f32) (h1 : FVec Ideal S12288x3072 .f32) (wq : IVec S8192x1536 8) (ws : FVec Ideal S256x3072 .f32) (r : Fin 12288) (l : Fin 1536) :
    resOut x h1 wq ws (ix2 r ⟨(l : ℕ), by omega⟩) = downLow x h1 wq ws r l := by
  rw [← left_at]
  generalize hL : left x h1 wq ws = y
  pointwise [resOut, hL]

end Cert.DownLowRefVal
-- ==== Proof.DownLowValue.lean ====
/- The arrays `down_low` leaves are the reference's, index by index: the codes and the row values everywhere, the result in the
   columns the call writes. -/
module

public import proofs.«01_k».proof.Proof.DownLowBlock
public import proofs.«01_k».proof.Proof.DownLowRef
public import Idealize.ShloMosaic.Lib.Pipeline.ValueKit.Partial

@[expose] public section

set_option maxRecDepth 16384

noncomputable section

namespace Cert.DownLowVal

open Idealize.ShloMosaic Idealize.ShloMosaic.TcCoe Idealize.SL.Sem
open Cert.DownLowIdeal Cert.DownLowIdeal.Gen Cert.DownLowIdeal.Hand
open Cert.DownLowRefVal (downLow auxAt)

/-- The blocks of a point of the first phase: the weight's rows go with the point. -/
theorem idxA : ∀ t : Fin cfg0.N, t.val < 32 → win0_2.index t = ![t.val, 0] ∧ win0_3.index t = ![t.val, 0] :=
  (by decide +kernel : ∀ t : Fin grid0.N, t.val < 32 → _)

/-- The blocks of a point that quantises: the rows of activations, codes and row values. -/
theorem idxB : ∀ t : Fin cfg0.N, 32 ≤ t.val → win0_0.index t = ![min (t.val - 32) 47, 0] ∧ win0_4.index t = ![min (t.val - 32) 47, 0]
    ∧ win0_5.index t = ![min (t.val - 32) 47, 0] :=
  (by decide +kernel : ∀ t : Fin grid0.N, 32 ≤ t.val → _)

/-- The blocks of a point that multiplies: the rows of the residual and of the result. -/
theorem idxC : ∀ t : Fin cfg0.N, 33 ≤ t.val → win0_1.index t = ![t.val - 33, 0] ∧ win0_6.index t = ![t.val - 33, 0] :=
  (by decide +kernel : ∀ t : Fin grid0.N, 33 ≤ t.val → _)

variable (m : (ℓ : Loc nD τ sig) → Buf (Elt Ideal) ℓ)

/-- The full weight scratch at an index. -/
theorem wt_at (c : Dev nD) (k : Fin 8192) (l : Fin 1536) :
    wt m c (ix2 k l) = Int4.low (m ((c : Thread nD τ).loc main_arg2) (ix2 k l)) * m ((c : Thread nD τ).loc main_arg3) (ix2 (n0 := 256) (n1 := 3072) ⟨(k : ℕ) / 32, by omega⟩ ⟨(l : ℕ), by omega⟩) := by
  have hc := coords_val (pt (ix2 k l))
  have ht : (pt (ix2 k l)).val = (k : ℕ) / 256 := rfl
  obtain ⟨e2, e3⟩ := idxA (pt (ix2 k l)) (pt_lt _)
  unfold wt sA
  rw [filled _ _ _ _ _ _ _ _ _ _ _ _ _ _ _ _ _ _ _ _ _ _ _ _ _ _ _ _ _ _ _ _ _ _ _ _ (by rw [hc, ht]; rfl)]
  generalize pt (ix2 k l) = t at *
  have h2 : ∀ (a : Fin 256), (k : ℕ) = t.val * 256 + a → iblk m c 2 t (ix2 a l) = m ((c : Thread nD τ).loc main_arg2) (ix2 k l) := fun a ha => by blk_point [iblk, V, e2, ha]
  have h3 : ∀ (a : Fin 8) (b : Fin 256), (b : ℕ) = t.val * 8 + a → iblk m c 3 t (ix2 a l) = m ((c : Thread nD τ).loc main_arg3) (ix2 b ⟨(l : ℕ), by omega⟩) := fun a b hb => by blk_point [iblk, V, e3, hb]
  show Int4.low (iblk m c 2 t (ix2 ⟨(k : ℕ) % 256, _⟩ l)) * iblk m c 3 t (ix2 ⟨(k : ℕ) % 256 / 32, _⟩ l) = _
  rw [h2 _ (by show (k : ℕ) = t.val * 256 + (k : ℕ) % 256; omega), h3 _ ⟨(k : ℕ) / 32, by omega⟩ (by show (k : ℕ) / 32 = t.val * 8 + (k : ℕ) % 256 / 32; omega)]

/-- The rows of activations of a point that quantises. -/
theorem row_at (c : Dev nD) (t : Fin cfg0.N) (ht : 32 ≤ t.val) (p : Fin 256) (r : Fin 12288) (hr : (r : ℕ) = min (t.val - 32) 47 * 256 + p) :
    rowIn (iblk m c 0 t) p = DownLowRefVal.rowIn (m ((c : Thread nD τ).loc main_arg0)) r := by
  obtain ⟨i0, -, -⟩ := idxB t ht
  funext k
  show iblk m c 0 t (ix2 p k) = m ((c : Thread nD τ).loc main_arg0) (ix2 r k)
  blk_point [iblk, V, i0, hr]

/-- The output block of a point that multiplies is its part of the reference's left half. -/
theorem point (c : Dev nD) (t : Fin cfg0.N) (ht : 33 ≤ t.val) (p : Fin 256) (l : Fin 1536) (r : Fin 12288) (hr : (r : ℕ) = (t.val - 33) * 256 + p) :
    outv m c t (ix2 p l)
      = downLow (m ((c : Thread nD τ).loc main_arg0)) (m ((c : Thread nD τ).loc main_arg1)) (m ((c : Thread nD τ).loc main_arg2)) (m ((c : Thread nD τ).loc main_arg3)) r l := by
  obtain ⟨i1, -⟩ := idxC t ht
  have hN : t.val < 81 := t.isLt
  have hp : (prev t).val = t.val - 1 := rfl
  have e1 : iblk m c 1 t (ix2 p l) = m ((c : Thread nD τ).loc main_arg1) (ix2 r ⟨(l : ℕ), by omega⟩) := by blk_point [iblk, V, i1, hr]
  have er := row_at m c (prev t) (by omega) p r (by rw [hp]; omega)
  unfold outv sclv
  rw [cols_at _ _ _ _ p l (Quant.scale (rowIn (iblk m c 0 (prev t)) p)) (fun k => scl_at _ p k), e1, er]
  unfold downLow actv
  simp only [act_at, wt_at, er]

/-- The array of codes after the run. -/
theorem codes_final (c : Dev nD) : (dats m 0 c).arrAt 4 cfg0.N = DownLowRefVal.resCodes (m ((c : Thread nD τ).loc main_arg0)) := by
  refine (dats m 0 c).arrAt_eq_of_covers 4 _ (by decide +kernel) fun t hf y => ?_
  have ht : 32 ≤ t.val := (by decide +kernel : ∀ t : Fin grid0.N, win0_4.flush t = true → 32 ≤ t.val) t hf
  obtain ⟨-, i4, -⟩ := idxB t ht
  blk_simp
  rw [after0_4, codesv]
  idx_vars y
  have hr : min (t.val - 32) 47 * 256 + (y0 : ℕ) < 12288 := by omega
  have hE : ((View.whole main_v0_0).slice (win0_4.rect t)).emb (ix2 y0 y1) = ix2 (n0 := 12288) (n1 := 8192) ⟨_, hr⟩ y1 := by blk_ext [i4]
  rw [codes_at, row_at m c t ht y0 ⟨_, hr⟩ rfl]
  exact ((congrArg _ hE).trans (DownLowRefVal.resCodes_at _ _ _)).symm

/-- The array of row values after the run. -/
theorem aux_final (c : Dev nD) : (dats m 0 c).arrAt 5 cfg0.N = DownLowRefVal.resAux (m ((c : Thread nD τ).loc main_arg0)) := by
  refine (dats m 0 c).arrAt_eq_of_covers 5 _ (by decide +kernel) fun t hf y => ?_
  have ht : 32 ≤ t.val := (by decide +kernel : ∀ t : Fin grid0.N, win0_5.flush t = true → 32 ≤ t.val) t hf
  obtain ⟨-, -, i5⟩ := idxB t ht
  blk_simp
  rw [after0_5, auxv]
  idx_vars y
  have hr : min (t.val - 32) 47 * 256 + (y0 : ℕ) < 12288 := by omega
  have hE : ((View.whole main_v0_1).slice (win0_5.rect t)).emb (ix2 y0 y1) = ix2 (n0 := 12288) (n1 := 128) ⟨_, hr⟩ y1 := by blk_ext [i5]
  rw [aux_at, row_at m c t ht y0 ⟨_, hr⟩ rfl]
  exact ((congrArg _ hE).trans (DownLowRefVal.resAux_at _ _ _)).symm

/-- The result's array after the run: the reference's left half in the columns the call writes, the entry contents in the others. -/
def final (c : Dev nD) : Vec Ideal S12288x3072 .bf16 := fun j =>
  if h : (j 1 : ℕ) < 1536 then
    downLow (m ((c : Thread nD τ).loc main_arg0)) (m ((c : Thread nD τ).loc main_arg1)) (m ((c : Thread nD τ).loc main_arg2)) (m ((c : Thread nD τ).loc main_arg3)) (j 0) ⟨(j 1 : ℕ), h⟩
  else V m c main_v0_2 j

/-- In the columns the call writes it is the reference's result. -/
theorem final_left (c : Dev nD) (i : S12288x3072.Idx) (h : (i 1 : ℕ) < 1536) :
    final m c i = DownLowRefVal.resOut (m ((c : Thread nD τ).loc main_arg0)) (m ((c : Thread nD τ).loc main_arg1)) (m ((c : Thread nD τ).loc main_arg2)) (m ((c : Thread nD τ).loc main_arg3)) i := by
  idx_vars i
  have h : (i1 : ℕ) < 1536 := h
  exact (dif_pos h).trans (DownLowRefVal.resOut_at _ _ _ _ i0 ⟨(i1 : ℕ), h⟩).symm

/-- The result's array after the run is `final`. -/
theorem out_final (c : Dev nD) : (dats m 0 c).arrAt 6 cfg0.N = final m c := by
  refine (dats m 0 c).arrAt_eq_of_coversWhere_of_agree 6 _ (fun β => β 1 < 1) (by decide +kernel) (fun t hf y => ?_) (fun j hj => ?_)
  · have ht : 33 ≤ t.val := (by decide +kernel : ∀ t : Fin grid0.N, win0_6.flush t = true → 33 ≤ t.val) t hf
    obtain ⟨-, i6⟩ := idxC t ht
    have hN : t.val < 81 := t.isLt
    blk_simp
    rw [after0_6]
    idx_vars y
    have hr : (t.val - 33) * 256 + (y0 : ℕ) < 12288 := by omega
    have hE : ((View.whole main_v0_2).slice (win0_6.rect t)).emb (ix2 y0 y1) = ix2 (n0 := 12288) (n1 := 3072) ⟨_, hr⟩ ⟨(y1 : ℕ), by omega⟩ := by blk_ext [i6]
    refine (point m c t ht y0 y1 ⟨_, hr⟩ rfl).trans ((congrArg (final m c) hE).trans ?_).symm
    exact dif_pos y1.isLt
  · idx_vars j
    have h1 : ¬(j1 : ℕ) < 1536 := by
      revert hj
      blk_simp [Pipeline.Window.cell_apply]
      omega
    rw [A_eq]
    have e : final m c (ix2 j0 j1) = V m c main_v0_2 (ix2 j0 j1) := dif_neg h1
    exact e.symm

/-- The run: the results at what the pipeline's write-backs leave in them, the arguments unchanged. -/
theorem run (ρ : Dev nD → PrngReg) : θ_run defs (onTc (τ := τ) (main (F := Ideal))) ⟨m, fun _ => 0, ρ⟩ fun r => ∀ c : Dev nD,
      (r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = (dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨⟨(h.1 c).1 4, (h.1 c).1 5, (h.1 c).1 6⟩, h.2 c⟩) (θ_run_and (run_main m ρ) (unchanged m ρ))

end Cert.DownLowVal
-- ==== Proof.DownLowWritten.lean ====
/- The places where `down_low`'s results are compared: everywhere in the first two, the columns below 1536 in the third. -/
module

public import proofs.«01_k».proof.On_down_low_written
public import Idealize.ShloMosaic.Lib.Pointwise

@[expose] public section

noncomputable section

namespace Cert.On_down_low_written

open Idealize.ShloMosaic

instance facts : Facts where
  bcast_S3072_S1x3072_1 := by decide
  bcast_S1x3072_S12288x3072_0_1 := by decide
  bcast_S_S12288x8192 := by decide
  bcast_S_S12288x128 := by decide
  bcast_S_S12288x3072 := by decide

variable [Facts]

/-- The comparison of a column with 1536. -/
theorem column_lt : ∀ l : Fin 3072, IntOp.cmpi .slt (BitVec.ofNat 32 (l : ℕ)) 1536#32 = 1#1 → (l : ℕ) < 1536 := by
  decide +kernel

/-- Where the third result is compared the column is below 1536. -/
theorem column (x : FVec Ideal S12288x8192 .f32) (h1 : FVec Ideal S12288x3072 .f32) (wq : IVec S8192x1536 8) (ws : FVec Ideal S256x3072 .f32)
    (i : S12288x3072.Idx) (h : (fn (F := Ideal) x h1 wq ws).2.2 i = 1#1) : (i 1 : ℕ) < 1536 := by
  idx_vars i
  refine column_lt i1 (Eq.trans ?_ h)
  symm
  unfold fn
  pointwise []

end Cert.On_down_low_written
-- ==== Proof.lean ====
module

public import proofs.«01_k».proof.Defs
public import proofs.«01_k».proof.Proof.Gen.GateUp.Frame
public import proofs.«01_k».proof.Proof.Gen.GateUpIdeal.Value
public import proofs.«01_k».proof.Proof.Gen.GateUpRefIdeal.Run
public import Idealize.ShloMosaic.Adequacy
public import Idealize.ShloMosaic.Init
public import Idealize.ShloMosaic.Lib.Quiescent
public import proofs.«01_k».proof.Proof.GateUpValue
public import proofs.«01_k».proof.Proof.DownHighFrame
public import proofs.«01_k».proof.Proof.DownHighValue
public import proofs.«01_k».proof.Proof.DownLowFrame
public import proofs.«01_k».proof.Proof.DownLowValue
public import proofs.«01_k».proof.Proof.DownLowWritten

@[expose] public section

noncomputable section

namespace Cert.Proof

open Idealize.ShloMosaic Idealize.SL.Sem

theorem quiescent_GateUpRefIdeal : quiescent_GateUpRefIdeal := fun m ρ _ =>
  (θ_run Cert.GateUpRefIdeal.defs _ _).mono (fun r h => ⟨fun c => (h c).2, sem_eq_zero_of_no_sems (by decide) r.2⟩)
    (Cert.GateUpRefIdeal.Value.run (F := Ideal) m ρ)

theorem algebraic_GateUpIdeal_GateUpRefIdeal : algebraic_GateUpIdeal_GateUpRefIdeal := by
  intro m ρ m' ρ' _ hagree
  refine ⟨_, Cert.GateUpIdeal.Value.run (F := Ideal) m ρ, ?_⟩
  refine (θ_run Cert.GateUpRefIdeal.defs _ _).mono (fun _ h c => ⟨?_, (h c).2⟩) (Cert.GateUpRefIdeal.Value.run (F := Ideal) m' ρ')
  rw [(h c).1]
  obtain ⟨h0, h1, h2, h3⟩ := hagree c
  refine ((Cert.GateUpIdeal.Value.final5 m c).symm.trans (Cert.GateUpVal.final_at m c _ fun r q => ?_)).symm
  refine (Cert.GateUpRefVal.ref_at m' c r q).trans ?_
  rw [h0, h1, h2, h3]

theorem quiescent_DownHighRefIdeal : quiescent_DownHighRefIdeal := fun m ρ _ =>
  (θ_run Cert.DownHighRefIdeal.defs _ _).mono (fun r h => ⟨fun c => (h c).2, sem_eq_zero_of_no_sems (by decide) r.2⟩)
    (Cert.DownHighRefIdeal.Value.run (F := Ideal) m ρ)

theorem algebraic_DownHighIdeal_DownHighRefIdeal : algebraic_DownHighIdeal_DownHighRefIdeal := by
  intro m ρ m' ρ' _ hagree
  refine ⟨_, Cert.DownHighVal.run m ρ, ?_⟩
  refine (θ_run Cert.DownHighRefIdeal.defs _ _).mono (fun _ h c => ⟨?_, (h c).2⟩) (Cert.DownHighRefIdeal.Value.run (F := Ideal) m' ρ')
  refine (h c).1.trans (Eq.trans (b := Cert.DownHighRefVal.res m' c) rfl ?_)
  obtain ⟨h0, h1, h2, h3, h4, h5⟩ := hagree c
  refine (Cert.DownHighVal.final_at m c _ (fun r l => ?_) fun r l => ?_).symm
  · refine (Cert.DownHighRefVal.res_right m' c r l).trans ?_
    rw [h0, h1, h2, h3, h4]
  · refine (Cert.DownHighRefVal.res_left m' c r l).trans ?_
    rw [h5]

theorem quiescent_DownLowRefIdeal : quiescent_DownLowRefIdeal := fun m ρ _ =>
  (θ_run Cert.DownLowRefIdeal.defs _ _).mono (fun r h => ⟨fun c => (h c).2.2.2, sem_eq_zero_of_no_sems (by decide) r.2⟩)
    (Cert.DownLowRefVal.run m ρ)

theorem algebraic_DownLowIdeal_DownLowRefIdeal_on_down_low_written : algebraic_DownLowIdeal_DownLowRefIdeal_on_down_low_written := by
  intro m ρ m' ρ' _ hagree
  refine ⟨fun c => (Cert.DownLowIdeal.Hand.dats m 0 c).arrAt 4 Cert.DownLowIdeal.cfg0.N, fun c => (Cert.DownLowIdeal.Hand.dats m 0 c).arrAt 5 Cert.DownLowIdeal.cfg0.N, fun c => (Cert.DownLowIdeal.Hand.dats m 0 c).arrAt 6 Cert.DownLowIdeal.cfg0.N,
    (θ_run Cert.DownLowIdeal.defs _ _).mono (fun _ h c => ⟨fun i _ => congrFun (h c).1.1 i, fun i _ => congrFun (h c).1.2.1 i, fun i _ => congrFun (h c).1.2.2 i, (h c).2⟩) (Cert.DownLowVal.run m ρ), ?_⟩
  refine (θ_run Cert.DownLowRefIdeal.defs _ _).mono (fun _ h c => ⟨fun i _ => ?_, fun i _ => ?_, fun i hi => ?_, (h c).2.2.2⟩) (Cert.DownLowRefVal.run m' ρ')
  · rw [(h c).1, (hagree c).1]
    exact (congrFun (Cert.DownLowVal.codes_final m c) i).symm
  · rw [(h c).2.1, (hagree c).1]
    exact (congrFun (Cert.DownLowVal.aux_final m c) i).symm
  · rw [(h c).2.2.1, (hagree c).1, (hagree c).2.1, (hagree c).2.2.1, (hagree c).2.2.2]
    exact ((congrFun (Cert.DownLowVal.out_final m c) i).trans (Cert.DownLowVal.final_left m c i (Cert.On_down_low_written.column _ _ _ _ i hi))).symm

theorem claim : Cert.Claim := ⟨Cert.GateUp.Gen.facts, Cert.GateUpIdeal.Gen.facts, Cert.GateUpRefIdeal.Gen.facts,
  Cert.DownHigh.Gen.facts, Cert.DownHighIdeal.Gen.facts, Cert.DownHighRefIdeal.Gen.facts,
  Cert.DownLow.Gen.facts, Cert.DownLowIdeal.Gen.facts, Cert.DownLowRefIdeal.Gen.facts, Cert.On_down_low_written.facts,
  fun m ρ _ => Cert.GateUp.Gen.frame m ρ, fun m ρ _ => Cert.GateUpIdeal.Gen.frame m ρ, quiescent_GateUpRefIdeal,
  fun m ρ _ => Cert.DownHigh.Hand.frame m ρ, fun m ρ _ => Cert.DownHighIdeal.Hand.frame m ρ, quiescent_DownHighRefIdeal,
  fun m ρ _ => Cert.DownLow.Hand.frame m ρ, fun m ρ _ => Cert.DownLowIdeal.Hand.frame m ρ, quiescent_DownLowRefIdeal,
  (trivial : preserves_GateUp_GateUpIdeal), algebraic_GateUpIdeal_GateUpRefIdeal,
  (trivial : preserves_DownHigh_DownHighIdeal), algebraic_DownHighIdeal_DownHighRefIdeal,
  (trivial : preserves_DownLow_DownLowIdeal), algebraic_DownLowIdeal_DownLowRefIdeal_on_down_low_written⟩

end Cert.Proof

end
